-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  IdealRules.named_const.Statement Cert.Kernel20Ideal.κ "mask" .f32 0xF149F2CA#32 ⊥

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v6_0)) (v1 : (c : Dev Cert.Kernel20Ideal.nD) → Buf (Elt Ideal) ((c.tc : Thread Cert.Kernel20Ideal.nD Cert.Kernel20Ideal.τ).loc Cert.Kernel20Ideal.main_v6_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v6_0) = v0 c
          ∧ r.2.mem ((c.tc : Thread Cert.Kernel20Ideal.nD Cert.Kernel20Ideal.τ).loc Cert.Kernel20Ideal.main_v6_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v42) = v0 c
          ∧ r.2.mem ((c.tc : Thread Cert.Reference20Ideal.nD Cert.Reference20Ideal.τ).loc Cert.Reference20Ideal.main_v43) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S4096x2048 : Shape := ⟨2, ![4096, 2048]⟩
abbrev S4096x128 : Shape := ⟨2, ![4096, 128]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  main_v18

def fn {F : FTy → Type} [FloatOps F] (main_arg0 : FVec F S4096x2048 .f32) (main_arg1 : FVec F S4096x128 .f32) (main_arg2 : FVec F S4096x2048 .f32) (main_arg3 : FVec F S4096x128 .f32) (main_arg4 : FVec F S4096x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_v13 main_v16
-- ==== Pre_finite20.lean ====
abbrev S4096x2048 : Shape := ⟨2, ![4096, 2048]⟩
abbrev S4096x128 : Shape := ⟨2, ![4096, 128]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  main_v18

def fn {F : FTy → Type} [FloatOps F] (main_arg0 : FVec F S4096x2048 .f32) (main_arg1 : FVec F S4096x128 .f32) (main_arg2 : FVec F S4096x2048 .f32) (main_arg3 : FVec F S4096x128 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_v13 main_v16
-- ==== Kernel.lean ====
abbrev S4096x2048 : Shape := ⟨2, ![4096, 2048]⟩
abbrev S4096x128 : Shape := ⟨2, ![4096, 128]⟩
abbrev S4096x1024 : Shape := ⟨2, ![4096, 1024]⟩
abbrev S_ : Shape := ⟨0, ![]⟩
abbrev S4096x256 : Shape := ⟨2, ![4096, 256]⟩
abbrev S2x2048x8x256 : Shape := ⟨4, ![2, 2048, 8, 256]⟩
abbrev S2x2048x128 : Shape := ⟨3, ![2, 2048, 128]⟩
abbrev S2x2048x8x128 : Shape := ⟨4, ![2, 2048, 8, 128]⟩
abbrev S2x8x2048x2048 : Shape := ⟨4, ![2, 8, 2048, 2048]⟩
abbrev S2x2048x1x128 : Shape := ⟨4, ![2, 2048, 1, 128]⟩
abbrev S2x2048x2048x8 : Shape := ⟨4, ![2, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S16x2048x1 : Shape := ⟨3, ![16, 2048, 1]⟩
abbrev S512x256 : Shape := ⟨2, ![512, 256]⟩
abbrev S2048x128 : Shape := ⟨2, ![2048, 128]⟩
abbrev S1x512x1 : Shape := ⟨3, ![1, 512, 1]⟩
abbrev S512x128 : Shape := ⟨2, ![512, 128]⟩
abbrev S2048x256 : Shape := ⟨2, ![2048, 256]⟩
abbrev S512x512 : Shape := ⟨2, ![512, 512]⟩
abbrev S512x1 : Shape := ⟨2, ![512, 1]⟩
abbrev S512 : Shape := ⟨1, ![512]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 57
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x128, .f32⟩
  | .hbm, ⟨2, _⟩ => ⟨S4096x2048, .f32⟩
  | .hbm, ⟨3, _⟩ => ⟨S4096x128, .f32⟩
  | .hbm, ⟨4, _⟩ => ⟨S4096x1024, .f32⟩
  | .hbm, ⟨5, _⟩ => ⟨S_, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x256, .f32⟩
  | .hbm, ⟨11, _⟩ => ⟨S2x2048x8x256, .f32⟩
  | .hbm, ⟨12, _⟩ => ⟨S2x2048x8x256, .f32⟩
  | .hbm, ⟨13, _⟩ => ⟨S2x2048x128, .f32⟩
  | .hbm, ⟨14, _⟩ => ⟨S2x2048x8x128, .f32⟩
  | .hbm, ⟨15, _⟩ => ⟨S2x2048x8x128, .f32⟩
  | .hbm, ⟨16, _⟩ => ⟨S2x2048x128, .f32⟩
  | .hbm, ⟨17, _⟩ => ⟨S2x2048x8x128, .f32⟩
  | .hbm, ⟨18, _⟩ => ⟨S2x8x2048x2048, .f32⟩
  | .hbm, ⟨19, _⟩ => ⟨S2x2048x8x128, .f32⟩
  | .hbm, ⟨20, _⟩ => ⟨S2x2048x1x128, .f32⟩
  | .hbm, ⟨21, _⟩ => ⟨S2x2048x8x128, .f32⟩
  | .hbm, ⟨22, _⟩ => ⟨S2x2048x8x128, .f32⟩
  | .hbm, ⟨23, _⟩ => ⟨S2x2048x2048x8, .f32⟩
  | .hbm, ⟨24, _⟩ => ⟨S2x8x2048x2048, .f32⟩
  | .hbm, ⟨25, _⟩ => ⟨S2x8x2048x2048, .f32⟩
  | .hbm, ⟨26, _⟩ => ⟨S_, .f32⟩
  | .hbm, ⟨27, _⟩ => ⟨S2x8x2048x2048, .f32⟩
  | .hbm, ⟨28, _⟩ => ⟨S2x8x2048x2048, .f32⟩
  | .hbm, ⟨29, _⟩ => ⟨S2048, .i32⟩
  | .hbm, ⟨30, _⟩ => ⟨S2048, .i32⟩
  | .hbm, ⟨31, _⟩ => ⟨S1x2048, .i32⟩
  | .hbm, ⟨32, _⟩ => ⟨S2048x1, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .f32⟩
  | .hbm, ⟨37, _⟩ => ⟨S2x8x2048x2048, .i1⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2048, .f32⟩
  | .hbm, ⟨44, _⟩ => ⟨S2x8x2048x2048, .f32⟩
  | .hbm, ⟨45, _⟩ => ⟨S2x8x2048x2048, .f32⟩
  | .hbm, ⟨46, _⟩ => ⟨S_, .f32⟩
  | .hbm, ⟨47, _⟩ => ⟨S2x8x2048, .f32⟩
  | .hbm, ⟨48, _⟩ => ⟨S2x8x2048x1, .f32⟩
  | .hbm, ⟨49, _⟩ => ⟨S2x8x2048x1, .f32⟩
  | .hbm, ⟨50, _⟩ => ⟨S2x8x2048x1, .f32⟩
  | .hbm, ⟨51, _⟩ => ⟨S4096x2048, .bf16⟩
  | .hbm, ⟨52, _⟩ => ⟨S4096x128, .bf16⟩
  | .hbm, ⟨53, _⟩ => ⟨S16x2048x1, .f32⟩
  | .hbm, ⟨54, _⟩ => ⟨S4096x2048, .bf16⟩
  | .hbm, ⟨55, _⟩ => ⟨S4096x2048, .bf16⟩
  | .hbm, ⟨56, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x512x1, .f32⟩
  | .local _ .vmem, ⟨11, _⟩ => ⟨S1x512x1, .f32⟩
  | .local _ .vmem, ⟨12, _⟩ => ⟨S512x128, .f32⟩
  | .local _ .vmem, ⟨13, _⟩ => ⟨S512x128, .f32⟩
  | .local _ .vmem, ⟨14, _⟩ => ⟨S512x256, .bf16⟩
  | .local _ .vmem, ⟨15, _⟩ => ⟨S512x256, .bf16⟩
  | .local _ .vmem, ⟨16, _⟩ => ⟨S2048x256, .bf16⟩
  | .local _ .vmem, ⟨17, _⟩ => ⟨S2048x256, .bf16⟩
  | .local _ .vmem, ⟨18, _⟩ => ⟨S2048x128, .f32⟩
  | .local _ .vmem, ⟨19, _⟩ => ⟨S2048x128, .f32⟩
  | .local _ .vmem, ⟨20, _⟩ => ⟨S2048x256, .f32⟩
  | .local _ .vmem, ⟨21, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 4], ![false, false, false]⟩

def k0_cond4 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def k0_cond5 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def k0_cond6 (i : grid0.Coords) : BitVec 1 :=
  let arg2 : BitVec 32 := BitVec.ofNat 32 (i 2).val
  let c2_i32 : BitVec 32 := 2#32
  let v17 : BitVec 1 := Scalar.cmpi .eq arg2 c2_i32
  let v18 : BitVec 32 := Scalar.extui v17
  let c0_i32_9 : BitVec 32 := 0#32
  let v19 : BitVec 1 := Scalar.cmpi .ne v18 c0_i32_9
  v19

def k0_cond7 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_10 : BitVec 32 := 0#32
  let v22 : BitVec 1 := Scalar.cmpi .ne v21 c0_i32_10
  v22

def k0_cond8 (i : grid0.Coords) : BitVec 1 :=
  let arg2 : BitVec 32 := BitVec.ofNat 32 (i 2).val
  let c3_i32_11 : BitVec 32 := 3#32
  let v23 : BitVec 1 := Scalar.cmpi .eq arg2 c3_i32_11
  let v24 : BitVec 32 := Scalar.extui v23
  let c0_i32_12 : BitVec 32 := 0#32
  let v25 : BitVec 1 := Scalar.cmpi .ne v24 c0_i32_12
  v25

def k0_cond3 (i : grid0.Coords) : BitVec 1 :=
  let arg2 : BitVec 32 := BitVec.ofNat 32 (i 2).val
  let c0_i32_3 : BitVec 32 := 0#32
  let v6 : BitVec 1 := Scalar.cmpi .eq arg2 c0_i32_3
  let arg1 : BitVec 32 := BitVec.ofNat 32 (i 1).val
  let c0_i32_4 : BitVec 32 := 0#32
  let v7 : BitVec 1 := Scalar.cmpi .eq arg1 c0_i32_4
  let v8 : BitVec 1 := Scalar.andi v6 v7
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
abbrev S4096x2048 : Shape := ⟨2, ![4096, 2048]⟩
abbrev S4096x128 : Shape := ⟨2, ![4096, 128]⟩
abbrev S4096x1024 : Shape := ⟨2, ![4096, 1024]⟩
abbrev S_ : Shape := ⟨0, ![]⟩
abbrev S4096x256 : Shape := ⟨2, ![4096, 256]⟩
abbrev S2x2048x8x256 : Shape := ⟨4, ![2, 2048, 8, 256]⟩
abbrev S2x2048x128 : Shape := ⟨3, ![2, 2048, 128]⟩
abbrev S2x2048x8x128 : Shape := ⟨4, ![2, 2048, 8, 128]⟩
abbrev S2x8x2048x2048 : Shape := ⟨4, ![2, 8, 2048, 2048]⟩
abbrev S2x2048x1x128 : Shape := ⟨4, ![2, 2048, 1, 128]⟩
abbrev S2x2048x2048x8 : Shape := ⟨4, ![2, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S16x2048x1 : Shape := ⟨3, ![16, 2048, 1]⟩
abbrev S512x256 : Shape := ⟨2, ![512, 256]⟩
abbrev S2048x128 : Shape := ⟨2, ![2048, 128]⟩
abbrev S1x512x1 : Shape := ⟨3, ![1, 512, 1]⟩
abbrev S512x128 : Shape := ⟨2, ![512, 128]⟩
abbrev S2048x256 : Shape := ⟨2, ![2048, 256]⟩
abbrev S512x512 : Shape := ⟨2, ![512, 512]⟩
abbrev S512x1 : Shape := ⟨2, ![512, 1]⟩
abbrev S512 : Shape := ⟨1, ![512]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 57
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x128, .f32⟩
  | .hbm, ⟨2, _⟩ => ⟨S4096x2048, .f32⟩
  | .hbm, ⟨3, _⟩ => ⟨S4096x128, .f32⟩
  | .hbm, ⟨4, _⟩ => ⟨S4096x1024, .f32⟩
  | .hbm, ⟨5, _⟩ => ⟨S_, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x256, .f32⟩
  | .hbm, ⟨11, _⟩ => ⟨S2x2048x8x256, .f32⟩
  | .hbm, ⟨12, _⟩ => ⟨S2x2048x8x256, .f32⟩
  | .hbm, ⟨13, _⟩ => ⟨S2x2048x128, .f32⟩
  | .hbm, ⟨14, _⟩ => ⟨S2x2048x8x128, .f32⟩
  | .hbm, ⟨15, _⟩ => ⟨S2x2048x8x128, .f32⟩
  | .hbm, ⟨16, _⟩ => ⟨S2x2048x128, .f32⟩
  | .hbm, ⟨17, _⟩ => ⟨S2x2048x8x128, .f32⟩
  | .hbm, ⟨18, _⟩ => ⟨S2x8x2048x2048, .f32⟩
  | .hbm, ⟨19, _⟩ => ⟨S2x2048x8x128, .f32⟩
  | .hbm, ⟨20, _⟩ => ⟨S2x2048x1x128, .f32⟩
  | .hbm, ⟨21, _⟩ => ⟨S2x2048x8x128, .f32⟩
  | .hbm, ⟨22, _⟩ => ⟨S2x2048x8x128, .f32⟩
  | .hbm, ⟨23, _⟩ => ⟨S2x2048x2048x8, .f32⟩
  | .hbm, ⟨24, _⟩ => ⟨S2x8x2048x2048, .f32⟩
  | .hbm, ⟨25, _⟩ => ⟨S2x8x2048x2048, .f32⟩
  | .hbm, ⟨26, _⟩ => ⟨S_, .f32⟩
  | .hbm, ⟨27, _⟩ => ⟨S2x8x2048x2048, .f32⟩
  | .hbm, ⟨28, _⟩ => ⟨S2x8x2048x2048, .f32⟩
  | .hbm, ⟨29, _⟩ => ⟨S2048, .i32⟩
  | .hbm, ⟨30, _⟩ => ⟨S2048, .i32⟩
  | .hbm, ⟨31, _⟩ => ⟨S1x2048, .i32⟩
  | .hbm, ⟨32, _⟩ => ⟨S2048x1, .i32⟩
  | .hbm, ⟨33, _⟩ => ⟨S2048x2048, .i32⟩
  | .hbm, ⟨34, _⟩ => ⟨S2048x2048, .i32⟩
  | .hbm, ⟨35, _⟩ => ⟨S2048x2048, .i1⟩
  | .hbm, ⟨36, _⟩ => ⟨S_, .f32⟩
  | .hbm, ⟨37, _⟩ => ⟨S2x8x2048x2048, .i1⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2048, .f32⟩
  | .hbm, ⟨44, _⟩ => ⟨S2x8x2048x2048, .f32⟩
  | .hbm, ⟨45, _⟩ => ⟨S2x8x2048x2048, .f32⟩
  | .hbm, ⟨46, _⟩ => ⟨S_, .f32⟩
  | .hbm, ⟨47, _⟩ => ⟨S2x8x2048, .f32⟩
  | .hbm, ⟨48, _⟩ => ⟨S2x8x2048x1, .f32⟩
  | .hbm, ⟨49, _⟩ => ⟨S2x8x2048x1, .f32⟩
  | .hbm, ⟨50, _⟩ => ⟨S2x8x2048x1, .f32⟩
  | .hbm, ⟨51, _⟩ => ⟨S4096x2048, .bf16⟩
  | .hbm, ⟨52, _⟩ => ⟨S4096x128, .bf16⟩
  | .hbm, ⟨53, _⟩ => ⟨S16x2048x1, .f32⟩
  | .hbm, ⟨54, _⟩ => ⟨S4096x2048, .bf16⟩
  | .hbm, ⟨55, _⟩ => ⟨S4096x2048, .bf16⟩
  | .hbm, ⟨56, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x512x1, .f32⟩
  | .local _ .vmem, ⟨11, _⟩ => ⟨S1x512x1, .f32⟩
  | .local _ .vmem, ⟨12, _⟩ => ⟨S512x128, .f32⟩
  | .local _ .vmem, ⟨13, _⟩ => ⟨S512x128, .f32⟩
  | .local _ .vmem, ⟨14, _⟩ => ⟨S512x256, .bf16⟩
  | .local _ .vmem, ⟨15, _⟩ => ⟨S512x256, .bf16⟩
  | .local _ .vmem, ⟨16, _⟩ => ⟨S2048x256, .bf16⟩
  | .local _ .vmem, ⟨17, _⟩ => ⟨S2048x256, .bf16⟩
  | .local _ .vmem, ⟨18, _⟩ => ⟨S2048x128, .f32⟩
  | .local _ .vmem, ⟨19, _⟩ => ⟨S2048x128, .f32⟩
  | .local _ .vmem, ⟨20, _⟩ => ⟨S2048x256, .f32⟩
  | .local _ .vmem, ⟨21, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F] [Named F]

def κ : String → Option EReal := fun
  | "mask" => some ⊥
  | _ => none

abbrev grid0 : Pipeline.Grid := ⟨3, ![2, 8, 4], ![false, false, false]⟩

def k0_cond4 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def k0_cond5 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def k0_cond6 (i : grid0.Coords) : BitVec 1 :=
  let arg2 : BitVec 32 := BitVec.ofNat 32 (i 2).val
  let c2_i32 : BitVec 32 := 2#32
  let v17 : BitVec 1 := Scalar.cmpi .eq arg2 c2_i32
  let v18 : BitVec 32 := Scalar.extui v17
  let c0_i32_9 : BitVec 32 := 0#32
  let v19 : BitVec 1 := Scalar.cmpi .ne v18 c0_i32_9
  v19

def k0_cond7 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_10 : BitVec 32 := 0#32
  let v22 : BitVec 1 := Scalar.cmpi .ne v21 c0_i32_10
  v22

def k0_cond8 (i : grid0.Coords) : BitVec 1 :=
  let arg2 : BitVec 32 := BitVec.ofNat 32 (i 2).val
  let c3_i32_11 : BitVec 32 := 3#32
  let v23 : BitVec 1 := Scalar.cmpi .eq arg2 c3_i32_11
  let v24 : BitVec 32 := Scalar.extui v23
  let c0_i32_12 : BitVec 32 := 0#32
  let v25 : BitVec 1 := Scalar.cmpi .ne v24 c0_i32_12
  v25

def k0_cond3 (i : grid0.Coords) : BitVec 1 :=
  let arg2 : BitVec 32 := BitVec.ofNat 32 (i 2).val
  let c0_i32_3 : BitVec 32 := 0#32
  let v6 : BitVec 1 := Scalar.cmpi .eq arg2 c0_i32_3
  let arg1 : BitVec 32 := BitVec.ofNat 32 (i 1).val
  let c0_i32_4 : BitVec 32 := 0#32
  let v7 : BitVec 1 := Scalar.cmpi .eq arg1 c0_i32_4
  let v8 : BitVec 1 := Scalar.andi v6 v7
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceIdeal.lean ====
abbrev S4096x2048 : Shape := ⟨2, ![4096, 2048]⟩
abbrev S4096x128 : Shape := ⟨2, ![4096, 128]⟩
abbrev S4096x1024 : Shape := ⟨2, ![4096, 1024]⟩
abbrev S2x2048x8x256 : Shape := ⟨4, ![2, 2048, 8, 256]⟩
abbrev S2x2048x128 : Shape := ⟨3, ![2, 2048, 128]⟩
abbrev S2x2048x8x128 : Shape := ⟨4, ![2, 2048, 8, 128]⟩
abbrev S2x8x2048x2048 : Shape := ⟨4, ![2, 8, 2048, 2048]⟩
abbrev S2x2048x1x128 : Shape := ⟨4, ![2, 2048, 1, 128]⟩
abbrev S2x2048x2048x8 : Shape := ⟨4, ![2, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x128 : Shape := ⟨4, ![2, 8, 2048, 128]⟩

abbrev nBuf : Space → Nat
  | .hbm => 126
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x128, .f32⟩
  | .hbm, ⟨2, _⟩ => ⟨S4096x2048, .f32⟩
  | .hbm, ⟨3, _⟩ => ⟨S4096x128, .f32⟩
  | .hbm, ⟨4, _⟩ => ⟨S4096x1024, .f32⟩
  | .hbm, ⟨5, _⟩ => ⟨S2x2048x8x256, .f32⟩
  | .hbm, ⟨6, _⟩ => ⟨S2x2048x8x256, .f32⟩
  | .hbm, ⟨7, _⟩ => ⟨S2x2048x128, .f32⟩
  | .hbm, ⟨8, _⟩ => ⟨S2x2048x8x128, .f32⟩
  | .hbm, ⟨9, _⟩ => ⟨S2x2048x8x128, .f32⟩
  | .hbm, ⟨10, _⟩ => ⟨S2x2048x128, .f32⟩
  | .hbm, ⟨11, _⟩ => ⟨S2x2048x8x128, .f32⟩
  | .hbm, ⟨12, _⟩ => ⟨S2x8x2048x2048, .f32⟩
  | .hbm, ⟨13, _⟩ => ⟨S2x2048x8x128, .f32⟩
  | .hbm, ⟨14, _⟩ => ⟨S2x2048x1x128, .f32⟩
  | .hbm, ⟨15, _⟩ => ⟨S2x2048x8x128, .f32⟩
  | .hbm, ⟨16, _⟩ => ⟨S2x2048x8x128, .f32⟩
  | .hbm, ⟨17, _⟩ => ⟨S2x2048x2048x8, .f32⟩
  | .hbm, ⟨18, _⟩ => ⟨S2x8x2048x2048, .f32⟩
  | .hbm, ⟨19, _⟩ => ⟨S2x8x2048x2048, .f32⟩
  | .hbm, ⟨20, _⟩ => ⟨S_, .f32⟩
  | .hbm, ⟨21, _⟩ => ⟨S2x8x2048x2048, .f32⟩
  | .hbm, ⟨22, _⟩ => ⟨S2x8x2048x2048, .f32⟩
  | .hbm, ⟨23, _⟩ => ⟨S2048, .i32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S2x8x2048x2048, .i1⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048x2048, .f32⟩
  | .hbm, ⟨36, _⟩ => ⟨S_, .f32⟩
  | .hbm, ⟨37, _⟩ => ⟨S2x8x2048, .f32⟩
  | .hbm, ⟨38, _⟩ => ⟨S2x8x2048x1, .f32⟩
  | .hbm, ⟨39, _⟩ => ⟨S2x8x2048x2048, .f32⟩
  | .hbm, ⟨40, _⟩ => ⟨S2x8x2048x2048, .i1⟩
  | .hbm, ⟨41, _⟩ => ⟨S2x8x2048x2048, .f32⟩
  | .hbm, ⟨42, _⟩ => ⟨S_, .f32⟩
  | .hbm, ⟨43, _⟩ => ⟨S2x8x2048, .f32⟩
  | .hbm, ⟨44, _⟩ => ⟨S_, .f32⟩
  | .hbm, ⟨45, _⟩ => ⟨S2x8x2048, .f32⟩
  | .hbm, ⟨46, _⟩ => ⟨S2x8x2048, .f32⟩
  | .hbm, ⟨47, _⟩ => ⟨S_, .f32⟩
  | .hbm, ⟨48, _⟩ => ⟨S2x8x2048, .f32⟩
  | .hbm, ⟨49, _⟩ => ⟨S2x8x2048, .i1⟩
  | .hbm, ⟨50, _⟩ => ⟨S_, .f32⟩
  | .hbm, ⟨51, _⟩ => ⟨S2x8x2048, .f32⟩
  | .hbm, ⟨52, _⟩ => ⟨S2x8x2048, .i1⟩
  | .hbm, ⟨53, _⟩ => ⟨S_, .f32⟩
  | .hbm, ⟨54, _⟩ => ⟨S2x8x2048, .f32⟩
  | .hbm, ⟨55, _⟩ => ⟨S_, .f32⟩
  | .hbm, ⟨56, _⟩ => ⟨S2x8x2048, .f32⟩
  | .hbm, ⟨57, _⟩ => ⟨S_, .f32⟩
  | .hbm, ⟨58, _⟩ => ⟨S2x8x2048, .f32⟩
  | .hbm, ⟨59, _⟩ => ⟨S2x8x2048, .f32⟩
  | .hbm, ⟨60, _⟩ => ⟨S2x8x2048, .f32⟩
  | .hbm, ⟨61, _⟩ => ⟨S2x8x2048x1, .f32⟩
  | .hbm, ⟨62, _⟩ => ⟨S2x8x2048x2048, .f32⟩
  | .hbm, ⟨63, _⟩ => ⟨S2x8x2048x2048, .f32⟩
  | .hbm, ⟨64, _⟩ => ⟨S2x8x2048x2048, .f32⟩
  | .hbm, ⟨65, _⟩ => ⟨S_, .f32⟩
  | .hbm, ⟨66, _⟩ => ⟨S2x8x2048, .f32⟩
  | .hbm, ⟨67, _⟩ => ⟨S2x8x2048x1, .f32⟩
  | .hbm, ⟨68, _⟩ => ⟨S2x8x2048x2048, .f32⟩
  | .hbm, ⟨69, _⟩ => ⟨S2x8x2048x2048, .f32⟩
  | .hbm, ⟨70, _⟩ => ⟨S2x8x2048x1, .f32⟩
  | .hbm, ⟨71, _⟩ => ⟨S_, .f32⟩
  | .hbm, ⟨72, _⟩ => ⟨S2x8x2048x1, .f32⟩
  | .hbm, ⟨73, _⟩ => ⟨S2x8x2048x1, .f32⟩
  | .hbm, ⟨74, _⟩ => ⟨S2x8x128x2048, .f32⟩
  | .hbm, ⟨75, _⟩ => ⟨S2x2048x8x128, .f32⟩
  | .hbm, ⟨76, _⟩ => ⟨S4096x1024, .f32⟩
  | .hbm, ⟨77, _⟩ => ⟨S2x2048x8x128, .f32⟩
  | .hbm, ⟨78, _⟩ => ⟨S2x8x128x2048, .f32⟩
  | .hbm, ⟨79, _⟩ => ⟨S2x8x2048x2048, .f32⟩
  | .hbm, ⟨80, _⟩ => ⟨S2x8x128x2048, .f32⟩
  | .hbm, ⟨81, _⟩ => ⟨S2x2048x8x128, .f32⟩
  | .hbm, ⟨82, _⟩ => ⟨S2x8x2048x2048, .f32⟩
  | .hbm, ⟨83, _⟩ => ⟨S2x8x2048x2048, .f32⟩
  | .hbm, ⟨84, _⟩ => ⟨S2x8x2048x2048, .f32⟩
  | .hbm, ⟨85, _⟩ => ⟨S_, .f32⟩
  | .hbm, ⟨86, _⟩ => ⟨S2x8x2048, .f32⟩
  | .hbm, ⟨87, _⟩ => ⟨S2x8x2048x1, .f32⟩
  | .hbm, ⟨88, _⟩ => ⟨S2x8x2048x1, .f32⟩
  | .hbm, ⟨89, _⟩ => ⟨S2x8x2048x2048, .f32⟩
  | .hbm, ⟨90, _⟩ => ⟨S2x8x2048x2048, .f32⟩
  | .hbm, ⟨91, _⟩ => ⟨S_, .f32⟩
  | .hbm, ⟨92, _⟩ => ⟨S2x8x2048, .f32⟩
  | .hbm, ⟨93, _⟩ => ⟨S2x8x2048x2048, .f32⟩
  | .hbm, ⟨94, _⟩ => ⟨S2x8x2048x2048, .f32⟩
  | .hbm, ⟨95, _⟩ => ⟨S2x8x2048x2048, .f32⟩
  | .hbm, ⟨96, _⟩ => ⟨S_, .f32⟩
  | .hbm, ⟨97, _⟩ => ⟨S2x8x2048x2048, .f32⟩
  | .hbm, ⟨98, _⟩ => ⟨S2x8x2048x2048, .f32⟩
  | .hbm, ⟨99, _⟩ => ⟨S_, .f32⟩
  | .hbm, ⟨100, _⟩ => ⟨S2x8x2048x2048, .f32⟩
  | .hbm, ⟨101, _⟩ => ⟨S2x8x2048x2048, .f32⟩
  | .hbm, ⟨102, _⟩ => ⟨S2x2048x2048x8, .f32⟩
  | .hbm, ⟨103, _⟩ => ⟨S2x2048x8x128, .f32⟩
  | .hbm, ⟨104, _⟩ => ⟨S2x2048x128, .f32⟩
  | .hbm, ⟨105, _⟩ => ⟨S2x2048x8x128, .f32⟩
  | .hbm, ⟨106, _⟩ => ⟨S2x2048x8x128, .f32⟩
  | .hbm, ⟨107, _⟩ => ⟨S_, .f32⟩
  | .hbm, ⟨108, _⟩ => ⟨S2x2048x8x256, .f32⟩
  | .hbm, ⟨109, _⟩ => ⟨S2x8x2048x128, .f32⟩
  | .hbm, ⟨110, _⟩ => ⟨S2x2048x8x128, .f32⟩
  | .hbm, ⟨111, _⟩ => ⟨S2x8x2048x128, .f32⟩
  | .hbm, ⟨112, _⟩ => ⟨S2x2048x8x128, .f32⟩
  | .hbm, ⟨113, _⟩ => ⟨S_, .f32⟩
  | .hbm, ⟨114, _⟩ => ⟨S2x2048x8x256, .f32⟩
  | .hbm, ⟨115, _⟩ => ⟨S2x2048x8x256, .f32⟩
  | .hbm, ⟨116, _⟩ => ⟨S4096x128, .f32⟩
  | .hbm, ⟨117, _⟩ => ⟨S_, .f32⟩
  | .hbm, ⟨118, _⟩ => ⟨S2x2048x8x256, .f32⟩
  | .hbm, ⟨119, _⟩ => ⟨S_, .f32⟩
  | .hbm, ⟨120, _⟩ => ⟨S2x2048x8x256, .f32⟩
  | .hbm, ⟨121, _⟩ => ⟨S2x2048x8x256, .f32⟩
  | .hbm, ⟨122, _⟩ => ⟨S4096x2048, .f32⟩
  | .hbm, ⟨123, _⟩ => ⟨S4096x2048, .f32⟩
  | .hbm, ⟨124, _⟩ => ⟨S4096x2048, .bf16⟩
  | .hbm, ⟨125, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24_1 : Ref sig .tc := ⟨.hbm, 31, rfl⟩
abbrev main_call0_v1 : Ref sig .tc := ⟨.hbm, 32, rfl⟩
abbrev main_v24_0 : Ref sig .tc := ⟨.hbm, 33, rfl⟩
abbrev main_call0_cst : Ref sig .tc := ⟨.hbm, 34, rfl⟩
abbrev main_v24_2 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_cst : Ref sig .tc := ⟨.hbm, 96, rfl⟩
abbrev main_call1_v0 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_14 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]
-- ==== Kernel2.lean ====
abbrev S4096x5632 : Shape := ⟨2, ![4096, 5632]⟩
abbrev S4096x2048 : Shape := ⟨2, ![4096, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x4096x5632 : Shape := ⟨3, ![2, 4096, 5632]⟩
abbrev S8x2048x1408 : Shape := ⟨3, ![8, 2048, 1408]⟩
abbrev S_ : Shape := ⟨0, ![]⟩
abbrev S4096x2048 : Shape := ⟨2, ![4096, 2048]⟩
abbrev S2048x8x1408 : Shape := ⟨3, ![2048, 8, 1408]⟩
abbrev S2048x11264 : Shape := ⟨2, ![2048, 11264]⟩
abbrev S4096x11264 : Shape := ⟨2, ![4096, 11264]⟩
abbrev S1x4096x5632 : Shape := ⟨3, ![1, 4096, 5632]⟩
abbrev S4096x5632 : Shape := ⟨2, ![4096, 5632]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S_, .f32⟩
  | .hbm, ⟨3, _⟩ => ⟨S4096x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S4096x11264, .f32⟩
  | .hbm, ⟨8, _⟩ => ⟨S1x4096x5632, .bf16⟩
  | .hbm, ⟨9, _⟩ => ⟨S4096x5632, .bf16⟩
  | .hbm, ⟨10, _⟩ => ⟨S1x4096x5632, .bf16⟩
  | .hbm, ⟨11, _⟩ => ⟨S4096x5632, .bf16⟩
  | .hbm, ⟨12, _⟩ => ⟨S4096x11264, .bf16⟩
  | .hbm, ⟨13, _⟩ => ⟨S4096x11264, .f32⟩
  | .hbm, ⟨14, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2x4096x5632 : Shape := ⟨3, ![2, 4096, 5632]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S1x4096x5632 : Shape := ⟨3, ![1, 4096, 5632]⟩
abbrev S4096x5632 : Shape := ⟨2, ![4096, 5632]⟩
abbrev S11264x2048 : Shape := ⟨2, ![11264, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S8x2048x1408, .f32⟩
  | .hbm, ⟨4, _⟩ => ⟨S4096x2048, .f32⟩
  | .hbm, ⟨5, _⟩ => ⟨S2048x8x1408, .f32⟩
  | .hbm, ⟨6, _⟩ => ⟨S2048x11264, .f32⟩
  | .hbm, ⟨7, _⟩ => ⟨S4096x11264, .f32⟩
  | .hbm, ⟨8, _⟩ => ⟨S1x4096x5632, .bf16⟩
  | .hbm, ⟨9, _⟩ => ⟨S4096x5632, .bf16⟩
  | .hbm, ⟨10, _⟩ => ⟨S1x4096x5632, .bf16⟩
  | .hbm, ⟨11, _⟩ => ⟨S4096x5632, .bf16⟩
  | .hbm, ⟨12, _⟩ => ⟨S4096x11264, .bf16⟩
  | .hbm, ⟨13, _⟩ => ⟨S4096x11264, .f32⟩
  | .hbm, ⟨14, _⟩ => ⟨S11264x2048, .f32⟩
  | .hbm, ⟨15, _⟩ => ⟨S2048x11264, .f32⟩
  | .hbm, ⟨16, _⟩ => ⟨S2048x8x1408, .f32⟩
  | .hbm, ⟨17, _⟩ => ⟨S8x2048x1408, .f32⟩
  | .hbm, ⟨18, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel6.lean ====
abbrev S4096x2048 : Shape := ⟨2, ![4096, 2048]⟩
abbrev S8x2048x1408 : Shape := ⟨3, ![8, 2048, 1408]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x2048, .f32⟩
  | .hbm, ⟨3, _⟩ => ⟨S512x2048, .f32⟩
  | .hbm, ⟨4, _⟩ => ⟨S_, .f32⟩
  | .hbm, ⟨5, _⟩ => ⟨S4096x512, .f32⟩
  | .hbm, ⟨6, _⟩ => ⟨S4096x2048, .f32⟩
  | .hbm, ⟨7, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x512 : Shape := ⟨2, ![4096, 512]⟩
abbrev S4096x2048 : Shape := ⟨2, ![4096, 2048]⟩
abbrev S512x2048 : Shape := ⟨2, ![512, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel11Ideal.lean ====
abbrev S4096x512 : Shape := ⟨2, ![4096, 512]⟩
abbrev S4096x2048 : Shape := ⟨2, ![4096, 2048]⟩
abbrev S512x2048 : Shape := ⟨2, ![512, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S512x2048, .f32⟩
  | .hbm, ⟨6, _⟩ => ⟨S4096x2048, .f32⟩
  | .hbm, ⟨7, _⟩ => ⟨S2048x512, .f32⟩
  | .hbm, ⟨8, _⟩ => ⟨S512x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S256x2048 : Shape := ⟨2, ![256, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S4096x2048 : Shape := ⟨2, ![4096, 2048]⟩
abbrev S256x2048 : Shape := ⟨2, ![256, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x2048, .f32⟩
  | .hbm, ⟨3, _⟩ => ⟨S256x2048, .f32⟩
  | .hbm, ⟨4, _⟩ => ⟨S_, .f32⟩
  | .hbm, ⟨5, _⟩ => ⟨S4096x256, .f32⟩
  | .hbm, ⟨6, _⟩ => ⟨S4096x2048, .f32⟩
  | .hbm, ⟨7, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x256 : Shape := ⟨2, ![4096, 256]⟩
abbrev S4096x2048 : Shape := ⟨2, ![4096, 2048]⟩
abbrev S256x2048 : Shape := ⟨2, ![256, 2048]⟩
abbrev S1024x256 : Shape := ⟨2, ![1024, 256]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .bf16⟩
  | .local _ .vmem, ⟨5, _⟩ => ⟨S256x2048, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel13Ideal.lean ====
abbrev S4096x256 : Shape := ⟨2, ![4096, 256]⟩
abbrev S4096x2048 : Shape := ⟨2, ![4096, 2048]⟩
abbrev S256x2048 : Shape := ⟨2, ![256, 2048]⟩
abbrev S1024x256 : Shape := ⟨2, ![1024, 256]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x2048, .bf16⟩
  | .local _ .vmem, ⟨3, _⟩ => ⟨S1024x2048, .bf16⟩
  | .local _ .vmem, ⟨4, _⟩ => ⟨S256x2048, .bf16⟩
  | .local _ .vmem, ⟨5, _⟩ => ⟨S256x2048, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x256, .f32⟩
  | .hbm, ⟨3, _⟩ => ⟨S4096x2048, .f32⟩
  | .hbm, ⟨4, _⟩ => ⟨S_, .f32⟩
  | .hbm, ⟨5, _⟩ => ⟨S256x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x2432 : Shape := ⟨2, ![4096, 2432]⟩
abbrev S2048x2432 : Shape := ⟨2, ![2048, 2432]⟩
abbrev S4096x2048 : Shape := ⟨2, ![4096, 2048]⟩
abbrev S512x2432 : Shape := ⟨2, ![512, 2432]⟩
abbrev S1024x2432 : Shape := ⟨2, ![1024, 2432]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2432, .bf16⟩
  | .hbm, ⟨1, _⟩ => ⟨S2048x2432, .bf16⟩
  | .hbm, ⟨2, _⟩ => ⟨S4096x2048, .f32⟩
  | .local _ .vmem, ⟨0, _⟩ => ⟨S512x2432, .bf16⟩
  | .local _ .vmem, ⟨1, _⟩ => ⟨S512x2432, .bf16⟩
  | .local _ .vmem, ⟨2, _⟩ => ⟨S1024x2432, .bf16⟩
  | .local _ .vmem, ⟨3, _⟩ => ⟨S1024x2432, .bf16⟩
  | .local _ .vmem, ⟨4, _⟩ => ⟨S512x1024, .f32⟩
  | .local _ .vmem, ⟨5, _⟩ => ⟨S512x1024, .f32⟩
  | _, _ => ⟨S4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S4096x2432 : Shape := ⟨2, ![4096, 2432]⟩
abbrev S2048x2432 : Shape := ⟨2, ![2048, 2432]⟩
abbrev S4096x2048 : Shape := ⟨2, ![4096, 2048]⟩
abbrev S512x2432 : Shape := ⟨2, ![512, 2432]⟩
abbrev S1024x2432 : Shape := ⟨2, ![1024, 2432]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2432, .bf16⟩
  | .hbm, ⟨1, _⟩ => ⟨S2048x2432, .bf16⟩
  | .hbm, ⟨2, _⟩ => ⟨S4096x2048, .f32⟩
  | .local _ .vmem, ⟨0, _⟩ => ⟨S512x2432, .bf16⟩
  | .local _ .vmem, ⟨1, _⟩ => ⟨S512x2432, .bf16⟩
  | .local _ .vmem, ⟨2, _⟩ => ⟨S1024x2432, .bf16⟩
  | .local _ .vmem, ⟨3, _⟩ => ⟨S1024x2432, .bf16⟩
  | .local _ .vmem, ⟨4, _⟩ => ⟨S512x1024, .f32⟩
  | .local _ .vmem, ⟨5, _⟩ => ⟨S512x1024, .f32⟩
  | _, _ => ⟨S4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2432 : Shape := ⟨2, ![4096, 2432]⟩
abbrev S2048x2432 : Shape := ⟨2, ![2048, 2432]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2432, .bf16⟩
  | .hbm, ⟨1, _⟩ => ⟨S2048x2432, .bf16⟩
  | .hbm, ⟨2, _⟩ => ⟨S4096x2432, .f32⟩
  | .hbm, ⟨3, _⟩ => ⟨S2048x2432, .f32⟩
  | .hbm, ⟨4, _⟩ => ⟨S_, .f32⟩
  | .hbm, ⟨5, _⟩ => ⟨S4096x2048, .f32⟩
  | .hbm, ⟨6, _⟩ => ⟨S4096x2432, .f32⟩
  | .hbm, ⟨7, _⟩ => ⟨S4096x2048, .f32⟩
  | _, _ => ⟨S4096x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x2048 : Shape := ⟨2, ![4096, 2048]⟩
abbrev S4096x2432 : Shape := ⟨2, ![4096, 2432]⟩
abbrev S2048x2432 : Shape := ⟨2, ![2048, 2432]⟩
abbrev S1024x1024 : Shape := ⟨2, ![1024, 1024]⟩
abbrev S1024x2432 : Shape := ⟨2, ![1024, 2432]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2432, .bf16⟩
  | .hbm, ⟨2, _⟩ => ⟨S2048x2432, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S4096x2048 : Shape := ⟨2, ![4096, 2048]⟩
abbrev S4096x2432 : Shape := ⟨2, ![4096, 2432]⟩
abbrev S2048x2432 : Shape := ⟨2, ![2048, 2432]⟩
abbrev S1024x1024 : Shape := ⟨2, ![1024, 1024]⟩
abbrev S1024x2432 : Shape := ⟨2, ![1024, 2432]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2432, .bf16⟩
  | .hbm, ⟨2, _⟩ => ⟨S2048x2432, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S4096x2432 : Shape := ⟨2, ![4096, 2432]⟩
abbrev S_ : Shape := ⟨0, ![]⟩
abbrev S2048x2432 : Shape := ⟨2, ![2048, 2432]⟩
abbrev S2432x2048 : Shape := ⟨2, ![2432, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2432, .bf16⟩
  | .hbm, ⟨2, _⟩ => ⟨S4096x2048, .f32⟩
  | .hbm, ⟨3, _⟩ => ⟨S4096x2432, .f32⟩
  | .hbm, ⟨4, _⟩ => ⟨S_, .f32⟩
  | .hbm, ⟨5, _⟩ => ⟨S2048x2432, .f32⟩
  | .hbm, ⟨6, _⟩ => ⟨S4096x2432, .f32⟩
  | .hbm, ⟨7, _⟩ => ⟨S2432x2048, .f32⟩
  | .hbm, ⟨8, _⟩ => ⟨S2048x2432, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x2048 : Shape := ⟨2, ![4096, 2048]⟩
abbrev S2048x2432 : Shape := ⟨2, ![2048, 2432]⟩
abbrev S4096x2432 : Shape := ⟨2, ![4096, 2432]⟩
abbrev S512x2048 : Shape := ⟨2, ![512, 2048]⟩
abbrev S512x2432 : Shape := ⟨2, ![512, 2432]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2432, .bf16⟩
  | .hbm, ⟨2, _⟩ => ⟨S4096x2432, .f32⟩
  | .local _ .vmem, ⟨0, _⟩ => ⟨S512x2048, .bf16⟩
  | .local _ .vmem, ⟨1, _⟩ => ⟨S512x2048, .bf16⟩
  | .local _ .vmem, ⟨2, _⟩ => ⟨S2048x2432, .bf16⟩
  | .local _ .vmem, ⟨3, _⟩ => ⟨S512x2432, .f32⟩
  | .local _ .vmem, ⟨4, _⟩ => ⟨S512x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S4096x2048 : Shape := ⟨2, ![4096, 2048]⟩
abbrev S2048x2432 : Shape := ⟨2, ![2048, 2432]⟩
abbrev S4096x2432 : Shape := ⟨2, ![4096, 2432]⟩
abbrev S512x2048 : Shape := ⟨2, ![512, 2048]⟩
abbrev S512x2432 : Shape := ⟨2, ![512, 2432]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2432, .bf16⟩
  | .hbm, ⟨2, _⟩ => ⟨S4096x2432, .f32⟩
  | .local _ .vmem, ⟨0, _⟩ => ⟨S512x2048, .bf16⟩
  | .local _ .vmem, ⟨1, _⟩ => ⟨S512x2048, .bf16⟩
  | .local _ .vmem, ⟨2, _⟩ => ⟨S2048x2432, .bf16⟩
  | .local _ .vmem, ⟨3, _⟩ => ⟨S512x2432, .f32⟩
  | .local _ .vmem, ⟨4, _⟩ => ⟨S512x2432, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x2432 : Shape := ⟨2, ![2048, 2432]⟩
abbrev S4096x2432 : Shape := ⟨2, ![4096, 2432]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2432, .bf16⟩
  | .hbm, ⟨2, _⟩ => ⟨S4096x2048, .f32⟩
  | .hbm, ⟨3, _⟩ => ⟨S2048x2432, .f32⟩
  | .hbm, ⟨4, _⟩ => ⟨S4096x2432, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S1024x2048, .f32⟩
  | .local _ .vmem, ⟨4, _⟩ => ⟨S1024x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel17Ideal.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x2048, .bf16⟩
  | .local _ .vmem, ⟨3, _⟩ => ⟨S1024x2048, .f32⟩
  | .local _ .vmem, ⟨4, _⟩ => ⟨S1024x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S256x2048, .bf16⟩
  | .local _ .vmem, ⟨3, _⟩ => ⟨S1024x2048, .bf16⟩
  | .local _ .vmem, ⟨4, _⟩ => ⟨S1024x2048, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .bf16⟩
  | .local _ .vmem, ⟨0, _⟩ => ⟨S1024x256, .bf16⟩
  | .local _ .vmem, ⟨1, _⟩ => ⟨S1024x256, .bf16⟩
  | .local _ .vmem, ⟨2, _⟩ => ⟨S256x2048, .bf16⟩
  | .local _ .vmem, ⟨3, _⟩ => ⟨S1024x2048, .bf16⟩
  | .local _ .vmem, ⟨4, _⟩ => ⟨S1024x2048, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x256, .f32⟩
  | .hbm, ⟨3, _⟩ => ⟨S256x2048, .f32⟩
  | .hbm, ⟨4, _⟩ => ⟨S4096x2048, .f32⟩
  | .hbm, ⟨5, _⟩ => ⟨S4096x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x2048 : Shape := ⟨2, ![4096, 2048]⟩
abbrev S4096x128 : Shape := ⟨2, ![4096, 128]⟩
abbrev S_ : Shape := ⟨0, ![]⟩
abbrev S4096x256 : Shape := ⟨2, ![4096, 256]⟩
abbrev S4096x1024 : Shape := ⟨2, ![4096, 1024]⟩
abbrev S16x2048x1 : Shape := ⟨3, ![16, 2048, 1]⟩
abbrev S512x256 : Shape := ⟨2, ![512, 256]⟩
abbrev S2048x128 : Shape := ⟨2, ![2048, 128]⟩
abbrev S512x128 : Shape := ⟨2, ![512, 128]⟩
abbrev S1x512x1 : Shape := ⟨3, ![1, 512, 1]⟩
abbrev S2048x256 : Shape := ⟨2, ![2048, 256]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 14
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x128, .f32⟩
  | .hbm, ⟨2, _⟩ => ⟨S4096x2048, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x256, .f32⟩
  | .hbm, ⟨10, _⟩ => ⟨S4096x2048, .bf16⟩
  | .hbm, ⟨11, _⟩ => ⟨S4096x128, .bf16⟩
  | .hbm, ⟨12, _⟩ => ⟨S4096x1024, .bf16⟩
  | .hbm, ⟨13, _⟩ => ⟨S16x2048x1, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S512x128, .bf16⟩
  | .local _ .vmem, ⟨11, _⟩ => ⟨S512x128, .bf16⟩
  | .local _ .vmem, ⟨12, _⟩ => ⟨S1x512x1, .f32⟩
  | .local _ .vmem, ⟨13, _⟩ => ⟨S1x512x1, .f32⟩
  | .local _ .vmem, ⟨14, _⟩ => ⟨S2048x256, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel20Ideal.lean ====
variable {F : FTy → Type} [FloatOps F] [Named F]
def κ : String → Option EReal := fun
  | "mask" => some ⊥
  | _ => none
-- ==== Reference20Ideal.lean ====
abbrev S4096x2048 : Shape := ⟨2, ![4096, 2048]⟩
abbrev S4096x128 : Shape := ⟨2, ![4096, 128]⟩
abbrev S2x2048x8x256 : Shape := ⟨4, ![2, 2048, 8, 256]⟩
abbrev S2x2048x128 : Shape := ⟨3, ![2, 2048, 128]⟩
abbrev S2x2048x8x128 : Shape := ⟨4, ![2, 2048, 8, 128]⟩
abbrev S2x8x2048x2048 : Shape := ⟨4, ![2, 8, 2048, 2048]⟩
abbrev S2x2048x1x128 : Shape := ⟨4, ![2, 2048, 1, 128]⟩
abbrev S2x2048x2048x8 : Shape := ⟨4, ![2, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S4096x1024 : Shape := ⟨2, ![4096, 1024]⟩
abbrev S16x2048x1 : Shape := ⟨3, ![16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x128, .f32⟩
  | .hbm, ⟨2, _⟩ => ⟨S4096x2048, .f32⟩
  | .hbm, ⟨3, _⟩ => ⟨S4096x128, .f32⟩
  | .hbm, ⟨4, _⟩ => ⟨S2x2048x8x256, .f32⟩
  | .hbm, ⟨5, _⟩ => ⟨S2x2048x8x256, .f32⟩
  | .hbm, ⟨6, _⟩ => ⟨S2x2048x128, .f32⟩
  | .hbm, ⟨7, _⟩ => ⟨S2x2048x8x128, .f32⟩
  | .hbm, ⟨8, _⟩ => ⟨S2x2048x8x128, .f32⟩
  | .hbm, ⟨9, _⟩ => ⟨S2x2048x128, .f32⟩
  | .hbm, ⟨10, _⟩ => ⟨S2x2048x8x128, .f32⟩
  | .hbm, ⟨11, _⟩ => ⟨S2x8x2048x2048, .f32⟩
  | .hbm, ⟨12, _⟩ => ⟨S2x2048x8x128, .f32⟩
  | .hbm, ⟨13, _⟩ => ⟨S2x2048x1x128, .f32⟩
  | .hbm, ⟨14, _⟩ => ⟨S2x2048x8x128, .f32⟩
  | .hbm, ⟨15, _⟩ => ⟨S2x2048x8x128, .f32⟩
  | .hbm, ⟨16, _⟩ => ⟨S2x2048x2048x8, .f32⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S2x8x2048x2048, .f32⟩
  | .hbm, ⟨22, _⟩ => ⟨S2048, .i32⟩
  | .hbm, ⟨23, _⟩ => ⟨S2048, .i32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S2x8x2048x2048, .i1⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S_, .f32⟩
  | .hbm, ⟨36, _⟩ => ⟨S2x8x2048, .f32⟩
  | .hbm, ⟨37, _⟩ => ⟨S2x8x2048, .f32⟩
  | .hbm, ⟨38, _⟩ => ⟨S2x8x2048x1, .f32⟩
  | .hbm, ⟨39, _⟩ => ⟨S2x8x2048x2048, .f32⟩
  | .hbm, ⟨40, _⟩ => ⟨S2x8x2048x2048, .f32⟩
  | .hbm, ⟨41, _⟩ => ⟨S2x8x2048x2048, .f32⟩
  | .hbm, ⟨42, _⟩ => ⟨S_, .f32⟩
  | .hbm, ⟨43, _⟩ => ⟨S2x8x2048, .f32⟩
  | .hbm, ⟨44, _⟩ => ⟨S2x8x2048x1, .f32⟩
  | .hbm, ⟨45, _⟩ => ⟨S2x8x2048x2048, .f32⟩
  | .hbm, ⟨46, _⟩ => ⟨S2x8x2048x2048, .f32⟩
  | .hbm, ⟨47, _⟩ => ⟨S2x8x128x2048, .f32⟩
  | .hbm, ⟨48, _⟩ => ⟨S2x2048x8x128, .f32⟩
  | .hbm, ⟨49, _⟩ => ⟨S2x8x2048x2048, .f32⟩
  | .hbm, ⟨50, _⟩ => ⟨S_, .f32⟩
  | .hbm, ⟨51, _⟩ => ⟨S2x8x2048, .f32⟩
  | .hbm, ⟨52, _⟩ => ⟨S2x8x2048, .f32⟩
  | .hbm, ⟨53, _⟩ => ⟨S4096x1024, .f32⟩
  | .hbm, ⟨54, _⟩ => ⟨S4096x1024, .bf16⟩
  | .hbm, ⟨55, _⟩ => ⟨S16x2048x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== Proof.AttnBase.lean ====
/- What the runs of the attention's backward body share: the body's conditions as arithmetic of the point, where its
   windows are idle, and the staging and scratch buffers it works on. -/
module

public import proofs.«01_k».proof.Proof.Gen.KernelIdeal.Frame
public import proofs.«01_k».proof.Proof.Gen.KernelIdeal.Skeleton

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The body's grid coordinates at point `t`: the batch, the head and the block of queries. -/
theorem coords_of (t : Fin cfg0.N) : (grid0.coords t 0).val = t.val / 32 % 2 ∧ (grid0.coords t 1).val = t.val / 4 % 8
    ∧ (grid0.coords t 2).val = t.val / 1 % 4 :=
  ⟨Pipeline.Grid.coords_val t 0 (by decide) rfl, Pipeline.Grid.coords_val t 1 (by decide) rfl,
    Pipeline.Grid.coords_val t 2 (by decide) rfl⟩

theorem val_lt (t : Fin cfg0.N) : t.val < 64 := Nat.lt_of_lt_of_eq t.isLt N_0

/-- The block of queries is the first one: the test the body makes before it fills the keys and clears the sums. -/
abbrev first (i : grid0.Coords) : Prop :=
  (Scalar.cmpi .ne (Scalar.extui (Scalar.cmpi .eq (BitVec.ofNat 32 (i 2).val) 0#32)) 0#32) = 1#1

theorem first_iff (t : Fin cfg0.N) : first (grid0.coords t) ↔ t.val % 4 = 0 := by
  have ht := val_lt t; obtain ⟨e0, e1, e2⟩ := coords_of t
  simp only [first, e0, e1, e2]; word_cmp
/-- The head and the block of queries are both the first. -/
theorem start_iff (t : Fin cfg0.N) : k0_cond3 (grid0.coords t) = 1#1 ↔ t.val % 32 = 0 := by
  have ht := val_lt t; obtain ⟨e0, e1, e2⟩ := coords_of t
  simp only [k0_cond3, e0, e1, e2]; word_cmp
theorem q0_iff (t : Fin cfg0.N) : k0_cond4 (grid0.coords t) = 1#1 ↔ t.val % 4 = 0 := by
  have ht := val_lt t; obtain ⟨e0, e1, e2⟩ := coords_of t
  simp only [k0_cond4, e0, e1, e2]; word_cmp
theorem q1_iff (t : Fin cfg0.N) : k0_cond5 (grid0.coords t) = 1#1 ↔ t.val % 4 = 1 := by
  have ht := val_lt t; obtain ⟨e0, e1, e2⟩ := coords_of t
  simp only [k0_cond5, e0, e1, e2]; word_cmp
theorem q2_iff (t : Fin cfg0.N) : k0_cond6 (grid0.coords t) = 1#1 ↔ t.val % 4 = 2 := by
  have ht := val_lt t; obtain ⟨e0, e1, e2⟩ := coords_of t
  simp only [k0_cond6, e0, e1, e2]; word_cmp
theorem q3_iff (t : Fin cfg0.N) : k0_cond7 (grid0.coords t) = 1#1 ↔ t.val % 4 = 3 := by
  have ht := val_lt t; obtain ⟨e0, e1, e2⟩ := coords_of t
  simp only [k0_cond7, e0, e1, e2]; word_cmp
theorem last_iff (t : Fin cfg0.N) : k0_cond8 (grid0.coords t) = 1#1 ↔ t.val % 4 = 3 := by
  have ht := val_lt t; obtain ⟨e0, e1, e2⟩ := coords_of t
  simp only [k0_cond8, e0, e1, e2]; word_cmp

/-! ## The buffers -/

abbrev st0 (t : Fin cfg0.N) : Memref sig .tc .vmem S512x256 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S512x256 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S2048x128 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S2048x128 .bf16 := win0_3.stage (cfg0.slots t 3)
abbrev hst3 (t : Fin cfg0.N) : (st3 t).IsWhole := hstage0_3 ((cfg0.slots t 3).cast nbuf0_3)
abbrev st4 (t : Fin cfg0.N) : Memref sig .tc .vmem S2048x128 .bf16 := win0_4.stage (cfg0.slots t 4)
abbrev hst4 (t : Fin cfg0.N) : (st4 t).IsWhole := hstage0_4 ((cfg0.slots t 4).cast nbuf0_4)
abbrev st5 (t : Fin cfg0.N) : Memref sig .tc .vmem S1x512x1 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S512x128 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S512x256 .bf16 := win0_7.stage (cfg0.slots t 7)
abbrev hst7 (t : Fin cfg0.N) : (st7 t).IsWhole := hstage0_7 ((cfg0.slots t 7).cast nbuf0_7)
abbrev st8 (t : Fin cfg0.N) : Memref sig .tc .vmem S2048x256 .bf16 := win0_8.stage (cfg0.slots t 8)
abbrev hst8 (t : Fin cfg0.N) : (st8 t).IsWhole := hstage0_8 ((cfg0.slots t 8).cast nbuf0_8)
abbrev st9 (t : Fin cfg0.N) : Memref sig .tc .vmem S2048x128 .f32 := win0_9.stage (cfg0.slots t 9)
abbrev hst9 (t : Fin cfg0.N) : (st9 t).IsWhole := hstage0_9 ((cfg0.slots t 9).cast nbuf0_9)
/-- The sums of the gradients of the keys and values of the head at hand. -/
abbrev accM : Memref sig .tc .vmem S2048x256 .f32 := Memref.whole cc0_scratch0
/-- The head's keys: the first half without rotation, the second half rotated. -/
abbrev keyM : Memref sig .tc .vmem S2048x256 .bf16 := Memref.whole cc0_scratch1

/-- What the launch hands over beside the windows: both scratch buffers at some contents. -/
theorem PhiA_eq (c : Dev nD) :
    (Pipeline.ΦA spec0 c : sProp 𝕄)
      = iprop(iprop((∃ d, owns (c : Thread nD τ) accM fullShare d) ∗ (∃ d, owns (c : Thread nD τ) keyM fullShare d))
          ∗ (∃ r, prngReg c r)) := by
  unfold Pipeline.ΦA; rw [scopedRest0_eq]; simp only [accM, keyM, owns_whole]; try rfl

end Cert.KernelIdeal.Attn

end
-- ==== Proof.AttnRunA.lean ====
/- The body of the attention's backward pass run in the case of the first block of queries of the first head. -/
module

public import proofs.«01_k».proof.Proof.AttnBase

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- In the case of the first block of queries of the first head: what each buffer the body stores into ends with, as the list of the stores (the last one
    first), together with the proof that from the inputs at their contents the body runs to that. -/
def runA (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x512x1 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x256 .bf16) (harg14 : arg14.IsWhole)
    (hc0 : first i) (hc1 : k0_cond3 i = 1#1) (hc2 : k0_cond4 i = 1#1) (hc3 : ¬(k0_cond5 i = 1#1)) (hc4 : ¬(k0_cond6 i = 1#1)) (hc5 : ¬(k0_cond7 i = 1#1)) (hc6 : ¬(k0_cond8 i = 1#1))
    (x0 : Vec F S512x256 .f32) (x1 : Vec F S512x256 .f32) (x2 : Vec F S2048x128 .bf16) (x3 : Vec F S2048x128 .bf16) (x4 : Vec F S2048x128 .bf16) (x5 : Vec F S1x512x1 .f32) (x6 : Vec F S512x128 .f32) :
    Σ' (L7 : List (View.Piece (Elt F) S512x256 .bf16)), Σ' (L9 : List (View.Piece (Elt F) S2048x128 .f32)), Σ' (LA : List (View.Piece (Elt F) S2048x256 .f32)), { LK : List (View.Piece (Elt F) S2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LA) ∗ (∃ f, arg14.view.loc (c : Thread nD τ) ↦[arg14.view.set]{fullShare} arg14.view.writes (Elt F) f LK)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_attn_bwd_eq_skeleton]; unfold cc0_attn_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%da, %fa, -, HA⟩, ⟨%dk, %fk, -, HK⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _, _; isplitr; swap; · iexact H8
      ipureintro; rfl
    isplitl [H9]; · iexists _; iexact H9
    isplitl [HA]; · iexists _; iexact HA
    iexists _; iexact HK

end Cert.KernelIdeal.Attn

end
-- ==== Proof.AttnRunB.lean ====
/- The body of the attention's backward pass run in the case of the second block of queries. -/
module

public import proofs.«01_k».proof.Proof.AttnRunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- In the case of the second block of queries: what each buffer the body stores into ends with, as the list of the stores (the last one
    first), together with the proof that from the inputs at their contents the body runs to that. -/
def runB (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x512x1 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x256 .bf16) (harg14 : arg14.IsWhole)
    (hc0 : ¬first i) (hc1 : ¬(k0_cond3 i = 1#1)) (hc2 : ¬(k0_cond4 i = 1#1)) (hc3 : k0_cond5 i = 1#1) (hc4 : ¬(k0_cond6 i = 1#1)) (hc5 : ¬(k0_cond7 i = 1#1)) (hc6 : ¬(k0_cond8 i = 1#1))
    (x0 : Vec F S512x256 .f32) (x1 : Vec F S512x256 .f32) (x2 : Vec F S2048x128 .bf16) (x3 : Vec F S2048x128 .bf16) (x4 : Vec F S2048x128 .bf16) (x5 : Vec F S1x512x1 .f32) (x6 : Vec F S512x128 .f32) (x9 : Vec F S2048x128 .f32) (xs0 : Vec F S2048x256 .f32) (xs1 : Vec F S2048x256 .bf16) :
    Σ' (L7 : List (View.Piece (Elt F) S512x256 .bf16)), Σ' (L9 : List (View.Piece (Elt F) S2048x128 .f32)), { LA : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare x9 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread xs0) LA) ∗ owns (c : Thread nD τ) arg14 fullShare xs1) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_attn_bwd_eq_skeleton]; unfold cc0_attn_bwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fa, %hfa, HA⟩, ⟨%fk, %hfk, HK⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9; obtain rfl := harg13.eq_unread hfa; obtain rfl := harg14.eq_unread hfk
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _, _; isplitr; swap; · iexact H8
      ipureintro; rfl
    isplitl [H9]; · iexact H9
    isplitl [HA]; · iexact HA
    iexists _; isplitr; · ipureintro; exact harg14.read_unread _
    iexact HK

end Cert.KernelIdeal.Attn

end
-- ==== Proof.AttnRunC.lean ====
/- The body of the attention's backward pass run in the case of the third block of queries. -/
module

public import proofs.«01_k».proof.Proof.AttnRunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- In the case of the third block of queries: what each buffer the body stores into ends with, as the list of the stores (the last one
    first), together with the proof that from the inputs at their contents the body runs to that. -/
def runC (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x512x1 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x256 .bf16) (harg14 : arg14.IsWhole)
    (hc0 : ¬first i) (hc1 : ¬(k0_cond3 i = 1#1)) (hc2 : ¬(k0_cond4 i = 1#1)) (hc3 : ¬(k0_cond5 i = 1#1)) (hc4 : k0_cond6 i = 1#1) (hc5 : ¬(k0_cond7 i = 1#1)) (hc6 : ¬(k0_cond8 i = 1#1))
    (x0 : Vec F S512x256 .f32) (x1 : Vec F S512x256 .f32) (x2 : Vec F S2048x128 .bf16) (x3 : Vec F S2048x128 .bf16) (x4 : Vec F S2048x128 .bf16) (x5 : Vec F S1x512x1 .f32) (x6 : Vec F S512x128 .f32) (x9 : Vec F S2048x128 .f32) (xs0 : Vec F S2048x256 .f32) (xs1 : Vec F S2048x256 .bf16) :
    Σ' (L7 : List (View.Piece (Elt F) S512x256 .bf16)), Σ' (L9 : List (View.Piece (Elt F) S2048x128 .f32)), { LA : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare x9 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread xs0) LA) ∗ owns (c : Thread nD τ) arg14 fullShare xs1) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_attn_bwd_eq_skeleton]; unfold cc0_attn_bwd_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fa, %hfa, HA⟩, ⟨%fk, %hfk, HK⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9; obtain rfl := harg13.eq_unread hfa; obtain rfl := harg14.eq_unread hfk
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _, _; isplitr; swap; · iexact H8
      ipureintro; rfl
    isplitl [H9]; · iexact H9
    isplitl [HA]; · iexact HA
    iexists _; isplitr; · ipureintro; exact harg14.read_unread _
    iexact HK

end Cert.KernelIdeal.Attn

end
-- ==== Proof.AttnRunD.lean ====
/- The body of the attention's backward pass run in the case of the last block of queries. -/
module

public import proofs.«01_k».proof.Proof.AttnRunC

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- In the case of the last block of queries: what each buffer the body stores into ends with, as the list of the stores (the last one
    first), together with the proof that from the inputs at their contents the body runs to that. -/
def runD (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x512x1 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x256 .bf16) (harg14 : arg14.IsWhole)
    (hc0 : ¬first i) (hc1 : ¬(k0_cond3 i = 1#1)) (hc2 : ¬(k0_cond4 i = 1#1)) (hc3 : ¬(k0_cond5 i = 1#1)) (hc4 : ¬(k0_cond6 i = 1#1)) (hc5 : k0_cond7 i = 1#1) (hc6 : k0_cond8 i = 1#1)
    (x0 : Vec F S512x256 .f32) (x1 : Vec F S512x256 .f32) (x2 : Vec F S2048x128 .bf16) (x3 : Vec F S2048x128 .bf16) (x4 : Vec F S2048x128 .bf16) (x5 : Vec F S1x512x1 .f32) (x6 : Vec F S512x128 .f32) (x9 : Vec F S2048x128 .f32) (xs0 : Vec F S2048x256 .f32) (xs1 : Vec F S2048x256 .bf16) :
    Σ' (L7 : List (View.Piece (Elt F) S512x256 .bf16)), Σ' (L8 : List (View.Piece (Elt F) S2048x256 .bf16)), Σ' (L9 : List (View.Piece (Elt F) S2048x128 .f32)), { LA : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare x9 ∗ owns (c : Thread nD τ) arg13 fullShare xs0 ∗ owns (c : Thread nD τ) arg14 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread xs0) LA) ∗ owns (c : Thread nD τ) arg14 fullShare xs1) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_attn_bwd_eq_skeleton]; unfold cc0_attn_bwd_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fa, %hfa, HA⟩, ⟨%fk, %hfk, HK⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9; obtain rfl := harg13.eq_unread hfa; obtain rfl := harg14.eq_unread hfk
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexact H9
    isplitl [HA]; · iexact HA
    iexists _; isplitr; · ipureintro; exact harg14.read_unread _
    iexact HK

end Cert.KernelIdeal.Attn

end
-- ==== Proof.AttnRunE.lean ====
/- The body of the attention's backward pass run in the case of the first block of queries of a head that is not the first. -/
module

public import proofs.«01_k».proof.Proof.AttnRunD

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- In the case of the first block of queries of a head that is not the first: what each buffer the body stores into ends with, as the list of the stores (the last one
    first), together with the proof that from the inputs at their contents the body runs to that. -/
def runE (c : Dev nD) (i : grid0.Coords) (arg3 : Memref sig .tc .vmem S512x256 .f32) (harg3 : arg3.IsWhole) (arg4 : Memref sig .tc .vmem S512x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S1x512x1 .f32) (harg8 : arg8.IsWhole) (arg9 : Memref sig .tc .vmem S512x128 .f32) (harg9 : arg9.IsWhole) (arg10 : Memref sig .tc .vmem S512x256 .bf16) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x256 .bf16) (harg14 : arg14.IsWhole)
    (hc0 : first i) (hc1 : ¬(k0_cond3 i = 1#1)) (hc2 : k0_cond4 i = 1#1) (hc3 : ¬(k0_cond5 i = 1#1)) (hc4 : ¬(k0_cond6 i = 1#1)) (hc5 : ¬(k0_cond7 i = 1#1)) (hc6 : ¬(k0_cond8 i = 1#1))
    (x0 : Vec F S512x256 .f32) (x1 : Vec F S512x256 .f32) (x2 : Vec F S2048x128 .bf16) (x3 : Vec F S2048x128 .bf16) (x4 : Vec F S2048x128 .bf16) (x5 : Vec F S1x512x1 .f32) (x6 : Vec F S512x128 .f32) (x9 : Vec F S2048x128 .f32) :
    Σ' (L7 : List (View.Piece (Elt F) S512x256 .bf16)), Σ' (L9 : List (View.Piece (Elt F) S2048x128 .f32)), Σ' (LA : List (View.Piece (Elt F) S2048x256 .f32)), { LK : List (View.Piece (Elt F) S2048x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare x9 ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ d, owns (c : Thread nD τ) arg11 fullShare d) ∗ (arg12.view.loc (c : Thread nD τ) ↦[arg12.view.set]{fullShare} arg12.view.writes (Elt F) (harg12.unread x9) L9) ∗ (∃ f, arg13.view.loc (c : Thread nD τ) ↦[arg13.view.set]{fullShare} arg13.view.writes (Elt F) f LA) ∗ (∃ f, arg14.view.loc (c : Thread nD τ) ↦[arg14.view.set]{fullShare} arg14.view.writes (Elt F) f LK)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_attn_bwd_eq_skeleton]; unfold cc0_attn_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%da, %fa, -, HA⟩, ⟨%dk, %fk, -, HK⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]
    · iexists _, _; isplitr; swap; · iexact H8
      ipureintro; rfl
    isplitl [H9]; · iexact H9
    isplitl [HA]; · iexists _; iexact HA
    iexists _; iexact HK

end Cert.KernelIdeal.Attn

end
-- ==== Proof.AttnStep.lean ====
/- One step of the attention's backward body as a function of values: what a block of queries leaves in the buffers. -/
module

public import proofs.«01_k».proof.Proof.AttnBase
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the body reads at a point: the block of queries and its factors, the head's keys (plain and rotated) and values,
    the logarithms of the rows' sums, and the incoming gradient. -/
structure Ins (F : FTy → Type) where
  q : Vec F S512x256 .f32
  qt : Vec F S512x256 .f32
  kn : Vec F S2048x128 .bf16
  kr : Vec F S2048x128 .bf16
  v : Vec F S2048x128 .bf16
  lse : Vec F S1x512x1 .f32
  ct : Vec F S512x128 .f32

/-- What the buffers hold after a point: the queries' gradient, the gradient of the head's keys and values, the gradient
    of the rotated keys so far, the head's sums so far, and the head's keys. -/
structure St (F : FTy → Type) where
  dq : Vec F S512x256 .bf16
  dkv : Vec F S2048x256 .bf16
  dkr : Vec F S2048x128 .f32
  acc : Vec F S2048x256 .f32
  keys : Vec F S2048x256 .bf16

/-- The arithmetic of a block of queries that looks at the first `n` keys. -/
structure Blk (F : FTy → Type) (n : ℕ) where
  q : (q qt : Vec F S512x256 .f32) → FVec F S512x256 .bf16
  p : (q qt : Vec F S512x256 .f32) → (keys : Vec F ⟨2, ![n, 256]⟩ .bf16) → (lse : Vec F S1x512x1 .f32) → FVec F ⟨2, ![512, n]⟩ .f32
  ds : (q qt : Vec F S512x256 .f32) → (keys : Vec F ⟨2, ![n, 256]⟩ .bf16) → (lse : Vec F S1x512x1 .f32) → (ct : Vec F S512x128 .f32) →
    (v : Vec F ⟨2, ![n, 128]⟩ .bf16) → FVec F ⟨2, ![512, n]⟩ .bf16
  dq : (q qt : Vec F S512x256 .f32) → (keys : Vec F ⟨2, ![n, 256]⟩ .bf16) → (lse : Vec F S1x512x1 .f32) → (ct : Vec F S512x128 .f32) →
    (v : Vec F ⟨2, ![n, 128]⟩ .bf16) → FVec F S512x256 .bf16
  addK : (q : FVec F S512x256 .bf16) → (ds : FVec F ⟨2, ![512, n]⟩ .bf16) → (acc : Vec F ⟨2, ![n, 128]⟩ .f32) → FVec F ⟨2, ![n, 128]⟩ .f32
  addV : (p : FVec F ⟨2, ![512, n]⟩ .f32) → (ct : Vec F S512x128 .f32) → (acc : Vec F ⟨2, ![n, 128]⟩ .f32) → FVec F ⟨2, ![n, 128]⟩ .f32
  addR : (q : FVec F S512x256 .bf16) → (ds : FVec F ⟨2, ![512, n]⟩ .bf16) → (dkr : Vec F ⟨2, ![n, 128]⟩ .f32) → FVec F ⟨2, ![n, 128]⟩ .f32

/-- The block of queries 0 … 511, which looks at 512 keys. -/
def blk0 : Blk F 512 where
  q := k0_pay22
  p := k0_pay23
  ds q qt keys lse ct v := k0_pay24 q qt keys lse ct v
  dq q qt keys lse ct v := k0_pay25 q qt keys lse ct v keys qt
  addK := k0_pay6
  addV := k0_pay7
  addR := k0_pay8

/-- The block of queries 512 … 1023, which looks at 1024 keys. -/
def blk1 : Blk F 1024 where
  q := k0_pay26
  p := k0_pay27
  ds q qt keys lse ct v := k0_pay28 q qt keys lse ct v
  dq q qt keys lse ct v := k0_pay29 q qt keys lse ct v keys qt
  addK := k0_pay10
  addV := k0_pay11
  addR := k0_pay12

/-- The block of queries 1024 … 1535, which looks at 1536 keys. -/
def blk2 : Blk F 1536 where
  q := k0_pay30
  p := k0_pay31
  ds q qt keys lse ct v := k0_pay32 q qt keys lse ct v
  dq q qt keys lse ct v := k0_pay33 q qt keys lse ct v keys qt
  addK := k0_pay14
  addV := k0_pay15
  addR := k0_pay16

/-- The block of queries 1536 … 2047, which looks at 2048 keys. -/
def blk3 : Blk F 2048 where
  q := k0_pay34
  p := k0_pay35
  ds q qt keys lse ct v := k0_pay36 q qt keys lse ct v
  dq q qt keys lse ct v := k0_pay37 q qt keys lse ct v keys qt
  addK := k0_pay18
  addV := k0_pay19
  addR := k0_pay20

theorem inb_rows {n w o : ℕ} (hn : n ≤ 2048) {W : ℕ} (hw : o + w ≤ W) (a : Fin 2) :
    (![0, o] : Fin 2 → ℕ) a + (![n, w] : Fin 2 → ℕ) a ≤ (⟨2, ![2048, W]⟩ : Shape).size a := by
  fin_cases a
  · show 0 + n ≤ 2048; omega
  · show o + w ≤ W; exact hw

/-- The first `n` rows of `w` columns from column `o`. -/
abbrev rows {e : EltTy} (n : ℕ) (hn : n ≤ 2048) (o w W : ℕ) (hw : o + w ≤ W) (x : Vec F ⟨2, ![2048, W]⟩ e) : Vec F ⟨2, ![n, w]⟩ e :=
  VecWindow.window (s := ⟨2, ![2048, W]⟩) x ![0, o] ![n, w] (inb_rows hn hw)

/-- The head's keys side by side: the plain half and the rotated half. -/
def keysOf (kn kr : Vec F S2048x128 .bf16) : Vec F S2048x256 .bf16 :=
  VecWindow.put (s := S2048x256) (VecWindow.put (s := S2048x256) (fun _ => Scalar.ofBits .bf16 0x0000#16) ![0, 0] ![2048, 128] (k0_pay1 kn)) ![0, 128] ![2048, 128] (k0_pay2 kr)

namespace Blk

variable {n : ℕ} (B : Blk F n) (hn : n ≤ 2048) (x : Ins F) (keys : Vec F S2048x256 .bf16)

/-- The weights of the block. -/
def pAt : FVec F ⟨2, ![512, n]⟩ .f32 := B.p x.q x.qt (rows n hn 0 256 256 (by decide) keys) x.lse

/-- The gradient of the block's scores. -/
def dsAt : FVec F ⟨2, ![512, n]⟩ .bf16 :=
  B.ds x.q x.qt (rows n hn 0 256 256 (by decide) keys) x.lse x.ct (rows n hn 0 128 128 (by decide) x.v)

/-- The gradient of the block's queries. -/
def dqAt : FVec F S512x256 .bf16 :=
  B.dq x.q x.qt (rows n hn 0 256 256 (by decide) keys) x.lse x.ct (rows n hn 0 128 128 (by decide) x.v)

/-- The head's sums with the block's share added. -/
def accAt (acc : Vec F S2048x256 .f32) : Vec F S2048x256 .f32 :=
  VecWindow.put (s := S2048x256)
    (VecWindow.put (s := S2048x256) acc ![0, 0] ![n, 128]
      (B.addK (B.q x.q x.qt) (B.dsAt hn x keys) (rows n hn 0 128 256 (by decide) acc)))
    ![0, 128] ![n, 128] (B.addV (B.pAt hn x keys) x.ct (rows n hn 128 128 256 (by decide) acc))

/-- The rotated keys' gradient with the block's share added. -/
def dkrAt (dkr : Vec F S2048x128 .f32) : Vec F S2048x128 .f32 :=
  VecWindow.put (s := S2048x128) dkr ![0, 0] ![n, 128]
    (B.addR (B.q x.q x.qt) (B.dsAt hn x keys) (rows n hn 0 128 128 (by decide) dkr))

/-- What the block leaves in the buffers that held `keys`, `acc` and `dkr`. -/
def step (acc : Vec F S2048x256 .f32) (dkr : Vec F S2048x128 .f32) : St F where
  dq := B.dqAt hn x keys
  dkv := k0_pay21 (B.accAt hn x keys acc)
  dkr := B.dkrAt hn x keys dkr
  acc := B.accAt hn x keys acc
  keys := keys

end Blk

theorem window_all {α : Type} {s : Shape} {size : Fin s.rank → ℕ} (x : s.Idx → α) (off : Fin s.rank → ℕ)
    (inb : ∀ a, off a + size a ≤ s.size a) (hs : size = s.size) : HEq (VecWindow.window x off size inb) x := by
  subst hs
  exact heq_of_eq (funext fun y => congrArg x (Rect.emb_unit_full inb y))

theorem all_qt (x : Vec F S512x256 .f32) (inb) : VecWindow.window (s := S512x256) x ![0, 0] ![512, 256] inb = x :=
  eq_of_heq (window_all x _ inb rfl)
theorem all_lse (x : Vec F S1x512x1 .f32) (inb) : VecWindow.window (s := S1x512x1) x ![0, 0, 0] ![1, 512, 1] inb = x :=
  eq_of_heq (window_all x _ inb rfl)
theorem all_ct (x : Vec F S512x128 .f32) (inb) : VecWindow.window (s := S512x128) x ![0, 0] ![512, 128] inb = x :=
  eq_of_heq (window_all x _ inb rfl)
theorem all_kn (x : Vec F S2048x128 .bf16) (inb) : VecWindow.window (s := S2048x128) x ![0, 0] ![2048, 128] inb = x :=
  eq_of_heq (window_all x _ inb rfl)

/-- Two stores of the two halves leave nothing of what was there before. -/
theorem halves_any {α : Type} (x x' : S2048x256.Idx → α) (l r : ((a : Fin 2) → Fin ((![2048, 128] : Fin 2 → ℕ) a)) → α) :
    VecWindow.put (s := S2048x256) (VecWindow.put (s := S2048x256) x ![0, 0] ![2048, 128] l) ![0, 128] ![2048, 128] r
      = VecWindow.put (s := S2048x256) (VecWindow.put (s := S2048x256) x' ![0, 0] ![2048, 128] l) ![0, 128] ![2048, 128] r := by
  funext y
  unfold VecWindow.put
  dsimp only
  by_cases h1 : ∀ a : Fin 2, (![0, 128] : Fin 2 → ℕ) a ≤ (y a).val ∧ (y a).val < (![0, 128] : Fin 2 → ℕ) a + (![2048, 128] : Fin 2 → ℕ) a
  · rw [dif_pos h1, dif_pos h1]
  · rw [dif_neg h1, dif_neg h1]
    have h2 : ∀ a : Fin 2, (![0, 0] : Fin 2 → ℕ) a ≤ (y a).val ∧ (y a).val < (![0, 0] : Fin 2 → ℕ) a + (![2048, 128] : Fin 2 → ℕ) a := by
      have r : (y 0).val < 2048 := (y 0).isLt
      have q : (y 1).val < 256 := (y 1).isLt
      have k : ¬ 128 ≤ (y 1).val := fun k => h1 fun a => by
        fin_cases a
        · exact ⟨Nat.zero_le _, by show (y 0).val < 0 + 2048; omega⟩
        · exact ⟨k, by show (y 1).val < 128 + 128; omega⟩
      intro a
      fin_cases a
      · exact ⟨Nat.zero_le _, by show (y 0).val < 0 + 2048; omega⟩
      · exact ⟨Nat.zero_le _, by show (y 1).val < 0 + 128; omega⟩
    rw [dif_pos h2, dif_pos h2]

/-- The two stores of the keys leave the keys side by side. -/
theorem keys_any (base : Vec F S2048x256 .bf16) (kn kr : Vec F S2048x128 .bf16) :
    VecWindow.put (s := S2048x256) (VecWindow.put (s := S2048x256) base ![0, 0] ![2048, 128] (k0_pay1 kn)) ![0, 128] ![2048, 128] (k0_pay2 kr)
      = keysOf kn kr := halves_any _ _ _ _

/-- A store into the left columns leaves the right ones. -/
theorem right_of_left {n : ℕ} (x : Vec F S2048x256 .f32) (w) (inb) :
    VecWindow.window (s := S2048x256) (VecWindow.put (s := S2048x256) x ![0, 0] ![n, 128] w) ![0, 128] ![n, 128] inb
      = VecWindow.window (s := S2048x256) x ![0, 128] ![n, 128] inb :=
  VecWindow.window_put_of_disjoint x _ _ _ _ inb w (1 : Fin 2) (.inr (Nat.le_refl 128))

/-- A store of the whole buffer leaves nothing of what was there. -/
theorem put_all {α : Type} {n k : ℕ} (x : (⟨2, ![n, k]⟩ : Shape).Idx → α) (w : (⟨2, ![n, k]⟩ : Shape).Idx → α) :
    VecWindow.put (s := ⟨2, ![n, k]⟩) x ![0, 0] ![n, k] w = w := by
  funext y
  have h : ∀ a : Fin 2, (![0, 0] : Fin 2 → ℕ) a ≤ (y a).val ∧ (y a).val < (![0, 0] : Fin 2 → ℕ) a + (![n, k] : Fin 2 → ℕ) a := by
    have r : (y 0).val < n := (y 0).isLt
    have q : (y 1).val < k := (y 1).isLt
    intro a
    fin_cases a
    · exact ⟨Nat.zero_le _, by show (y 0).val < 0 + n; omega⟩
    · exact ⟨Nat.zero_le _, by show (y 1).val < 0 + k; omega⟩
  refine (dif_pos h).trans (congrArg w (funext fun a => Fin.ext ?_))
  fin_cases a <;> exact Nat.sub_zero _

theorem put_dq (x w : Vec F S512x256 .bf16) : VecWindow.put (s := S512x256) x ![0, 0] ![512, 256] w = w := put_all x w
theorem put_acc (x w : Vec F S2048x256 .f32) : VecWindow.put (s := S2048x256) x ![0, 0] ![2048, 256] w = w := put_all x w
theorem put_dkv (x w : Vec F S2048x256 .bf16) : VecWindow.put (s := S2048x256) x ![0, 0] ![2048, 256] w = w := put_all x w
theorem put_dkr (x w : Vec F S2048x128 .f32) : VecWindow.put (s := S2048x128) x ![0, 0] ![2048, 128] w = w := put_all x w
theorem all_acc (x : Vec F S2048x256 .f32) (inb) : VecWindow.window (s := S2048x256) x ![0, 0] ![2048, 256] inb = x :=
  eq_of_heq (window_all x _ inb rfl)

section Loads

variable {sp : Space} {s : Shape} {e : EltTy} (M : Memref sig .tc sp s e) (h : M.IsWhole)

/-- A load of all of a buffer that holds `x` gives `x`. -/
theorem ld_all (x : Vec F s e) {off : Fin s.rank → ℕ} (inb : ∀ a, off a + s.size a ≤ s.size a) :
    View.readAt (Elt F) M.view (Rect.unit off s.size inb).toLoadRect (h.unread x) = x := by
  rw [View.readAt_full, h.read_unread]

/-- A load of a window of a buffer that holds `x` gives that window of `x`. -/
theorem ld_window (x : Vec F s e) {off size : Fin s.rank → ℕ} (inb : ∀ a, off a + size a ≤ s.size a) :
    View.readAt (Elt F) M.view (Rect.unit off size inb).toLoadRect (h.unread x) = VecWindow.window x off size inb := by
  rw [View.readAt_unit M.view _ inb rfl inb, h.read_unread]

/-- A load of a window after stores gives that window of what the stores left. -/
theorem ld_writes (f : M.view.ty.Contents (Elt F)) (L : List (View.Piece (Elt F) s e)) {off size : Fin s.rank → ℕ}
    (inb : ∀ a, off a + size a ≤ s.size a) :
    View.readAt (Elt F) M.view (Rect.unit off size inb).toLoadRect (M.view.writes (Elt F) f L)
      = VecWindow.window (M.view.read (Elt F) (M.view.writes (Elt F) f L)) off size inb :=
  View.readAt_unit M.view _ inb rfl inb

theorem ld_cov (L : List (View.Piece (Elt F) s e)) {off size : Fin s.rank → ℕ} (inb : ∀ a, off a + size a ≤ s.size a) :
    M.view.readCov L (Rect.unit off size inb).toLoadRect
      = VecWindow.window (M.view.read (Elt F) (M.view.writes (Elt F) M.view.junk L)) off size inb :=
  View.readAt_unit M.view _ inb rfl inb

/-- The last store of a window, over what the stores before left. -/
theorem rd_put (f : M.view.ty.Contents (Elt F)) {off size : Fin s.rank → ℕ} (inb : ∀ a, off a + size a ≤ s.size a)
    (w : (Rect.unit off size inb).shape.Idx → Elt F e) (L : List (View.Piece (Elt F) s e)) :
    M.view.read (Elt F) (M.view.writes (Elt F) f (⟨Rect.unit off size inb, w⟩ :: L))
      = VecWindow.put (M.view.read (Elt F) (M.view.writes (Elt F) f L)) off size w :=
  View.read_writes_cons_put M.view f inb w L rfl

/-- A last store of the whole buffer is what it holds. -/
theorem rd_all (f : M.view.ty.Contents (Elt F)) {off : Fin s.rank → ℕ} (inb : ∀ a, off a + s.size a ≤ s.size a)
    (w : (Rect.unit off s.size inb).shape.Idx → Elt F e) (L : List (View.Piece (Elt F) s e)) :
    M.view.read (Elt F) (M.view.writes (Elt F) f (⟨Rect.unit off s.size inb, w⟩ :: L)) = w :=
  View.read_writes_full M.view f inb w L

/-- With no store a buffer that held `x` holds `x`. -/
theorem rd_nil (x : Vec F s e) : M.view.read (Elt F) (M.view.writes (Elt F) (h.unread x) []) = x := h.read_unread x

end Loads

end Cert.KernelIdeal.Attn

end
-- ==== Proof.AttnReadA.lean ====
/- What the stores of the attention's backward body amount to: first head of a batch, first block of queries. -/
module

public import proofs.«01_k».proof.Proof.AttnRunE
public import proofs.«01_k».proof.Proof.AttnStep

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg3 : Memref sig .tc .vmem S512x256 .f32) (harg3 : arg3.IsWhole)
  (arg4 : Memref sig .tc .vmem S512x256 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x512x1 .f32) (harg8 : arg8.IsWhole)
  (arg9 : Memref sig .tc .vmem S512x128 .f32) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x128 .f32) (harg12 : arg12.IsWhole)
  (arg13 : Memref sig .tc .vmem S2048x256 .f32) (harg13 : arg13.IsWhole)
  (arg14 : Memref sig .tc .vmem S2048x256 .bf16) (harg14 : arg14.IsWhole)
  (hc0 : first i)
  (hc1 : k0_cond3 i = 1#1)
  (hc2 : k0_cond4 i = 1#1)
  (hc3 : ¬(k0_cond5 i = 1#1))
  (hc4 : ¬(k0_cond6 i = 1#1))
  (hc5 : ¬(k0_cond7 i = 1#1))
  (hc6 : ¬(k0_cond8 i = 1#1))
  (x : Ins F)

theorem dqA (f : arg10.view.ty.Contents (Elt F)) : arg10.view.read (Elt F) (arg10.view.writes (Elt F) f
    (runA c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct).1) = (blk0.step (by decide) x (keysOf x.kn x.kr) k0_pay3 k0_pay4).dq := by
  unfold runA; dsimp only; sl_unfold_words
  simp only [rd_put, rd_nil, ld_window, ld_writes, ld_cov]
  repeat rw [all_qt]
  repeat rw [all_lse]
  repeat rw [all_ct]
  repeat rw [all_kn]
  repeat rw [put_dq]
  repeat rw [keys_any]
  rfl

theorem dkrA (f : arg12.view.ty.Contents (Elt F)) : arg12.view.read (Elt F) (arg12.view.writes (Elt F) f
    (runA c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct).2.1) = (blk0.step (by decide) x (keysOf x.kn x.kr) k0_pay3 k0_pay4).dkr := by
  unfold runA; dsimp only; sl_unfold_words
  simp only [rd_put, rd_nil, ld_window, ld_writes, ld_cov]
  repeat rw [all_qt]
  repeat rw [all_lse]
  repeat rw [all_ct]
  repeat rw [all_kn]
  repeat rw [put_dkr]
  repeat rw [keys_any]
  rfl

theorem accA (f : arg13.view.ty.Contents (Elt F)) : arg13.view.read (Elt F) (arg13.view.writes (Elt F) f
    (runA c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct).2.2.1) = (blk0.step (by decide) x (keysOf x.kn x.kr) k0_pay3 k0_pay4).acc := by
  unfold runA; dsimp only; sl_unfold_words
  simp only [rd_put, rd_nil, ld_window, ld_writes, ld_cov]
  repeat rw [all_qt]
  repeat rw [all_lse]
  repeat rw [all_ct]
  repeat rw [all_kn]
  repeat rw [put_acc]
  repeat rw [right_of_left]
  repeat rw [keys_any]
  rfl

theorem keysA (f : arg14.view.ty.Contents (Elt F)) : arg14.view.read (Elt F) (arg14.view.writes (Elt F) f
    (runA c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct).2.2.2.1) = (blk0.step (by decide) x (keysOf x.kn x.kr) k0_pay3 k0_pay4).keys := by
  unfold runA; dsimp only; sl_unfold_words
  simp only [rd_put, rd_nil, ld_window, ld_writes, ld_cov]
  repeat rw [all_kn]
  repeat rw [keys_any]
  rfl

end Cert.KernelIdeal.Attn

end
-- ==== Proof.AttnReadB.lean ====
/- What the stores of the attention's backward body amount to: second block of queries. -/
module

public import proofs.«01_k».proof.Proof.AttnRunE
public import proofs.«01_k».proof.Proof.AttnStep

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg3 : Memref sig .tc .vmem S512x256 .f32) (harg3 : arg3.IsWhole)
  (arg4 : Memref sig .tc .vmem S512x256 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x512x1 .f32) (harg8 : arg8.IsWhole)
  (arg9 : Memref sig .tc .vmem S512x128 .f32) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x128 .f32) (harg12 : arg12.IsWhole)
  (arg13 : Memref sig .tc .vmem S2048x256 .f32) (harg13 : arg13.IsWhole)
  (arg14 : Memref sig .tc .vmem S2048x256 .bf16) (harg14 : arg14.IsWhole)
  (hc0 : ¬(first i))
  (hc1 : ¬(k0_cond3 i = 1#1))
  (hc2 : ¬(k0_cond4 i = 1#1))
  (hc3 : k0_cond5 i = 1#1)
  (hc4 : ¬(k0_cond6 i = 1#1))
  (hc5 : ¬(k0_cond7 i = 1#1))
  (hc6 : ¬(k0_cond8 i = 1#1))
  (x : Ins F) (dkr : Vec F S2048x128 .f32) (acc : Vec F S2048x256 .f32) (keys : Vec F S2048x256 .bf16)

theorem dqB (f : arg10.view.ty.Contents (Elt F)) : arg10.view.read (Elt F) (arg10.view.writes (Elt F) f
    (runB c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).1) = (blk1.step (by decide) x keys acc dkr).dq := by
  unfold runB; dsimp only; sl_unfold_words
  simp only [rd_put, rd_nil, ld_window, ld_writes]
  repeat rw [all_qt]
  repeat rw [all_lse]
  repeat rw [all_ct]
  repeat rw [put_dq]
  rfl

theorem dkrB : arg12.view.read (Elt F) (arg12.view.writes (Elt F) (harg12.unread dkr)
    (runB c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).2.1) = (blk1.step (by decide) x keys acc dkr).dkr := by
  unfold runB; dsimp only; sl_unfold_words
  simp only [rd_put, rd_nil, ld_window, ld_writes]
  repeat rw [all_qt]
  repeat rw [all_lse]
  repeat rw [all_ct]
  rfl

theorem accB : arg13.view.read (Elt F) (arg13.view.writes (Elt F) (harg13.unread acc)
    (runB c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).2.2.1) = (blk1.step (by decide) x keys acc dkr).acc := by
  unfold runB; dsimp only; sl_unfold_words
  simp only [rd_put, rd_nil, ld_window, ld_writes]
  repeat rw [all_qt]
  repeat rw [all_lse]
  repeat rw [all_ct]
  rfl

end Cert.KernelIdeal.Attn

end
-- ==== Proof.AttnReadC.lean ====
/- What the stores of the attention's backward body amount to: third block of queries. -/
module

public import proofs.«01_k».proof.Proof.AttnRunE
public import proofs.«01_k».proof.Proof.AttnStep

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg3 : Memref sig .tc .vmem S512x256 .f32) (harg3 : arg3.IsWhole)
  (arg4 : Memref sig .tc .vmem S512x256 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x512x1 .f32) (harg8 : arg8.IsWhole)
  (arg9 : Memref sig .tc .vmem S512x128 .f32) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x128 .f32) (harg12 : arg12.IsWhole)
  (arg13 : Memref sig .tc .vmem S2048x256 .f32) (harg13 : arg13.IsWhole)
  (arg14 : Memref sig .tc .vmem S2048x256 .bf16) (harg14 : arg14.IsWhole)
  (hc0 : ¬(first i))
  (hc1 : ¬(k0_cond3 i = 1#1))
  (hc2 : ¬(k0_cond4 i = 1#1))
  (hc3 : ¬(k0_cond5 i = 1#1))
  (hc4 : k0_cond6 i = 1#1)
  (hc5 : ¬(k0_cond7 i = 1#1))
  (hc6 : ¬(k0_cond8 i = 1#1))
  (x : Ins F) (dkr : Vec F S2048x128 .f32) (acc : Vec F S2048x256 .f32) (keys : Vec F S2048x256 .bf16)

theorem dqC (f : arg10.view.ty.Contents (Elt F)) : arg10.view.read (Elt F) (arg10.view.writes (Elt F) f
    (runC c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).1) = (blk2.step (by decide) x keys acc dkr).dq := by
  unfold runC; dsimp only; sl_unfold_words
  simp only [rd_put, rd_nil, ld_window, ld_writes]
  repeat rw [all_qt]
  repeat rw [all_lse]
  repeat rw [all_ct]
  repeat rw [put_dq]
  rfl

theorem dkrC : arg12.view.read (Elt F) (arg12.view.writes (Elt F) (harg12.unread dkr)
    (runC c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).2.1) = (blk2.step (by decide) x keys acc dkr).dkr := by
  unfold runC; dsimp only; sl_unfold_words
  simp only [rd_put, rd_nil, ld_window, ld_writes]
  repeat rw [all_qt]
  repeat rw [all_lse]
  repeat rw [all_ct]
  rfl

theorem accC : arg13.view.read (Elt F) (arg13.view.writes (Elt F) (harg13.unread acc)
    (runC c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).2.2.1) = (blk2.step (by decide) x keys acc dkr).acc := by
  unfold runC; dsimp only; sl_unfold_words
  simp only [rd_put, rd_nil, ld_window, ld_writes]
  repeat rw [all_qt]
  repeat rw [all_lse]
  repeat rw [all_ct]
  rfl

end Cert.KernelIdeal.Attn

end
-- ==== Proof.AttnReadD.lean ====
/- What the stores of the attention's backward body amount to: last block of queries. -/
module

public import proofs.«01_k».proof.Proof.AttnRunE
public import proofs.«01_k».proof.Proof.AttnStep

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg3 : Memref sig .tc .vmem S512x256 .f32) (harg3 : arg3.IsWhole)
  (arg4 : Memref sig .tc .vmem S512x256 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x512x1 .f32) (harg8 : arg8.IsWhole)
  (arg9 : Memref sig .tc .vmem S512x128 .f32) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x128 .f32) (harg12 : arg12.IsWhole)
  (arg13 : Memref sig .tc .vmem S2048x256 .f32) (harg13 : arg13.IsWhole)
  (arg14 : Memref sig .tc .vmem S2048x256 .bf16) (harg14 : arg14.IsWhole)
  (hc0 : ¬(first i))
  (hc1 : ¬(k0_cond3 i = 1#1))
  (hc2 : ¬(k0_cond4 i = 1#1))
  (hc3 : ¬(k0_cond5 i = 1#1))
  (hc4 : ¬(k0_cond6 i = 1#1))
  (hc5 : k0_cond7 i = 1#1)
  (hc6 : k0_cond8 i = 1#1)
  (x : Ins F) (dkr : Vec F S2048x128 .f32) (acc : Vec F S2048x256 .f32) (keys : Vec F S2048x256 .bf16)

theorem dqD (f : arg10.view.ty.Contents (Elt F)) : arg10.view.read (Elt F) (arg10.view.writes (Elt F) f
    (runD c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).1) = (blk3.step (by decide) x keys acc dkr).dq := by
  unfold runD; dsimp only; sl_unfold_words
  simp only [rd_put, rd_nil, ld_window, ld_writes, ld_cov]
  repeat rw [all_qt]
  repeat rw [all_lse]
  repeat rw [all_ct]
  repeat rw [put_dq]
  rfl

theorem dkvD (f : arg11.view.ty.Contents (Elt F)) : arg11.view.read (Elt F) (arg11.view.writes (Elt F) f
    (runD c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).2.1) = (blk3.step (by decide) x keys acc dkr).dkv := by
  unfold runD; dsimp only; sl_unfold_words
  simp only [rd_put, rd_nil, ld_window, ld_writes, ld_cov]
  repeat rw [all_qt]
  repeat rw [all_lse]
  repeat rw [all_ct]
  rw [put_dkv, all_acc, halves_any _ acc]
  rfl

theorem dkrD : arg12.view.read (Elt F) (arg12.view.writes (Elt F) (harg12.unread dkr)
    (runD c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).2.2.1) = (blk3.step (by decide) x keys acc dkr).dkr := by
  unfold runD; dsimp only; sl_unfold_words
  simp only [rd_put, rd_nil, ld_window, ld_writes, ld_cov]
  repeat rw [all_qt]
  repeat rw [all_lse]
  repeat rw [all_ct]
  rfl

theorem accD : arg13.view.read (Elt F) (arg13.view.writes (Elt F) (harg13.unread acc)
    (runD c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr acc keys).2.2.2.1) = (blk3.step (by decide) x keys acc dkr).acc := by
  unfold runD; dsimp only; sl_unfold_words
  simp only [rd_put, rd_nil, ld_window, ld_writes, ld_cov]
  repeat rw [all_qt]
  repeat rw [all_lse]
  repeat rw [all_ct]
  rfl

end Cert.KernelIdeal.Attn

end
-- ==== Proof.AttnReadE.lean ====
/- What the stores of the attention's backward body amount to: a later head, first block of queries. -/
module

public import proofs.«01_k».proof.Proof.AttnRunE
public import proofs.«01_k».proof.Proof.AttnStep

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (c : Dev nD) (i : grid0.Coords)
  (arg3 : Memref sig .tc .vmem S512x256 .f32) (harg3 : arg3.IsWhole)
  (arg4 : Memref sig .tc .vmem S512x256 .f32) (harg4 : arg4.IsWhole)
  (arg5 : Memref sig .tc .vmem S2048x128 .bf16) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S1x512x1 .f32) (harg8 : arg8.IsWhole)
  (arg9 : Memref sig .tc .vmem S512x128 .f32) (harg9 : arg9.IsWhole)
  (arg10 : Memref sig .tc .vmem S512x256 .bf16) (harg10 : arg10.IsWhole)
  (arg11 : Memref sig .tc .vmem S2048x256 .bf16) (harg11 : arg11.IsWhole)
  (arg12 : Memref sig .tc .vmem S2048x128 .f32) (harg12 : arg12.IsWhole)
  (arg13 : Memref sig .tc .vmem S2048x256 .f32) (harg13 : arg13.IsWhole)
  (arg14 : Memref sig .tc .vmem S2048x256 .bf16) (harg14 : arg14.IsWhole)
  (hc0 : first i)
  (hc1 : ¬(k0_cond3 i = 1#1))
  (hc2 : k0_cond4 i = 1#1)
  (hc3 : ¬(k0_cond5 i = 1#1))
  (hc4 : ¬(k0_cond6 i = 1#1))
  (hc5 : ¬(k0_cond7 i = 1#1))
  (hc6 : ¬(k0_cond8 i = 1#1))
  (x : Ins F) (dkr : Vec F S2048x128 .f32)

theorem dqE (f : arg10.view.ty.Contents (Elt F)) : arg10.view.read (Elt F) (arg10.view.writes (Elt F) f
    (runE c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr).1) = (blk0.step (by decide) x (keysOf x.kn x.kr) k0_pay3 dkr).dq := by
  unfold runE; dsimp only; sl_unfold_words
  simp only [rd_put, rd_nil, ld_window, ld_writes, ld_cov]
  repeat rw [all_qt]
  repeat rw [all_lse]
  repeat rw [all_ct]
  repeat rw [all_kn]
  repeat rw [put_dq]
  repeat rw [keys_any]
  rfl

theorem dkrE : arg12.view.read (Elt F) (arg12.view.writes (Elt F) (harg12.unread dkr)
    (runE c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr).2.1) = (blk0.step (by decide) x (keysOf x.kn x.kr) k0_pay3 dkr).dkr := by
  unfold runE; dsimp only; sl_unfold_words
  simp only [rd_put, rd_nil, ld_window, ld_writes, ld_cov]
  repeat rw [all_qt]
  repeat rw [all_lse]
  repeat rw [all_ct]
  repeat rw [all_kn]
  repeat rw [put_dkr]
  repeat rw [keys_any]
  rfl

theorem accE (f : arg13.view.ty.Contents (Elt F)) : arg13.view.read (Elt F) (arg13.view.writes (Elt F) f
    (runE c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr).2.2.1) = (blk0.step (by decide) x (keysOf x.kn x.kr) k0_pay3 dkr).acc := by
  unfold runE; dsimp only; sl_unfold_words
  simp only [rd_put, rd_nil, ld_window, ld_writes, ld_cov]
  repeat rw [all_qt]
  repeat rw [all_lse]
  repeat rw [all_ct]
  repeat rw [all_kn]
  repeat rw [put_acc]
  repeat rw [right_of_left]
  repeat rw [keys_any]
  rfl

theorem keysE (f : arg14.view.ty.Contents (Elt F)) : arg14.view.read (Elt F) (arg14.view.writes (Elt F) f
    (runE c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 x.q x.qt x.kn x.kr x.v x.lse x.ct dkr).2.2.2.1) = (blk0.step (by decide) x (keysOf x.kn x.kr) k0_pay3 dkr).keys := by
  unfold runE; dsimp only; sl_unfold_words
  simp only [rd_put, rd_nil, ld_window, ld_writes, ld_cov]
  repeat rw [all_kn]
  repeat rw [keys_any]
  rfl

end Cert.KernelIdeal.Attn

end
-- ==== Proof.AttnFrame.lean ====
/- The attention's backward pass, point by point: what every buffer holds, the body's triple, and the run of the program. -/
module

public import proofs.«01_k».proof.Proof.AttnReadA
public import proofs.«01_k».proof.Proof.AttnReadB
public import proofs.«01_k».proof.Proof.AttnReadC
public import proofs.«01_k».proof.Proof.AttnReadD
public import proofs.«01_k».proof.Proof.AttnReadE
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body reads at point `t`: the blocks of the seven inputs. -/
def ins (c : Dev nD) (t : Fin cfg0.N) : Ins F where
  q := iblk m c 0 t
  qt := iblk m c 1 t
  kn := iblk m c 2 t
  kr := iblk m c 3 t
  v := iblk m c 4 t
  lse := iblk m c 5 t
  ct := iblk m c 6 t

/-- What the body at point `t` makes of what the buffers held before. -/
def stepAt (c : Dev nD) (t : Fin cfg0.N) (s : St F) : St F :=
  if t.val % 4 = 0 then
    blk0.step (by decide) (ins m c t) (keysOf (ins m c t).kn (ins m c t).kr) k0_pay3 (if t.val % 32 = 0 then k0_pay4 else s.dkr)
  else if t.val % 4 = 1 then blk1.step (by decide) (ins m c t) s.keys s.acc s.dkr
  else if t.val % 4 = 2 then blk2.step (by decide) (ins m c t) s.keys s.acc s.dkr
  else blk3.step (by decide) (ins m c t) s.keys s.acc s.dkr

/-- Before the first point the buffers hold anything: here zeros stand for it, and nothing reads them. -/
def start : St F where
  dq := fun _ => Scalar.ofBits .bf16 0x0000#16
  dkv := fun _ => Scalar.ofBits .bf16 0x0000#16
  dkr := k0_pay4
  acc := k0_pay3
  keys := fun _ => Scalar.ofBits .bf16 0x0000#16

/-- What the buffers hold before point `n`. -/
def held (c : Dev nD) : ℕ → St F
  | 0 => start
  | n + 1 => if h : n < cfg0.N then stepAt m c ⟨n, h⟩ (held c n) else held c n

/-- What the buffers hold after point `t`. -/
def afterAt (c : Dev nD) (t : Fin cfg0.N) : St F := stepAt m c t (held m c t.val)

theorem held_succ (c : Dev nD) (t : Fin cfg0.N) : held m c (t.val + 1) = afterAt m c t := dif_pos t.isLt

theorem after_A (c : Dev nD) (t : Fin cfg0.N) (h : t.val % 32 = 0) :
    afterAt m c t = blk0.step (by decide) (ins m c t) (keysOf (ins m c t).kn (ins m c t).kr) k0_pay3 k0_pay4 := by
  unfold afterAt stepAt; rw [if_pos (by omega), if_pos h]
theorem after_E (c : Dev nD) (t : Fin cfg0.N) (h : t.val % 4 = 0) (h' : ¬t.val % 32 = 0) :
    afterAt m c t = blk0.step (by decide) (ins m c t) (keysOf (ins m c t).kn (ins m c t).kr) k0_pay3 (held m c t.val).dkr := by
  unfold afterAt stepAt; rw [if_pos h, if_neg h']
theorem after_B (c : Dev nD) (t : Fin cfg0.N) (h : t.val % 4 = 1) : afterAt m c t
    = blk1.step (by decide) (ins m c t) (held m c t.val).keys (held m c t.val).acc (held m c t.val).dkr := by
  unfold afterAt stepAt; rw [if_neg (by omega), if_pos h]
theorem after_C (c : Dev nD) (t : Fin cfg0.N) (h : t.val % 4 = 2) : afterAt m c t
    = blk2.step (by decide) (ins m c t) (held m c t.val).keys (held m c t.val).acc (held m c t.val).dkr := by
  unfold afterAt stepAt; rw [if_neg (by omega), if_neg (by omega), if_pos h]
theorem after_D (c : Dev nD) (t : Fin cfg0.N) (h : t.val % 4 = 3) : afterAt m c t
    = blk3.step (by decide) (ins m c t) (held m c t.val).keys (held m c t.val).acc (held m c t.val).dkr := by
  unfold afterAt stepAt; rw [if_neg (by omega), if_neg (by omega), if_neg (by omega)]

/-- Between points: the sums and the keys at what the point before left (before the first point at anything). -/
def Between (c : Dev nD) : ℕ → sProp 𝕄
  | 0 => Pipeline.ΦA spec0 c
  | n + 1 => iprop(iprop(owns (c : Thread nD τ) accM fullShare (held m c (n + 1)).acc ∗ owns (c : Thread nD τ) keyM fullShare (held m c (n + 1)).keys)
      ∗ (∃ r, prngReg c r))

theorem Between_pos (c : Dev nD) (n : ℕ) (hz : n ≠ 0) :
    Between m c n = iprop(iprop(owns (c : Thread nD τ) accM fullShare (held m c n).acc ∗ owns (c : Thread nD τ) keyM fullShare (held m c n).keys)
      ∗ (∃ r, prngReg c r)) := by
  cases n with
  | zero => exact absurd rfl hz
  | succ n => rfl

/-- The proof data of the call: each input's block stays, the outputs' blocks are what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (afterAt m c t).dq
    | ⟨8, _⟩ => (afterAt m c t).dkv
    | ⟨9, _⟩ => (afterAt m c t).dkr
  Φ t := Between m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (afterAt m c t).dq := by dsimp only [dats]
theorem after_8 (c : Dev nD) (t : Fin cfg0.N) : (dats m 0 c).after 8 t = (afterAt m c t).dkv := by dsimp only [dats]
theorem after_9 (c : Dev nD) (t : Fin cfg0.N) : (dats m 0 c).after 9 t = (afterAt m c t).dkr := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

theorem idle_8 (t : Fin cfg0.N) (h : ¬t.val % 4 = 3) : cfg0.idle 8 (grid0.coords t) = true := by
  show (!(k0_cond8 (grid0.coords t) == 1#1)) = true
  have h' : ¬ k0_cond8 (grid0.coords t) = 1#1 := fun e => h ((last_iff t).mp e)
  simp only [Bool.not_eq_true', beq_eq_false_iff_ne, ne_eq]
  exact h'

theorem live_8 (t : Fin cfg0.N) (h : t.val % 4 = 3) : cfg0.idle 8 (grid0.coords t) = false := by
  show (!(k0_cond8 (grid0.coords t) == 1#1)) = false
  rw [(last_iff t).mpr h]; rfl

theorem some_block (t : Fin cfg0.N) : (!(k0_cond4 (grid0.coords t) == 1#1) && !(k0_cond5 (grid0.coords t) == 1#1)
    && !(k0_cond6 (grid0.coords t) == 1#1) && !(k0_cond7 (grid0.coords t) == 1#1)) = false := by
  rcases (by omega : t.val % 4 = 0 ∨ t.val % 4 = 1 ∨ t.val % 4 = 2 ∨ t.val % 4 = 3) with h | h | h | h
  · rw [(q0_iff t).mpr h]; rfl
  · rw [(q1_iff t).mpr h]; simp
  · rw [(q2_iff t).mpr h]; simp
  · rw [(q3_iff t).mpr h]; simp

theorem live_7 (t : Fin cfg0.N) : cfg0.idle 7 (grid0.coords t) = false := some_block t
theorem live_9 (t : Fin cfg0.N) : cfg0.idle 9 (grid0.coords t) = false := by
  show (!(k0_cond3 (grid0.coords t) == 1#1) && !(k0_cond4 (grid0.coords t) == 1#1) && !(k0_cond5 (grid0.coords t) == 1#1)
    && !(k0_cond6 (grid0.coords t) == 1#1) && !(k0_cond7 (grid0.coords t) == 1#1)) = false
  rw [Bool.and_assoc, Bool.and_assoc, Bool.and_assoc, ← Bool.and_assoc (!(k0_cond5 _ == 1#1)), ← Bool.and_assoc (!(k0_cond4 _ == 1#1)),
    ← Bool.and_assoc (!(k0_cond4 _ == 1#1)), some_block, Bool.and_false]

/-- The rotated keys' gradient is found as the point before left it, but at a batch's first point. -/
theorem before_9 (c : Dev nD) (t : Fin cfg0.N) (h : ¬t.val % 32 = 0) (d) : (dats m 0 c).before 9 t d = (held m c t.val).dkr := by
  have hz : t.val ≠ 0 := fun e => h (by rw [e])
  have hlt : t.val - 1 < cfg0.N := Nat.lt_of_le_of_lt (Nat.sub_le _ _) t.isLt
  have hfl : (cfg0.win 9).flush ⟨t.val - 1, hlt⟩ = false := by
    cases e : (cfg0.win 9).flush ⟨t.val - 1, hlt⟩
    · rfl
    · have := (flush0_9 ⟨t.val - 1, hlt⟩).mp e; exfalso; dsimp only at this; omega
  rw [(dats m 0 c).before_of_pos 9 t hz ((cfg0.win 9).fetch_out rfl t) d, hfl, if_neg Bool.false_ne_true]
  unfold Dat.left
  rw [live_9 ⟨t.val - 1, hlt⟩]
  show (dats m 0 c).kept 9 ⟨t.val - 1, hlt⟩ d = _
  unfold Dat.kept
  rw [Pipeline.fill_of_clip_none 9 _ (fun _ => rfl) d ((dats m 0 c).after 9 _), Pipeline.Window.fill_cut, after_9, ← held_succ]
  show (held m c (t.val - 1 + 1)).dkr = _
  rw [Nat.sub_add_cancel (Nat.one_le_iff_ne_zero.mpr hz)]

/-- The buffer of the keys' and values' gradient holds nothing of this head before its last block. -/
theorem before_8 (c : Dev nD) (d) : ∀ (n : ℕ) (h : n < cfg0.N), (dats m 0 c).before 8 ⟨n, h⟩ d = d
  | 0, h => by
    unfold Dat.before
    rw [if_neg (by rw [(cfg0.win 8).fetch_out rfl]; exact Bool.false_ne_true), if_pos rfl]
  | n + 1, h => by
    have hn : n < cfg0.N := Nat.lt_of_succ_lt h
    rw [(dats m 0 c).before_of_pos 8 ⟨n + 1, h⟩ (Nat.succ_ne_zero n) ((cfg0.win 8).fetch_out rfl _) d]
    show (if (cfg0.win 8).flush ⟨n, hn⟩ = true then d else (dats m 0 c).left 8 ⟨n, hn⟩ d) = d
    by_cases e : n % 4 = 3
    · rw [if_pos ((flush0_8 ⟨n, hn⟩).mpr e)]
    · rw [if_neg (fun k => e ((flush0_8 ⟨n, hn⟩).mp k))]
      unfold Dat.left
      rw [show cfg0.idle 8 (cfg0.grid.coords ⟨n, hn⟩) = true from idle_8 ⟨n, hn⟩ e]
      exact before_8 c d n hn

/-- What the body at point `t` is called with, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

set_option maxHeartbeats 4000000 in
/-- At the first block of queries of a batch's first head the body leaves what `afterAt` says. -/
theorem sound_A (c : Dev nD) (t : Fin cfg0.N) (h : t.val % 32 = 0) :
    bodyPre m c t ⊢ wp frame (wpE (defs₀ (F := F)) Variants.none c none) Set.univ (bodyAt0 t) (fun _ => bodyPost m c t) := by
  unfold bodyPre bodyPost bodyAt0
  have hN : t.val < 64 := val_lt t
  simp only [before_0, before_1, before_2, before_3, before_4, before_5, before_6]
  rw [show (dats m 0 c).owesAt () t.succ = (dats m 0 c).owesAt () t.castSucc from rfl]
  rw [show (dats m 0 c).Φ t.succ = Between m c (t.val + 1) from rfl, Between_pos m c _ (Nat.succ_ne_zero _), held_succ,
    show (dats m 0 c).Φ t.castSucc = Between m c t.val from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t (live_7 t), after_7, leaves_live m c 9 t (live_9 t), after_9]
  rw [(dats m 0 c).leavesExact_idle 8 t (idle_8 t (by omega)) (by
    cases e : (cfg0.win 8).flush t
    · rfl
    · have := (flush0_8 t).mp e; exfalso; omega)]
  simp only [show ∀ d, (dats m 0 c).before 8 t d = d from fun d => before_8 m c d t.val t.isLt]
  rw [after_A m c t h]
  by_cases hz : t.val = 0
  · rw [hz, show Between m c 0 = Pipeline.ΦA spec0 c from rfl, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) accM (Memref.isWhole_whole _) keyM (Memref.isWhole_whole _) ((first_iff t).mpr (by omega)) ((start_iff t).mpr (by omega)) ((q0_iff t).mpr (by omega)) (fun e => absurd ((q1_iff t).mp e) (by omega)) (fun e => absurd ((q2_iff t).mp e) (by omega)) (fun e => absurd ((q3_iff t).mp e) (by omega)) (fun e => absurd ((last_iff t).mp e) (by omega)) (ins m c t).q (ins m c t).qt (ins m c t).kn (ins m c t).kr (ins m c t).v (ins m c t).lse (ins m c t).ct).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%f7, H7⟩, H8, ⟨%f9, H9⟩, ⟨%fa, HS0⟩, ⟨%fk, HS1⟩⟩
    isplitl [HS0 HS1 Hg]
    · isplitl [HS0 HS1]
      · isplitl [HS0]
        · unfold owns; iexists _; isplitr
          swap; · iexact HS0
          ipureintro; apply accA
        unfold owns; iexists _; isplitr
        swap; · iexact HS1
        ipureintro; apply keysA
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; apply dqA
    isplitl [H8]; · iexact H8
    unfold owns; iexists _; isplitr
    swap; · iexact H9
    ipureintro; apply dkrA
  · rw [Between_pos m c _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) accM (Memref.isWhole_whole _) keyM (Memref.isWhole_whole _) ((first_iff t).mpr (by omega)) ((start_iff t).mpr (by omega)) ((q0_iff t).mpr (by omega)) (fun e => absurd ((q1_iff t).mp e) (by omega)) (fun e => absurd ((q2_iff t).mp e) (by omega)) (fun e => absurd ((q3_iff t).mp e) (by omega)) (fun e => absurd ((last_iff t).mp e) (by omega)) (ins m c t).q (ins m c t).qt (ins m c t).kn (ins m c t).kr (ins m c t).v (ins m c t).lse (ins m c t).ct).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexists _; iexact HS0
    isplitl [HS1]; · iexists _; iexact HS1
    iintro ⟨H0, H1, H2, H3, H4, H5, H6, ⟨%f7, H7⟩, H8, ⟨%f9, H9⟩, ⟨%fa, HS0⟩, ⟨%fk, HS1⟩⟩
    isplitl [HS0 HS1 Hg]
    · isplitl [HS0 HS1]
      · isplitl [HS0]
        · unfold owns; iexists _; isplitr
          swap; · iexact HS0
          ipureintro; apply accA
        unfold owns; iexists _; isplitr
        swap; · iexact HS1
        ipureintro; apply keysA
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; apply dqA
    isplitl [H8]; · iexact H8
    unfold owns; iexists _; isplitr
    swap; · iexact H9
    ipureintro; apply dkrA

set_option maxHeartbeats 4000000 in
/-- At a second block of queries the body leaves what `afterAt` says. -/
theorem sound_B (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  have hN : t.val < 64 := val_lt t
  simp only [before_0, before_1, before_2, before_3, before_4, before_5, before_6, before_9 m c t (show ¬t.val % 32 = 0 by omega)]
  rw [show (dats m 0 c).owesAt () t.succ = (dats m 0 c).owesAt () t.castSucc from rfl]
  rw [show (dats m 0 c).Φ t.succ = Between m c (t.val + 1) from rfl, Between_pos m c _ (Nat.succ_ne_zero _), held_succ,
    show (dats m 0 c).Φ t.castSucc = Between m c t.val from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t (live_7 t), after_7, leaves_live m c 9 t (live_9 t), after_9]
  rw [(dats m 0 c).leavesExact_idle 8 t (idle_8 t (by omega)) (by
    cases e : (cfg0.win 8).flush t
    · rfl
    · have := (flush0_8 t).mp e; exfalso; omega)]
  simp only [show ∀ d, (dats m 0 c).before 8 t d = d from fun d => before_8 m c d t.val t.isLt]
  rw [after_B m c t h]
  rw [Between_pos m c _ (fun e => by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) accM (Memref.isWhole_whole _) keyM (Memref.isWhole_whole _) (fun e => absurd ((first_iff t).mp e) (by omega)) (fun e => absurd ((start_iff t).mp e) (by omega)) (fun e => absurd ((q0_iff t).mp e) (by omega)) ((q1_iff t).mpr (by omega)) (fun e => absurd ((q2_iff t).mp e) (by omega)) (fun e => absurd ((q3_iff t).mp e) (by omega)) (fun e => absurd ((last_iff t).mp e) (by omega)) (ins m c t).q (ins m c t).qt (ins m c t).kn (ins m c t).kr (ins m c t).v (ins m c t).lse (ins m c t).ct (held m c t.val).dkr (held m c t.val).acc (held m c t.val).keys).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  isplitl [HS1]; · iexact HS1
  iintro ⟨H0, H1, H2, H3, H4, H5, H6, ⟨%f7, H7⟩, H8, H9, HS0, HS1⟩
  isplitl [HS0 HS1 Hg]
  · isplitl [HS0 HS1]
    · isplitl [HS0]
      · unfold owns; iexists _; isplitr
        swap; · iexact HS0
        ipureintro; apply accB
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; apply dqB
  isplitl [H8]; · iexact H8
  unfold owns; iexists _; isplitr
  swap; · iexact H9
  ipureintro; apply dkrB

set_option maxHeartbeats 4000000 in
/-- At a third block of queries the body leaves what `afterAt` says. -/
theorem sound_C (c : Dev nD) (t : Fin cfg0.N) (h : t.val % 4 = 2) :
    bodyPre m c t ⊢ wp frame (wpE (defs₀ (F := F)) Variants.none c none) Set.univ (bodyAt0 t) (fun _ => bodyPost m c t) := by
  unfold bodyPre bodyPost bodyAt0
  have hN : t.val < 64 := val_lt t
  simp only [before_0, before_1, before_2, before_3, before_4, before_5, before_6, before_9 m c t (show ¬t.val % 32 = 0 by omega)]
  rw [show (dats m 0 c).owesAt () t.succ = (dats m 0 c).owesAt () t.castSucc from rfl]
  rw [show (dats m 0 c).Φ t.succ = Between m c (t.val + 1) from rfl, Between_pos m c _ (Nat.succ_ne_zero _), held_succ,
    show (dats m 0 c).Φ t.castSucc = Between m c t.val from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t (live_7 t), after_7, leaves_live m c 9 t (live_9 t), after_9]
  rw [(dats m 0 c).leavesExact_idle 8 t (idle_8 t (by omega)) (by
    cases e : (cfg0.win 8).flush t
    · rfl
    · have := (flush0_8 t).mp e; exfalso; omega)]
  simp only [show ∀ d, (dats m 0 c).before 8 t d = d from fun d => before_8 m c d t.val t.isLt]
  rw [after_C m c t h]
  rw [Between_pos m c _ (fun e => by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runC c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) accM (Memref.isWhole_whole _) keyM (Memref.isWhole_whole _) (fun e => absurd ((first_iff t).mp e) (by omega)) (fun e => absurd ((start_iff t).mp e) (by omega)) (fun e => absurd ((q0_iff t).mp e) (by omega)) (fun e => absurd ((q1_iff t).mp e) (by omega)) ((q2_iff t).mpr (by omega)) (fun e => absurd ((q3_iff t).mp e) (by omega)) (fun e => absurd ((last_iff t).mp e) (by omega)) (ins m c t).q (ins m c t).qt (ins m c t).kn (ins m c t).kr (ins m c t).v (ins m c t).lse (ins m c t).ct (held m c t.val).dkr (held m c t.val).acc (held m c t.val).keys).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  isplitl [HS1]; · iexact HS1
  iintro ⟨H0, H1, H2, H3, H4, H5, H6, ⟨%f7, H7⟩, H8, H9, HS0, HS1⟩
  isplitl [HS0 HS1 Hg]
  · isplitl [HS0 HS1]
    · isplitl [HS0]
      · unfold owns; iexists _; isplitr
        swap; · iexact HS0
        ipureintro; apply accC
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; apply dqC
  isplitl [H8]; · iexact H8
  unfold owns; iexists _; isplitr
  swap; · iexact H9
  ipureintro; apply dkrC

set_option maxHeartbeats 4000000 in
/-- At a last block of queries the body leaves what `afterAt` says. -/
theorem sound_D (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  have hN : t.val < 64 := val_lt t
  simp only [before_0, before_1, before_2, before_3, before_4, before_5, before_6, before_9 m c t (show ¬t.val % 32 = 0 by omega)]
  rw [show (dats m 0 c).owesAt () t.succ = (dats m 0 c).owesAt () t.castSucc from rfl]
  rw [show (dats m 0 c).Φ t.succ = Between m c (t.val + 1) from rfl, Between_pos m c _ (Nat.succ_ne_zero _), held_succ,
    show (dats m 0 c).Φ t.castSucc = Between m c t.val from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t (live_7 t), after_7, leaves_live m c 9 t (live_9 t), after_9]
  rw [leaves_live m c 8 t (live_8 t h), after_8]
  rw [after_D m c t h]
  rw [Between_pos m c _ (fun e => by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runD c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) accM (Memref.isWhole_whole _) keyM (Memref.isWhole_whole _) (fun e => absurd ((first_iff t).mp e) (by omega)) (fun e => absurd ((start_iff t).mp e) (by omega)) (fun e => absurd ((q0_iff t).mp e) (by omega)) (fun e => absurd ((q1_iff t).mp e) (by omega)) (fun e => absurd ((q2_iff t).mp e) (by omega)) ((q3_iff t).mpr (by omega)) ((last_iff t).mpr (by omega)) (ins m c t).q (ins m c t).qt (ins m c t).kn (ins m c t).kr (ins m c t).v (ins m c t).lse (ins m c t).ct (held m c t.val).dkr (held m c t.val).acc (held m c t.val).keys).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  isplitl [HS1]; · iexact HS1
  iintro ⟨H0, H1, H2, H3, H4, H5, H6, ⟨%f7, H7⟩, ⟨%f8, H8⟩, H9, HS0, HS1⟩
  isplitl [HS0 HS1 Hg]
  · isplitl [HS0 HS1]
    · isplitl [HS0]
      · unfold owns; iexists _; isplitr
        swap; · iexact HS0
        ipureintro; apply accD
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; apply dqD
  isplitl [H8]
  · unfold owns; iexists _; isplitr
    swap; · iexact H8
    ipureintro; apply dkvD
  unfold owns; iexists _; isplitr
  swap; · iexact H9
  ipureintro; apply dkrD

set_option maxHeartbeats 4000000 in
/-- At the first block of queries of a later head the body leaves what `afterAt` says. -/
theorem sound_E (c : Dev nD) (t : Fin cfg0.N) (h : t.val % 4 = 0) (h0 : ¬t.val % 32 = 0) :
    bodyPre m c t ⊢ wp frame (wpE (defs₀ (F := F)) Variants.none c none) Set.univ (bodyAt0 t) (fun _ => bodyPost m c t) := by
  unfold bodyPre bodyPost bodyAt0
  have hN : t.val < 64 := val_lt t
  simp only [before_0, before_1, before_2, before_3, before_4, before_5, before_6, before_9 m c t (show ¬t.val % 32 = 0 by omega)]
  rw [show (dats m 0 c).owesAt () t.succ = (dats m 0 c).owesAt () t.castSucc from rfl]
  rw [show (dats m 0 c).Φ t.succ = Between m c (t.val + 1) from rfl, Between_pos m c _ (Nat.succ_ne_zero _), held_succ,
    show (dats m 0 c).Φ t.castSucc = Between m c t.val from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t (live_7 t), after_7, leaves_live m c 9 t (live_9 t), after_9]
  rw [(dats m 0 c).leavesExact_idle 8 t (idle_8 t (by omega)) (by
    cases e : (cfg0.win 8).flush t
    · rfl
    · have := (flush0_8 t).mp e; exfalso; omega)]
  simp only [show ∀ d, (dats m 0 c).before 8 t d = d from fun d => before_8 m c d t.val t.isLt]
  rw [after_E m c t h h0]
  rw [Between_pos m c _ (fun e => by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runE c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) accM (Memref.isWhole_whole _) keyM (Memref.isWhole_whole _) ((first_iff t).mpr (by omega)) (fun e => absurd ((start_iff t).mp e) (by omega)) ((q0_iff t).mpr (by omega)) (fun e => absurd ((q1_iff t).mp e) (by omega)) (fun e => absurd ((q2_iff t).mp e) (by omega)) (fun e => absurd ((q3_iff t).mp e) (by omega)) (fun e => absurd ((last_iff t).mp e) (by omega)) (ins m c t).q (ins m c t).qt (ins m c t).kn (ins m c t).kr (ins m c t).v (ins m c t).lse (ins m c t).ct (held m c t.val).dkr).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexists _; iexact HS0
  isplitl [HS1]; · iexists _; iexact HS1
  iintro ⟨H0, H1, H2, H3, H4, H5, H6, ⟨%f7, H7⟩, H8, H9, ⟨%fa, HS0⟩, ⟨%fk, HS1⟩⟩
  isplitl [HS0 HS1 Hg]
  · isplitl [HS0 HS1]
    · isplitl [HS0]
      · unfold owns; iexists _; isplitr
        swap; · iexact HS0
        ipureintro; apply accE
      unfold owns; iexists _; isplitr
      swap; · iexact HS1
      ipureintro; apply keysE
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; apply dqE
  isplitl [H8]; · iexact H8
  unfold owns; iexists _; isplitr
  swap; · iexact H9
  ipureintro; apply dkrE

theorem sound_body (c : Dev nD) (t : Fin cfg0.N) :
    bodyPre m c t ⊢ wp frame (wpE (defs₀ (F := F)) Variants.none c none) Set.univ (bodyAt0 t) (fun _ => bodyPost m c t) := by
  rcases (by omega : t.val % 32 = 0 ∨ (t.val % 4 = 0 ∧ ¬t.val % 32 = 0) ∨ t.val % 4 = 1 ∨ t.val % 4 = 2 ∨ t.val % 4 = 3) with h | h | h | h | h
  · exact sound_A m c t h
  · exact sound_E m c t h.1 h.2
  · exact sound_B m c t h
  · exact sound_C m c t h
  · exact sound_D m c t h

theorem defs₀_row (t : Fin cfg0.N) : defs₀ (F := F) .tc cfg0.body (cfg0.bodyArgs t (cfg0.slots t)) = bodyAt0 t := by
  unfold defs₀; rw [Defs.onTc_tc]

/-- The body keeps what the proof data say, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Between m c cfg0.N from rfl,
    Between_pos m c _ (by have : cfg0.N = 64 := N_0; omega), PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every run ends, with every array of the call at what the proof data say and every counter at zero. -/
theorem run_ends : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_ends m ρ)))
    ((θ_run defs _ _).mono (fun _ h => h.2) (run_ends m ρ))

end Cert.KernelIdeal.Attn

end
-- ==== Proof.AttnKernel.lean ====
/- The printed program is the idealized one with the mask's constant left as its bits, so it runs the same way. -/
module

public import proofs.«01_k».proof.Proof.AttnFrame
public import proofs.«01_k».proof.Proof.Gen.Kernel.Frame
public import proofs.«01_k».proof.Proof.Gen.Kernel.Skeleton

@[expose] public section

noncomputable section

namespace Cert.Kernel.Attn

open Idealize.ShloMosaic Idealize.ShloMosaic.TcCoe Idealize.SL Idealize.SL.Sem
open Cert.Kernel.Gen Cert.Kernel

variable {F : FTy → Type} [FloatOps F]

/-- With the mask's constant read as the bits it is printed with, the idealized program is the printed one. -/
@[reducible] def plainNamed : Named F where
  named _ _ {φ} b := Scalar.ofBits φ b

set_option maxRecDepth 100000
set_option maxHeartbeats 4000000

/-- The body of the printed program is the idealized program's body. -/
theorem body_eq : Cert.Kernel.cc0_attn_bwd (F := F) = (letI : Named F := plainNamed; Cert.KernelIdeal.cc0_attn_bwd (F := F)) := rfl
theorem defs₀_eq : Cert.Kernel.defs₀ (F := F) = (letI : Named F := plainNamed; Cert.KernelIdeal.defs₀ (F := F)) := by
  unfold Cert.Kernel.defs₀ Cert.KernelIdeal.defs₀
  refine congrArg Defs.onTc (funext fun l => funext fun a => ?_)
  match l, a with
  | 0, (t, s) =>
    dsimp only
    rw [body_eq]
    rfl
theorem defs_eq : Cert.Kernel.defs (F := F) = (letI : Named F := plainNamed; Cert.KernelIdeal.defs (F := F)) := by
  unfold Cert.Kernel.defs Cert.KernelIdeal.defs
  rw [defs₀_eq]
  rfl
theorem main_eq : Cert.Kernel.main (F := F) = (letI : Named F := plainNamed; Cert.KernelIdeal.main (F := F)) := rfl
variable  (m : (ℓ : Loc nD τ sig) → Buf (Elt F) ℓ) (ρ : Dev nD → PrngReg)

/-- Every run of the printed program ends with the arguments as they were and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq, main_eq]
  letI : Named F := plainNamed
  exact Cert.KernelIdeal.Attn.quiet (F := F) m ρ
end Cert.Kernel.Attn

end
-- ==== Proof.AttnIdeal.lean ====
/- The arithmetic of a block of queries over the extended reals, read at an index. -/
module

public import proofs.«01_k».proof.Proof.AttnStep
public import Idealize.ShloMosaic.Lib.Pointwise
public import Idealize.ShloMosaic.Lib.Pointwise.IndexVar

@[expose] public section

set_option maxRecDepth 16384

noncomputable section

namespace Cert.KernelIdeal.Attn

open Idealize.ShloMosaic Idealize.ShloMosaic.Tactic
open Cert.KernelIdeal.Gen
open scoped BigOperators

/-- What the arithmetic of the block of queries that starts at query `o` and looks at the first `n` keys computes. -/
structure Blk.Is {n : ℕ} (B : Blk Ideal n) (o : ℕ) : Prop where
  q : ∀ q qt (i : Fin 512) (c : Fin 256), B.q q qt (ix2 i c) = q (ix2 i c) * qt (ix2 i c)
  p : ∀ q qt keys lse (i : Fin 512) (j : Fin n), B.p q qt keys lse (ix2 i j)
    = if j.val ≤ o + i.val then Ideal.exp ((∑ c : Fin 256, B.q q qt (ix2 i c) * keys (ix2 j c)) - lse (ix3 0 i 0)) else 0
  ds : ∀ q qt keys lse ct v (i : Fin 512) (j : Fin n), B.ds q qt keys lse ct v (ix2 i j)
    = B.p q qt keys lse (ix2 i j) * ((∑ d : Fin 128, ct (ix2 i d) * v (ix2 j d))
        - ∑ k : Fin n, B.p q qt keys lse (ix2 i k) * ∑ d : Fin 128, ct (ix2 i d) * v (ix2 k d))
  dq : ∀ q qt keys lse ct v (i : Fin 512) (c : Fin 256), B.dq q qt keys lse ct v (ix2 i c)
    = (∑ j : Fin n, B.ds q qt keys lse ct v (ix2 i j) * keys (ix2 j c)) * qt (ix2 i c)
  addK : ∀ q ds acc (j : Fin n) (d : Fin 128), B.addK q ds acc (ix2 j d)
    = acc (ix2 j d) + ∑ i : Fin 512, ds (ix2 i j) * q (ix2 i ⟨d.val, by omega⟩)
  addV : ∀ p ct acc (j : Fin n) (d : Fin 128), B.addV p ct acc (ix2 j d)
    = acc (ix2 j d) + ∑ i : Fin 512, p (ix2 i j) * ct (ix2 i d)
  addR : ∀ q ds acc (j : Fin n) (d : Fin 128), B.addR q ds acc (ix2 j d)
    = acc (ix2 j d) + ∑ i : Fin 512, ds (ix2 i j) * q (ix2 i ⟨128 + d.val, by omega⟩)

/-- A score past the diagonal is the constant, whose weight is zero. -/
theorem weight (o i j : ℕ) (hi : o + i < 4096) (hj : j < 4096) (s l : EReal) :
    Ideal.exp (Scalar.select (IntOp.cmpi .sle (BitVec.ofNat 32 j) (IntOp.addi (BitVec.ofNat 32 o) (BitVec.ofNat 32 i))) s
      (Named.named κ "mask" (0xF149F2CA#32 : BitVec FTy.f32.bits) : Ideal .f32) - l) = if j ≤ o + i then Ideal.exp (s - l) else 0 := by
  have hm : (Named.named κ "mask" (0xF149F2CA#32 : BitVec FTy.f32.bits) : Ideal .f32) = (⊥ : EReal) := rfl
  rw [hm]
  have hc : IntOp.cmpi .sle (BitVec.ofNat 32 j) (IntOp.addi (BitVec.ofNat 32 o) (BitVec.ofNat 32 i)) = if j ≤ o + i then 1#1 else 0#1 := by
    show IntOp.cmpi .sle _ (BitVec.ofNat 32 o + BitVec.ofNat 32 i) = _
    rw [← BitVec.ofNat_add, WordCmp.cmpi_sle_ofNat (by omega) (by omega)]
    by_cases h : j ≤ o + i <;> simp [h]
  rw [hc]
  split
  · rfl
  · show Ideal.exp (⊥ - l) = 0
    rw [sub_eq_add_neg, EReal.bot_add]
    rfl

/-- The first block of queries. -/
theorem blk0_is : blk0.Is 0 where
  q q qt i c := by
    show k0_pay22 q qt (ix2 i c) = _
    pointwise [k0_pay22]
  p q qt keys lse i j := by
    show k0_pay23 q qt keys lse (ix2 i j) = _
    pointwise [k0_pay23]
    exact (weight 0 i.val j.val (by omega) (by omega) _ _).trans (by rw [Nat.zero_add]; rfl)
  ds q qt keys lse ct v i j := by
    show k0_pay24 q qt keys lse ct v (ix2 i j) = _
    pointwise [k0_pay24]
    rfl
  dq q qt keys lse ct v i c := by
    show k0_pay25 q qt keys lse ct v keys qt (ix2 i c) = _
    pointwise [k0_pay25]
    rfl
  addK q ds acc j d := by
    show k0_pay6 q ds acc (ix2 j d) = _
    pointwise [k0_pay6, k0_pay5]
  addV p ct acc j d := by
    show k0_pay7 p ct acc (ix2 j d) = _
    pointwise [k0_pay7]
  addR q ds acc j d := by
    show k0_pay8 q ds acc (ix2 j d) = _
    pointwise [k0_pay8, k0_pay5]

/-- The second block of queries. -/
theorem blk1_is : blk1.Is 512 where
  q q qt i c := by
    show k0_pay26 q qt (ix2 i c) = _
    pointwise [k0_pay26]
  p q qt keys lse i j := by
    show k0_pay27 q qt keys lse (ix2 i j) = _
    pointwise [k0_pay27]
    exact weight 512 i.val j.val (by omega) (by omega) _ _
  ds q qt keys lse ct v i j := by
    show k0_pay28 q qt keys lse ct v (ix2 i j) = _
    pointwise [k0_pay28]
    rfl
  dq q qt keys lse ct v i c := by
    show k0_pay29 q qt keys lse ct v keys qt (ix2 i c) = _
    pointwise [k0_pay29]
    rfl
  addK q ds acc j d := by
    show k0_pay10 q ds acc (ix2 j d) = _
    pointwise [k0_pay10, k0_pay9]
  addV p ct acc j d := by
    show k0_pay11 p ct acc (ix2 j d) = _
    pointwise [k0_pay11]
  addR q ds acc j d := by
    show k0_pay12 q ds acc (ix2 j d) = _
    pointwise [k0_pay12, k0_pay9]

/-- The third block of queries. -/
theorem blk2_is : blk2.Is 1024 where
  q q qt i c := by
    show k0_pay30 q qt (ix2 i c) = _
    pointwise [k0_pay30]
  p q qt keys lse i j := by
    show k0_pay31 q qt keys lse (ix2 i j) = _
    pointwise [k0_pay31]
    exact weight 1024 i.val j.val (by omega) (by omega) _ _
  ds q qt keys lse ct v i j := by
    show k0_pay32 q qt keys lse ct v (ix2 i j) = _
    pointwise [k0_pay32]
    rfl
  dq q qt keys lse ct v i c := by
    show k0_pay33 q qt keys lse ct v keys qt (ix2 i c) = _
    pointwise [k0_pay33]
    rfl
  addK q ds acc j d := by
    show k0_pay14 q ds acc (ix2 j d) = _
    pointwise [k0_pay14, k0_pay13]
  addV p ct acc j d := by
    show k0_pay15 p ct acc (ix2 j d) = _
    pointwise [k0_pay15]
  addR q ds acc j d := by
    show k0_pay16 q ds acc (ix2 j d) = _
    pointwise [k0_pay16, k0_pay13]

/-- The last block of queries. -/
theorem blk3_is : blk3.Is 1536 where
  q q qt i c := by
    show k0_pay34 q qt (ix2 i c) = _
    pointwise [k0_pay34]
  p q qt keys lse i j := by
    show k0_pay35 q qt keys lse (ix2 i j) = _
    pointwise [k0_pay35]
    exact weight 1536 i.val j.val (by omega) (by omega) _ _
  ds q qt keys lse ct v i j := by
    show k0_pay36 q qt keys lse ct v (ix2 i j) = _
    pointwise [k0_pay36]
    rfl
  dq q qt keys lse ct v i c := by
    show k0_pay37 q qt keys lse ct v keys qt (ix2 i c) = _
    pointwise [k0_pay37]
    rfl
  addK q ds acc j d := by
    show k0_pay18 q ds acc (ix2 j d) = _
    pointwise [k0_pay18, k0_pay17]
  addV p ct acc j d := by
    show k0_pay19 p ct acc (ix2 j d) = _
    pointwise [k0_pay19]
  addR q ds acc j d := by
    show k0_pay20 q ds acc (ix2 j d) = _
    pointwise [k0_pay20, k0_pay17]

end Cert.KernelIdeal.Attn

end
-- ==== Proof.AttnHead.lean ====
/- The gradient of one head's attention over the extended reals, and the share of it that a block of queries adds. -/
module

public import proofs.«01_k».proof.Proof.AttnIdeal

@[expose] public section

set_option maxRecDepth 16384

noncomputable section

namespace Cert.KernelIdeal.Attn

open Idealize.ShloMosaic Idealize.ShloMosaic.Tactic
open Cert.KernelIdeal.Gen
open scoped BigOperators

/-- One head of one sequence: its queries with the factors that scale and rotate them, its keys, its values, the
    logarithms of its rows' sums, and the gradient that comes in. -/
structure Head where
  q : Fin 2048 → Fin 256 → EReal
  qt : Fin 2048 → Fin 256 → EReal
  k : Fin 2048 → Fin 256 → EReal
  v : Fin 2048 → Fin 128 → EReal
  lse : Fin 2048 → EReal
  ct : Fin 2048 → Fin 128 → EReal

namespace Head

variable (H : Head)

/-- A scaled query. -/
def qs (i : Fin 2048) (c : Fin 256) : EReal := H.q i c * H.qt i c
/-- The weight of a key for a query. -/
def p (i j : Fin 2048) : EReal := if j.val ≤ i.val then Ideal.exp ((∑ c : Fin 256, H.qs i c * H.k j c) - H.lse i) else 0
/-- The gradient of a weight. -/
def dp (i j : Fin 2048) : EReal := ∑ d : Fin 128, H.ct i d * H.v j d
/-- The gradient of a score. -/
def ds (i j : Fin 2048) : EReal := H.p i j * (H.dp i j - ∑ k : Fin 2048, H.p i k * H.dp i k)
/-- The gradient of a query. -/
def dq (i : Fin 2048) (c : Fin 256) : EReal := (∑ j : Fin 2048, H.ds i j * H.k j c) * H.qt i c
/-- What a query adds to the gradient of a key. -/
def addK (i j : Fin 2048) (c : Fin 256) : EReal := H.ds i j * H.qs i c
/-- What a query adds to the gradient of a value. -/
def addV (i j : Fin 2048) (d : Fin 128) : EReal := H.p i j * H.ct i d
/-- What a query adds to the row of a key's plain half and its value. -/
def addKV (i j : Fin 2048) (c : Fin 256) : EReal := if h : c.val < 128 then H.addK i j c else H.addV i j ⟨c.val - 128, by omega⟩

theorem p_past {i j : Fin 2048} (h : i.val < j.val) : H.p i j = 0 := if_neg (by omega)
theorem ds_past {i j : Fin 2048} (h : i.val < j.val) : H.ds i j = 0 := by rw [ds, H.p_past h, zero_mul]
theorem addKV_past {i j : Fin 2048} (h : i.val < j.val) (c : Fin 256) : H.addKV i j c = 0 := by
  unfold addKV addK addV
  split
  · rw [H.ds_past h, zero_mul]
  · rw [H.p_past h, zero_mul]

end Head

/-- Query `i` of block `k`. -/
def row (k : Fin 4) (i : Fin 512) : Fin 2048 := ⟨512 * k.val + i.val, by omega⟩

/-- A sum over the queries, block by block. -/
theorem sum_rows {M : Type*} [AddCommMonoid M] (f : Fin 2048 → M) : ∑ i, f i = ∑ k : Fin 4, ∑ i : Fin 512, f (row k i) := by
  rw [← Fintype.sum_prod_type']
  refine (Fintype.sum_equiv (finProdFinEquiv (m := 4) (n := 512)) _ _ fun x => congrArg f (Fin.ext ?_)).symm
  show 512 * x.1.val + x.2.val = x.2.val + 512 * x.1.val
  omega

/-- A sum over all the keys whose terms from `n` on are zero is the sum over the first `n`. -/
theorem sum_first {n : ℕ} (hn : n ≤ 2048) (f : Fin 2048 → EReal) (h : ∀ j, n ≤ j.val → f j = 0) :
    ∑ j, f j = ∑ j : Fin n, f ⟨j.val, by omega⟩ := by
  symm
  refine Finset.sum_of_injOn (fun j : Fin n => (⟨j.val, by omega⟩ : Fin 2048)) (fun a _ b _ e => Fin.ext (by simpa using e)) (fun _ _ => Finset.mem_univ _)
    (fun j _ hj => h j ?_) (fun _ _ => rfl)
  by_contra hc
  exact hj ⟨⟨j.val, by omega⟩, Finset.mem_coe.mpr (Finset.mem_univ _), rfl⟩

/-- Block `k` of the head's queries is what the body reads. -/
structure Ins.Of (x : Ins Ideal) (H : Head) (k : Fin 4) : Prop where
  q : ∀ i c, x.q (ix2 i c) = H.q (row k i) c
  qt : ∀ i c, x.qt (ix2 i c) = H.qt (row k i) c
  kn : ∀ (j : Fin 2048) (d : Fin 128), x.kn (ix2 j d) = H.k j ⟨d.val, by omega⟩
  kr : ∀ (j : Fin 2048) (d : Fin 128), x.kr (ix2 j d) = H.k j ⟨128 + d.val, by omega⟩
  v : ∀ j d, x.v (ix2 j d) = H.v j d
  lse : ∀ i : Fin 512, x.lse (ix3 (0 : Fin 1) i (0 : Fin 1)) = H.lse (row k i)
  ct : ∀ i d, x.ct (ix2 i d) = H.ct (row k i) d

theorem rows_apply {e : EltTy} {n o w W : ℕ} (hn : n ≤ 2048) (hw : o + w ≤ W) (x : Vec Ideal ⟨2, ![2048, W]⟩ e) (j : Fin n) (c : Fin w) :
    rows n hn o w W hw x (ix2 j c) = x (ix2 ⟨j.val, by omega⟩ ⟨o + c.val, by omega⟩) := by
  refine congrArg x (funext fun a => Fin.ext ?_)
  match a with
  | ⟨0, _⟩ => show 0 + 1 * j.val = j.val; omega
  | ⟨1, _⟩ => show o + 1 * c.val = o + c.val; omega

/-- A store of the first `n` rows of `w` columns from column `o`, at an index. -/
theorem put_apply {α : Type} {n o w W : ℕ} (x : (⟨2, ![2048, W]⟩ : Shape).Idx → α) (y : (⟨2, ![n, w]⟩ : Shape).Idx → α) (j : Fin 2048) (c : Fin W) :
    VecWindow.put (s := ⟨2, ![2048, W]⟩) x ![0, o] ![n, w] y (ix2 j c)
      = if h : j.val < n ∧ o ≤ c.val ∧ c.val < o + w then y (ix2 ⟨j.val, h.1⟩ ⟨c.val - o, by omega⟩) else x (ix2 j c) := by
  unfold VecWindow.put
  have hi : (∀ a : Fin 2, (![0, o] : Fin 2 → ℕ) a ≤ ((ix2 j c : (⟨2, ![2048, W]⟩ : Shape).Idx) a).val
      ∧ ((ix2 j c : (⟨2, ![2048, W]⟩ : Shape).Idx) a).val < (![0, o] : Fin 2 → ℕ) a + (![n, w] : Fin 2 → ℕ) a) ↔ (j.val < n ∧ o ≤ c.val ∧ c.val < o + w) := by
    rw [Fin.forall_fin_two]
    show (0 ≤ j.val ∧ j.val < 0 + n) ∧ (o ≤ c.val ∧ c.val < o + w) ↔ _
    omega
  by_cases h : j.val < n ∧ o ≤ c.val ∧ c.val < o + w
  · rw [dif_pos h]
    refine (dif_pos (hi.mpr h)).trans (congrArg y (funext fun a => Fin.ext ?_))
    match a with
    | ⟨0, _⟩ => exact Nat.sub_zero _
    | ⟨1, _⟩ => rfl
  · rw [dif_neg h]
    exact dif_neg fun g => h (hi.mp g)

theorem keysOf_apply {x : Ins Ideal} {H : Head} {k : Fin 4} (hx : x.Of H k) (j : Fin 2048) (c : Fin 256) :
    keysOf x.kn x.kr (ix2 j c) = H.k j c := by
  unfold keysOf
  rw [put_apply, put_apply]
  by_cases h : c.val < 128
  · rw [dif_neg (by omega), dif_pos (by omega)]
    pointwise [k0_pay1]
    exact hx.kn j ⟨c.val, h⟩
  · rw [dif_pos (by omega)]
    pointwise [k0_pay2]
    refine (hx.kr j ⟨c.val - 128, by omega⟩).trans (congrArg (H.k j) (Fin.ext ?_))
    show 128 + (c.val - 128) = c.val
    omega

namespace Blk

variable {n : ℕ} {B : Blk Ideal n} {k : Fin 4} (hB : B.Is (512 * k.val)) (hn : n ≤ 2048) (hk : n = 512 * k.val + 512)
  {x : Ins Ideal} {H : Head} (hx : x.Of H k) {keys : Vec Ideal S2048x256 .bf16} (hkeys : ∀ j c, keys (ix2 j c) = H.k j c)

include hB hx in
theorem q_apply (i : Fin 512) (c : Fin 256) : B.q x.q x.qt (ix2 i c) = H.qs (row k i) c := by
  rw [hB.q, hx.q, hx.qt]; rfl

include hB hx hkeys hk in
theorem pAt_apply (i : Fin 512) (j : Fin n) : B.pAt hn x keys (ix2 i j) = H.p (row k i) ⟨j.val, by omega⟩ := by
  unfold pAt
  rw [hB.p, hx.lse]
  unfold Head.p
  refine if_congr Iff.rfl (congrArg (fun z => Ideal.exp (z - _)) (Finset.sum_congr rfl fun c _ => ?_)) rfl
  rw [q_apply hB hx, rows_apply, hkeys]
  congr 2
  exact Fin.ext (Nat.zero_add _)

include hx hk in
theorem dp_apply (i : Fin 512) (j : Fin n) :
    ∑ d : Fin 128, x.ct (ix2 i d) * rows n hn 0 128 128 (by decide) x.v (ix2 j d) = H.dp (row k i) ⟨j.val, by omega⟩ := by
  refine Finset.sum_congr rfl fun d _ => ?_
  rw [hx.ct, rows_apply, hx.v]
  congr 2
  exact Fin.ext (Nat.zero_add _)

include hB hx hkeys hk in
theorem dsAt_apply (i : Fin 512) (j : Fin n) : B.dsAt hn x keys (ix2 i j) = H.ds (row k i) ⟨j.val, by omega⟩ := by
  unfold dsAt
  rw [hB.ds]
  have e (j : Fin n) : B.p x.q x.qt (rows n hn 0 256 256 (by decide) keys) x.lse (ix2 i j) = H.p (row k i) ⟨j.val, by omega⟩ := pAt_apply hB hn hk hx hkeys i j
  rw [e, dp_apply hn hk hx]
  unfold Head.ds
  rw [sum_first hn (fun j => H.p (row k i) j * H.dp (row k i) j)
    fun j hj => by rw [H.p_past (show (row k i).val < j.val by show 512 * k.val + i.val < _; omega), zero_mul]]
  refine congrArg (fun z => _ * (_ - z)) (Finset.sum_congr rfl fun j _ => ?_)
  rw [e, dp_apply hn hk hx]

include hB hx hkeys hk in
theorem dqAt_apply (i : Fin 512) (c : Fin 256) : B.dqAt hn x keys (ix2 i c) = H.dq (row k i) c := by
  unfold dqAt
  rw [hB.dq, hx.qt]
  unfold Head.dq
  rw [sum_first hn (fun j => H.ds (row k i) j * H.k j c)
    fun j hj => by rw [H.ds_past (show (row k i).val < j.val by show 512 * k.val + i.val < _; omega), zero_mul]]
  refine congrArg (· * _) (Finset.sum_congr rfl fun j _ => ?_)
  rw [rows_apply, hkeys, show (⟨0 + c.val, by omega⟩ : Fin 256) = c from Fin.ext (Nat.zero_add _)]
  exact congrArg (· * _) (dsAt_apply hB hn hk hx hkeys i j)

include hB hx hkeys hk in
theorem accAt_apply (acc : Vec Ideal S2048x256 .f32) (j : Fin 2048) (c : Fin 256) :
    B.accAt hn x keys acc (ix2 j c) = acc (ix2 j c) + ∑ i : Fin 512, H.addKV (row k i) j c := by
  unfold accAt
  rw [put_apply, put_apply]
  by_cases hj : j.val < n
  · by_cases hc : c.val < 128
    · rw [dif_neg (by omega), dif_pos ⟨hj, by omega, by omega⟩, hB.addK, rows_apply]
      refine congrArg₂ (· + ·) (congrArg acc ?_) (Finset.sum_congr rfl fun i _ => ?_)
      · exact congrArg (ix2 j) (Fin.ext (show 0 + (c.val - 0) = c.val by omega))
      · rw [dsAt_apply hB hn hk hx hkeys, q_apply hB hx, Head.addKV, dif_pos hc]
        rfl
    · rw [dif_pos ⟨hj, by omega, by omega⟩, hB.addV, rows_apply]
      refine congrArg₂ (· + ·) (congrArg acc ?_) (Finset.sum_congr rfl fun i _ => ?_)
      · exact congrArg (ix2 j) (Fin.ext (show 128 + (c.val - 128) = c.val by omega))
      · rw [pAt_apply hB hn hk hx hkeys, hx.ct, Head.addKV, dif_neg hc]
        rfl
  · rw [dif_neg (by omega), dif_neg (by omega), Finset.sum_eq_zero fun i _ =>
      H.addKV_past (show (row k i).val < j.val by show 512 * k.val + i.val < _; omega) c, add_zero]

include hB hx hkeys hk in
theorem dkrAt_apply (dkr : Vec Ideal S2048x128 .f32) (j : Fin 2048) (d : Fin 128) :
    B.dkrAt hn x keys dkr (ix2 j d) = dkr (ix2 j d) + ∑ i : Fin 512, H.addK (row k i) j ⟨128 + d.val, by omega⟩ := by
  unfold dkrAt
  rw [put_apply]
  by_cases hj : j.val < n
  · rw [dif_pos ⟨hj, by omega, by omega⟩, hB.addR, rows_apply]
    refine congrArg₂ (· + ·) (congrArg dkr ?_) (Finset.sum_congr rfl fun i _ => ?_)
    · exact congrArg (ix2 j) (Fin.ext (show 0 + (d.val - 0) = d.val by omega))
    · rw [dsAt_apply hB hn hk hx hkeys, q_apply hB hx]
      rfl
  · rw [dif_neg (by omega), Finset.sum_eq_zero fun i _ => show H.addK _ _ _ = 0 by
      rw [Head.addK, H.ds_past (show (row k i).val < j.val by show 512 * k.val + i.val < _; omega), zero_mul], add_zero]

end Blk

end Cert.KernelIdeal.Attn

end
-- ==== Proof.AttnPoints.lean ====
/- The sums that the grid's points leave: block by block for a head's keys and values, head by head for the rotated keys. -/
module

public import proofs.«01_k».proof.Proof.AttnHead
public import proofs.«01_k».proof.Proof.AttnFrame
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL Idealize.SL.Sem
open Cert.KernelIdeal.Gen
open scoped BigOperators

variable (m : (ℓ : Loc nD τ sig) → Buf (Elt Ideal) ℓ)

/-- The arrays that the call reads. -/
structure Arrs where
  q : Vec Ideal S4096x2048 .f32
  qt : Vec Ideal S4096x256 .f32
  kv : Vec Ideal S4096x2048 .bf16
  kr : Vec Ideal S4096x128 .bf16
  lse : Vec Ideal S16x2048x1 .f32
  ct : Vec Ideal S4096x1024 .f32

/-- The arrays at the call. -/
def arrs (c : Dev nD) : Arrs where
  q := V m c (Pipeline.arrRef spec0 0)
  qt := V m c (Pipeline.arrRef spec0 1)
  kv := V m c (Pipeline.arrRef spec0 2)
  kr := V m c (Pipeline.arrRef spec0 3)
  lse := V m c (Pipeline.arrRef spec0 5)
  ct := V m c (Pipeline.arrRef spec0 6)

/-- Row `i` of sequence `b`. -/
def tok (b : Fin 2) (i : Fin 2048) : Fin 4096 := ⟨2048 * b.val + i.val, by omega⟩

/-- Head `h` of sequence `b`, as the call's arrays hold it. -/
def Arrs.head (A : Arrs) (b : Fin 2) (h : Fin 8) : Head where
  q i d := A.q (ix2 (tok b i) ⟨256 * h.val + d.val, by omega⟩)
  qt i d := A.qt (ix2 (tok b i) d)
  k j d := if hd : d.val < 128 then A.kv (ix2 (tok b j) ⟨256 * h.val + d.val, by omega⟩)
    else A.kr (ix2 (tok b j) ⟨d.val - 128, by omega⟩)
  v j d := A.kv (ix2 (tok b j) ⟨256 * h.val + 128 + d.val, by omega⟩)
  lse i := A.lse (ix3 (⟨8 * b.val + h.val, by omega⟩ : Fin 16) i (0 : Fin 1))
  ct i d := A.ct (ix2 (tok b i) ⟨128 * h.val + d.val, by omega⟩)

/-- The blocks of the arrays at point `t`. -/
def Arrs.ins (A : Arrs) (t : Fin cfg0.N) : Ins Ideal where
  q := (win0_0.blk t).view.read (Elt Ideal) A.q
  qt := (win0_1.blk t).view.read (Elt Ideal) A.qt
  kn := (win0_2.blk t).view.read (Elt Ideal) A.kv
  kr := (win0_3.blk t).view.read (Elt Ideal) A.kr
  v := (win0_4.blk t).view.read (Elt Ideal) A.kv
  lse := (win0_5.blk t).view.read (Elt Ideal) A.lse
  ct := (win0_6.blk t).view.read (Elt Ideal) A.ct

theorem ins_eq (c : Dev nD) (t : Fin cfg0.N) : ins m c t = (arrs m c).ins t := by
  unfold ins Arrs.ins arrs iblk
  generalize V m c = W
  rfl

theorem places (t : Fin grid0.N) : win0_0.index t = ![t.val / 32 * 4 + t.val % 4, t.val / 4 % 8]
    ∧ win0_1.index t = ![t.val / 32 * 4 + t.val % 4, 0] ∧ win0_2.index t = ![t.val / 32, 2 * (t.val / 4 % 8)]
    ∧ win0_3.index t = ![t.val / 32, 0] ∧ win0_4.index t = ![t.val / 32, 2 * (t.val / 4 % 8) + 1]
    ∧ win0_5.index t = ![t.val / 4, t.val % 4, 0] ∧ win0_6.index t = ![t.val / 32 * 4 + t.val % 4, t.val / 4 % 8]
    ∧ win0_7.index t = ![t.val / 32 * 4 + t.val % 4, t.val / 4 % 8] ∧ win0_8.index t = ![t.val / 32, t.val / 4 % 8]
    ∧ win0_9.index t = ![t.val / 32, 0] := by
  revert t
  decide +kernel

/-- The point of block `k` of head `h` of sequence `b`. -/
def pt (b : Fin 2) (h : Fin 8) (k : Fin 4) : Fin cfg0.N := ⟨32 * b.val + 4 * h.val + k.val, by show _ < 64; omega⟩

section Blocks

variable (b : Fin 2) (h : Fin 8) (k : Fin 4) (t : Fin cfg0.N) (ht : t.val = 32 * b.val + 4 * h.val + k.val)

/-- The place of a block's row. -/
theorem tok_row (i : Fin 512) : (tok b (row k i)).val = 2048 * b.val + (512 * k.val + i.val) := rfl
theorem tok_val (i : Fin 2048) : (tok b i).val = 2048 * b.val + i.val := rfl

include ht

theorem rd_q (X : Vec Ideal S4096x2048 .f32) (i : Fin 512) (d : Fin 256) :
    (win0_0.blk t).view.read (Elt Ideal) X (ix2 i d) = X (ix2 (tok b (row k i)) ⟨256 * h.val + d.val, by omega⟩) := by
  have e := tok_row b k i
  blk_ext [places t]
theorem rd_qt (X : Vec Ideal S4096x256 .f32) (i : Fin 512) (d : Fin 256) :
    (win0_1.blk t).view.read (Elt Ideal) X (ix2 i d) = X (ix2 (tok b (row k i)) d) := by
  have e := tok_row b k i
  blk_ext [places t]
theorem rd_kn (X : Vec Ideal S4096x2048 .bf16) (j : Fin 2048) (d : Fin 128) :
    (win0_2.blk t).view.read (Elt Ideal) X (ix2 j d) = X (ix2 (tok b j) ⟨256 * h.val + d.val, by omega⟩) := by
  have e := tok_val b j
  blk_ext [places t]
theorem rd_kr (X : Vec Ideal S4096x128 .bf16) (j : Fin 2048) (d : Fin 128) :
    (win0_3.blk t).view.read (Elt Ideal) X (ix2 j d) = X (ix2 (tok b j) d) := by
  have e := tok_val b j
  blk_ext [places t]
theorem rd_v (X : Vec Ideal S4096x2048 .bf16) (j : Fin 2048) (d : Fin 128) :
    (win0_4.blk t).view.read (Elt Ideal) X (ix2 j d) = X (ix2 (tok b j) ⟨256 * h.val + 128 + d.val, by omega⟩) := by
  have e := tok_val b j
  blk_ext [places t]
theorem rd_lse (X : Vec Ideal S16x2048x1 .f32) (i : Fin 512) :
    (win0_5.blk t).view.read (Elt Ideal) X (ix3 (0 : Fin 1) i (0 : Fin 1)) = X (ix3 (⟨8 * b.val + h.val, by omega⟩ : Fin 16) (row k i) (0 : Fin 1)) := by
  have e : (row k i).val = 512 * k.val + i.val := rfl
  blk_ext [places t]
theorem rd_ct (X : Vec Ideal S4096x1024 .f32) (i : Fin 512) (d : Fin 128) :
    (win0_6.blk t).view.read (Elt Ideal) X (ix2 i d) = X (ix2 (tok b (row k i)) ⟨128 * h.val + d.val, by omega⟩) := by
  have e := tok_row b k i
  blk_ext [places t]

/-- The body reads block `k` of the head at that point. -/
theorem Arrs.ins_of (A : Arrs) : (A.ins t).Of (A.head b h) k where
  q i d := rd_q b h k t ht A.q i d
  qt i d := rd_qt b h k t ht A.qt i d
  kn j d := by
    refine (rd_kn b h k t ht A.kv j d).trans ?_
    dsimp only [Arrs.head]
    rw [dif_pos d.isLt]
  kr j d := by
    refine (rd_kr b h k t ht A.kr j d).trans ?_
    dsimp only [Arrs.head]
    rw [dif_neg (show ¬ 128 + d.val < 128 by omega)]
    exact congrArg (fun x => A.kr (ix2 (tok b j) x)) (Fin.ext (by show d.val = 128 + d.val - 128; omega))
  v j d := rd_v b h k t ht A.kv j d
  lse i := rd_lse b h k t ht A.lse i
  ct i d := rd_ct b h k t ht A.ct i d

end Blocks

/-- The sum of the blocks' shares up to block `k`. -/
def upto (k : Fin 4) (f : Fin 4 → EReal) : EReal := ∑ l : Fin 4, if l ≤ k then f l else 0

theorem upto_zero (f : Fin 4 → EReal) : upto 0 f = f 0 := by simp [upto]
theorem upto_one (f : Fin 4 → EReal) : upto 1 f = upto 0 f + f 1 := by simp [upto, Fin.sum_univ_four]
theorem upto_two (f : Fin 4 → EReal) : upto 2 f = upto 1 f + f 2 := by simp [upto, Fin.sum_univ_four]
theorem upto_three (f : Fin 4 → EReal) : upto 3 f = upto 2 f + f 3 := by simp [upto, Fin.sum_univ_four]
theorem upto_last (f : Fin 4 → EReal) : upto 3 f = ∑ l, f l := by simp [upto, Fin.sum_univ_four]

/-- What point `n` of sequence `b` adds to the gradient of the rotated keys. -/
def Arrs.share (A : Arrs) (b : Fin 2) (j : Fin 2048) (d : Fin 128) (n : ℕ) : EReal :=
  ∑ i : Fin 512, (A.head b ⟨n / 4 % 8, by omega⟩).addK (row ⟨n % 4, by omega⟩ i) j ⟨128 + d.val, by omega⟩

theorem Arrs.share_at (A : Arrs) (b : Fin 2) (h : Fin 8) (k : Fin 4) (j : Fin 2048) (d : Fin 128) :
    A.share b j d (4 * h.val + k.val) = ∑ i : Fin 512, (A.head b h).addK (row k i) j ⟨128 + d.val, by omega⟩ := by
  unfold Arrs.share
  rw [show (⟨(4 * h.val + k.val) / 4 % 8, by omega⟩ : Fin 8) = h from Fin.ext (by dsimp only; omega),
    show (⟨(4 * h.val + k.val) % 4, by omega⟩ : Fin 4) = k from Fin.ext (by dsimp only; omega)]

/-- What the buffers hold after block `k` of head `h` of sequence `b`. -/
structure Arrs.Left (A : Arrs) (b : Fin 2) (h : Fin 8) (k : Fin 4) (s : St Ideal) : Prop where
  dq : ∀ i c, s.dq (ix2 i c) = (A.head b h).dq (row k i) c
  dkv : ∀ j c, s.dkv (ix2 j c) = upto k fun l => ∑ i : Fin 512, (A.head b h).addKV (row l i) j c
  dkr : ∀ j d, s.dkr (ix2 j d) = ∑ n ∈ Finset.range (4 * h.val + k.val + 1), A.share b j d n
  acc : ∀ j c, s.acc (ix2 j c) = upto k fun l => ∑ i : Fin 512, (A.head b h).addKV (row l i) j c
  keys : ∀ j c, s.keys (ix2 j c) = (A.head b h).k j c

/-- A step from sums that hold the shares so far. -/
theorem Arrs.step_left (A : Arrs) {b : Fin 2} {h : Fin 8} {k : Fin 4} {n : ℕ} {B : Blk Ideal n} (hB : B.Is (512 * k.val)) (hn : n ≤ 2048)
    (hk : n = 512 * k.val + 512) {x : Ins Ideal} (hx : x.Of (A.head b h) k) {keys : Vec Ideal S2048x256 .bf16}
    (hkeys : ∀ j c, keys (ix2 j c) = (A.head b h).k j c) {acc : Vec Ideal S2048x256 .f32} {dkr : Vec Ideal S2048x128 .f32}
    (hacc : ∀ j c, acc (ix2 j c) + ∑ i : Fin 512, (A.head b h).addKV (row k i) j c
      = upto k fun l => ∑ i : Fin 512, (A.head b h).addKV (row l i) j c)
    (hdkr : ∀ j d, dkr (ix2 j d) = ∑ n ∈ Finset.range (4 * h.val + k.val), A.share b j d n) :
    A.Left b h k (B.step hn x keys acc dkr) where
  dq i c := B.dqAt_apply hB hn hk hx hkeys i c
  dkv j c := by
    show k0_pay21 (B.accAt hn x keys acc) (ix2 j c) = _
    pointwise [k0_pay21]
    exact (Blk.accAt_apply hB hn hk hx hkeys acc j c).trans (hacc j c)
  dkr j d := by
    refine (Blk.dkrAt_apply hB hn hk hx hkeys dkr j d).trans ?_
    rw [Finset.sum_range_succ, hdkr, A.share_at]
  acc j c := (Blk.accAt_apply hB hn hk hx hkeys acc j c).trans (hacc j c)
  keys := hkeys

theorem pay3_apply (j : Fin 2048) (c : Fin 256) : (k0_pay3 (F := Ideal)) (ix2 j c) = 0 := by
  pointwise [k0_pay3]
theorem pay4_apply (j : Fin 2048) (d : Fin 128) : (k0_pay4 (F := Ideal)) (ix2 j d) = 0 := by
  pointwise [k0_pay4]

theorem later : ∀ k : Fin 4, ¬k = 0 → k = 1 ∨ k = 2 ∨ k = 3 := by decide

/-- After every point the buffers hold the sums so far. -/
theorem left_at (c : Dev nD) : ∀ (n : ℕ) (t : Fin cfg0.N) (b : Fin 2) (h : Fin 8) (k : Fin 4), t.val = n →
    t.val = 32 * b.val + 4 * h.val + k.val → (arrs m c).Left b h k (afterAt m c t) := by
  intro n
  induction n with
  | zero =>
    intro t b h k hn ht
    obtain rfl : k = 0 := Fin.ext (by show k.val = 0; omega)
    obtain rfl : h = 0 := Fin.ext (by show h.val = 0; omega)
    have hx := (arrs m c).ins_of b 0 0 t ht
    rw [after_A m c t (by omega), ins_eq]
    refine (arrs m c).step_left blk0_is _ rfl hx (keysOf_apply hx) (fun j c => ?_) fun j d => ?_
    · rw [upto_zero, pay3_apply, zero_add]
    · rw [pay4_apply]; rfl
  | succ n ih =>
    intro t b h k hn ht
    have hx := (arrs m c).ins_of b h k t ht
    have hN : n < cfg0.N := by have := t.isLt; omega
    have hheld : held m c t.val = afterAt m c ⟨n, hN⟩ := by rw [hn]; exact held_succ m c ⟨n, hN⟩
    by_cases h0 : k = 0
    · subst h0
      have hx0 := keysOf_apply hx
      by_cases hh : h = 0
      · subst hh
        rw [after_A m c t (by rw [ht]; show (32 * b.val + 4 * 0 + 0) % 32 = 0; omega), ins_eq]
        refine (arrs m c).step_left blk0_is _ rfl hx hx0 (fun j c => ?_) fun j d => ?_
        · rw [upto_zero, pay3_apply, zero_add]
        · rw [pay4_apply]; rfl
      · have hp : h.val ≠ 0 := fun e => hh (Fin.ext e)
        have e0 : (0 : Fin 4).val = 0 := rfl
        rw [after_E m c t (by omega) (by omega), ins_eq, hheld]
        have I := ih ⟨n, hN⟩ b ⟨h.val - 1, by omega⟩ 3 rfl (by show n = 32 * b.val + 4 * (h.val - 1) + 3; omega)
        refine (arrs m c).step_left blk0_is _ rfl hx hx0 (fun j c => ?_) fun j d => (I.dkr j d).trans ?_
        · rw [upto_zero, pay3_apply, zero_add]
        · rw [show 4 * (h.val - 1) + (3 : Fin 4).val + 1 = 4 * h.val + (0 : Fin 4).val by show 4 * (h.val - 1) + 3 + 1 = 4 * h.val + 0; omega]
    · have hp : k.val ≠ 0 := fun e => h0 (Fin.ext e)
      have I := ih ⟨n, hN⟩ b h ⟨k.val - 1, by omega⟩ rfl (by show n = 32 * b.val + 4 * h.val + (k.val - 1); omega)
      have Ir (j d) := (I.dkr j d).trans (by rw [show 4 * h.val + (⟨k.val - 1, by omega⟩ : Fin 4).val + 1 = 4 * h.val + k.val by dsimp only; omega])
      obtain rfl | rfl | rfl := later k h0
      · rw [after_B m c t (by rw [ht]; show (32 * b.val + 4 * h.val + 1) % 4 = 1; omega), ins_eq, hheld]
        exact (arrs m c).step_left blk1_is _ rfl hx I.keys (fun j c => by rw [I.acc]; exact (upto_one _).symm) Ir
      · rw [after_C m c t (by rw [ht]; show (32 * b.val + 4 * h.val + 2) % 4 = 2; omega), ins_eq, hheld]
        exact (arrs m c).step_left blk2_is _ rfl hx I.keys (fun j c => by rw [I.acc]; exact (upto_two _).symm) Ir
      · rw [after_D m c t (by rw [ht]; show (32 * b.val + 4 * h.val + 3) % 4 = 3; omega), ins_eq, hheld]
        exact (arrs m c).step_left blk3_is _ rfl hx I.keys (fun j c => by rw [I.acc]; exact (upto_three _).symm) Ir

end Cert.KernelIdeal.Attn

end
-- ==== Proof.AttnArrays.lean ====
/- The arrays that the attention's backward call leaves. -/
module

public import proofs.«01_k».proof.Proof.AttnPoints

@[expose] public section

set_option maxRecDepth 16384

noncomputable section

namespace Cert.KernelIdeal.Attn

open Idealize.ShloMosaic Idealize.ShloMosaic.TcCoe Idealize.ShloMosaic.Tactic
open Idealize.SL Idealize.SL.Sem
open Cert.KernelIdeal.Gen
open scoped BigOperators

variable (m : (ℓ : Loc nD τ sig) → Buf (Elt Ideal) ℓ)

/-- The sequence, the row in it, the head and the column in it of an element. -/
def seqOf (r : Fin 4096) : Fin 2 := ⟨r.val / 2048, by omega⟩
def rowOf (r : Fin 4096) : Fin 2048 := ⟨r.val % 2048, by omega⟩
def headOf (l : Fin 2048) : Fin 8 := ⟨l.val / 256, by omega⟩
def colOf (l : Fin 2048) : Fin 256 := ⟨l.val % 256, by omega⟩

/-- The gradient of the queries. -/
def Arrs.outQ (A : Arrs) (r : Fin 4096) (l : Fin 2048) : EReal := (A.head (seqOf r) (headOf l)).dq (rowOf r) (colOf l)
/-- The gradient of the keys and values. -/
def Arrs.outKV (A : Arrs) (r : Fin 4096) (l : Fin 2048) : EReal := ∑ i, (A.head (seqOf r) (headOf l)).addKV i (rowOf r) (colOf l)
/-- The gradient of the rotated keys. -/
def Arrs.outKr (A : Arrs) (r : Fin 4096) (d : Fin 128) : EReal :=
  ∑ h, ∑ i, (A.head (seqOf r) h).addK i (rowOf r) ⟨128 + d.val, by omega⟩

variable {A : Arrs} {b : Fin 2} {h : Fin 8} {k : Fin 4} {s : St Ideal}

theorem place {r : Fin 4096} {i : Fin 2048} (hr : r.val = 2048 * b.val + i.val) : seqOf r = b ∧ rowOf r = i :=
  ⟨Fin.ext (by show r.val / 2048 = b.val; omega), Fin.ext (by show r.val % 2048 = i.val; omega)⟩
theorem place' {l : Fin 2048} {c : Fin 256} (hl : l.val = 256 * h.val + c.val) : headOf l = h ∧ colOf l = c :=
  ⟨Fin.ext (by show l.val / 256 = h.val; omega), Fin.ext (by show l.val % 256 = c.val; omega)⟩

theorem Arrs.Left.out_q (H : A.Left b h k s) (i : Fin 512) (c : Fin 256) (r : Fin 4096) (l : Fin 2048)
    (hr : r.val = 2048 * b.val + 512 * k.val + i.val) (hl : l.val = 256 * h.val + c.val) : s.dq (ix2 i c) = A.outQ r l := by
  obtain ⟨e₁, e₂⟩ := place (r := r) (b := b) (i := row k i) (by show _ = 2048 * b.val + (512 * k.val + i.val); omega)
  obtain ⟨e₃, e₄⟩ := place' hl
  rw [H.dq, Arrs.outQ, e₁, e₂, e₃, e₄]
theorem Arrs.Left.out_kv (H : A.Left b h 3 s) (j : Fin 2048) (c : Fin 256) (r : Fin 4096) (l : Fin 2048)
    (hr : r.val = 2048 * b.val + j.val) (hl : l.val = 256 * h.val + c.val) : s.dkv (ix2 j c) = A.outKV r l := by
  obtain ⟨e₁, e₂⟩ := place hr
  obtain ⟨e₃, e₄⟩ := place' hl
  rw [H.dkv, Arrs.outKV, e₁, e₂, e₃, e₄, upto_last]
  exact (sum_rows fun i => (A.head b h).addKV i j c).symm
theorem Arrs.Left.out_kr (H : A.Left b 7 3 s) (j : Fin 2048) (d : Fin 128) (r : Fin 4096)
    (hr : r.val = 2048 * b.val + j.val) : s.dkr (ix2 j d) = A.outKr r d := by
  obtain ⟨e₁, e₂⟩ := place hr
  rw [H.dkr, Arrs.outKr, e₁, e₂]
  show ∑ n ∈ Finset.range 32, A.share b j d n = _
  rw [Finset.sum_range, ← Equiv.sum_comp (finProdFinEquiv (m := 8) (n := 4)), Fintype.sum_prod_type]
  refine Finset.sum_congr rfl fun h _ => ?_
  rw [sum_rows]
  refine Finset.sum_congr rfl fun k _ => ?_
  rw [← A.share_at]
  exact congrArg (A.share b j d) (show k.val + 4 * h.val = 4 * h.val + k.val by omega)

/-- The sequence, the head and the block of a point. -/
theorem point (t : Fin cfg0.N) : ∃ (b : Fin 2) (h : Fin 8) (k : Fin 4), t.val = 32 * b.val + 4 * h.val + k.val := by
  have ht : t.val < 64 := t.isLt
  exact ⟨⟨t.val / 32, by omega⟩, ⟨t.val / 4 % 8, by omega⟩, ⟨t.val % 4, by omega⟩, by dsimp only; omega⟩

section Blocks

variable (b : Fin 2) (h : Fin 8) (k : Fin 4) (t : Fin cfg0.N) (ht : t.val = 32 * b.val + 4 * h.val + k.val)

include ht

theorem rd_dq (X : Vec Ideal S4096x2048 .bf16) (i : Fin 512) (d : Fin 256) :
    (win0_7.blk t).view.read (Elt Ideal) X (ix2 i d) = X (ix2 (tok b (row k i)) ⟨256 * h.val + d.val, by omega⟩) := by
  have e := tok_row b k i
  blk_ext [places t]
theorem rd_dkv (X : Vec Ideal S4096x2048 .bf16) (j : Fin 2048) (d : Fin 256) :
    (win0_8.blk t).view.read (Elt Ideal) X (ix2 j d) = X (ix2 (tok b j) ⟨256 * h.val + d.val, by omega⟩) := by
  have e := tok_val b j
  blk_ext [places t]
theorem rd_dkr (X : Vec Ideal S4096x128 .f32) (j : Fin 2048) (d : Fin 128) :
    (win0_9.blk t).view.read (Elt Ideal) X (ix2 j d) = X (ix2 (tok b j) d) := by
  have e := tok_val b j
  blk_ext [places t]

end Blocks

theorem flush_8 : ∀ t : Fin cfg0.N, (cfg0.win 8).flush t = true → t.val % 4 = 3 := by decide +kernel
theorem flush_9 : ∀ t : Fin cfg0.N, (cfg0.win 9).flush t = true → t.val % 32 = 31 := by decide +kernel

/-- The array of the queries' gradient. -/
theorem arr_7 (c : Dev nD) : (dats m 0 c).arrAt 7 cfg0.N = fun y => (arrs m c).outQ (y 0) (y 1) := by
  refine (dats m 0 c).arrAt_eq_of_covers 7 _ (by decide +kernel) fun t hf y => ?_
  obtain ⟨b, h, k, ht⟩ := point t
  have L := left_at m c _ t b h k rfl ht
  have R := rd_dq b h k t ht (fun y => (arrs m c).outQ (y 0) (y 1))
  generalize arrs m c = A at *
  rw [after_7]
  generalize afterAt m c t = s at *
  idx_vars y
  exact (L.out_q y0 y1 _ _ (by show 2048 * b.val + (512 * k.val + y0.val) = _; omega) rfl).trans (R y0 y1).symm

/-- The array of the gradient of the keys and values. -/
theorem arr_8 (c : Dev nD) : (dats m 0 c).arrAt 8 cfg0.N = fun y => (arrs m c).outKV (y 0) (y 1) := by
  refine (dats m 0 c).arrAt_eq_of_covers 8 _ (by decide +kernel) fun t hf y => ?_
  obtain ⟨b, h, k, ht⟩ := point t
  obtain rfl : k = 3 := Fin.ext (by have := flush_8 t hf; show k.val = 3; omega)
  have L := left_at m c _ t b h 3 rfl ht
  have R := rd_dkv b h 3 t ht (fun y => (arrs m c).outKV (y 0) (y 1))
  generalize arrs m c = A at *
  rw [after_8]
  generalize afterAt m c t = s at *
  idx_vars y
  exact (L.out_kv y0 y1 _ _ rfl rfl).trans (R y0 y1).symm

/-- The array of the rotated keys' gradient. -/
theorem arr_9 (c : Dev nD) : (dats m 0 c).arrAt 9 cfg0.N = fun y => (arrs m c).outKr (y 0) (y 1) := by
  refine (dats m 0 c).arrAt_eq_of_covers 9 _ (by decide +kernel) fun t hf y => ?_
  obtain ⟨b, h, k, ht⟩ := point t
  have hf := flush_9 t hf
  obtain rfl : k = 3 := Fin.ext (by show k.val = 3; omega)
  obtain rfl : h = 7 := Fin.ext (by show h.val = 7; have : (3 : Fin 4).val = 3 := rfl; omega)
  have L := left_at m c _ t b 7 3 rfl ht
  have R := rd_dkr b 7 3 t ht (fun y => (arrs m c).outKr (y 0) (y 1))
  generalize arrs m c = A at *
  rw [after_9]
  generalize afterAt m c t = s at *
  idx_vars y
  exact (L.out_kr y0 y1 _ rfl).trans (R y0 y1).symm

end Cert.KernelIdeal.Attn

end
-- ==== Proof.AttnArgs.lean ====
/- The mathematics of the attention's forward pass over the program's arguments: scores, weights, and the logarithm of
   their sum. -/
module

public import Idealize.ShloMosaic.PureOps.Ideal
public import Mathlib.Algebra.BigOperators.Fin

@[expose] public section

noncomputable section

namespace Cert.Attn

open Idealize.ShloMosaic
open scoped BigOperators

/-- The arguments, element by element: queries (a plain and a rotary half per head), rotations, keys and values (per
    head), the keys' shared rotary half, and the gradient of the result. -/
structure Args where
  q : Fin 4096 → Fin 2048 → EReal
  cs : Fin 4096 → Fin 128 → EReal
  kv : Fin 4096 → Fin 2048 → EReal
  kr : Fin 4096 → Fin 128 → EReal
  ct : Fin 4096 → Fin 1024 → EReal

/-- Row `i` of sequence `b`. -/
def tok (b : Fin 2) (i : Fin 2048) : Fin 4096 := ⟨b.val * 2048 + i.val, by omega⟩
/-- Column `d` of the first and of the second half of head `h`, and of its part of the result. -/
def lo (h : Fin 8) (d : Fin 128) : Fin 2048 := ⟨h.val * 256 + d.val, by omega⟩
def hi (h : Fin 8) (d : Fin 128) : Fin 2048 := ⟨h.val * 256 + (128 + d.val), by omega⟩
def out (h : Fin 8) (d : Fin 128) : Fin 1024 := ⟨h.val * 128 + d.val, by omega⟩

/-- The scores' scale. -/
def scale : EReal := Ideal.ofBits .f32 0x3D93CD3A#32

namespace Args

variable (A : Args) (b : Fin 2) (h : Fin 8)

/-- The score of key `j` for query `i`. -/
def score (i j : Fin 2048) : EReal :=
  ((∑ d, A.q (tok b i) (lo h d) * A.kv (tok b j) (lo h d))
    + ∑ d, A.kr (tok b j) d * (A.q (tok b i) (hi h d) * A.cs (tok b i) d)) * scale
/-- The score, or −∞ past the diagonal. -/
def masked (i j : Fin 2048) : EReal := if j.val ≤ i.val then A.score b h i j else ⊥
/-- A query's greatest score. -/
def top (i : Fin 2048) : EReal := Finset.univ.fold max ⊥ (A.masked b h i)
/-- A key's weight before the division by their sum. -/
def ex (i j : Fin 2048) : EReal := Ideal.exp (A.masked b h i j - A.top b h i)
/-- The weights' sum. -/
def total (i : Fin 2048) : EReal := ∑ j, A.ex b h i j
/-- The logarithm of the sum of the scores' exponentials. -/
def lse (i : Fin 2048) : EReal := A.top b h i + Ideal.log (A.total b h i)

/-- The gradient of a weight. -/
def dp (i j : Fin 2048) : EReal := ∑ d, A.ct (tok b i) (out h d) * A.kv (tok b j) (hi h d)
/-- What the weights' sum sends back. -/
def back (i : Fin 2048) : EReal := ∑ j, A.dp b h i j * Ideal.div 1 (A.total b h i * A.total b h i) * A.ex b h i j
/-- The gradient of a score. -/
def ds (i j : Fin 2048) : EReal :=
  (if j.val ≤ i.val then (Ideal.div (A.dp b h i j) (A.total b h i) + -A.back b h i) * A.ex b h i j else 0) * scale
/-- The gradient of the queries: their plain half and their rotary half. -/
def dqLo (i : Fin 2048) (d : Fin 128) : EReal := ∑ j, A.ds b h i j * A.kv (tok b j) (lo h d)
def dqHi (i : Fin 2048) (d : Fin 128) : EReal := (∑ j, A.ds b h i j * A.kr (tok b j) d) * A.cs (tok b i) d
/-- The gradient of the keys' plain half, of the values, and of the keys' rotary half. -/
def dk (j : Fin 2048) (d : Fin 128) : EReal := ∑ i, A.ds b h i j * A.q (tok b i) (lo h d)
def dv (j : Fin 2048) (d : Fin 128) : EReal := ∑ i, A.ct (tok b i) (out h d) * Ideal.div (A.ex b h i j) (A.total b h i)
def dkr (j : Fin 2048) (d : Fin 128) : EReal := ∑ h, ∑ i, A.ds b h i j * (A.q (tok b i) (hi h d) * A.cs (tok b i) d)

end Args

end Cert.Attn

end
-- ==== Proof.AttnHost.lean ====
/- The host's operations before the call: scores, mask, and the logarithm of the weights' sum. -/
module

public import proofs.«01_k».proof.Proof.AttnArgs
public import proofs.«01_k».proof.Proof.AttnFrame
public import Idealize.ShloMosaic.Lib.StableHlo.ReadAt
public import Idealize.ShloMosaic.Lib.Pointwise
public import Idealize.ShloMosaic.Lib.Pointwise.IndexVar

@[expose] public section

set_option maxRecDepth 16384

noncomputable section

namespace Cert.KernelIdeal.Attn

open Idealize.ShloMosaic Idealize.ShloMosaic.TcCoe Idealize.ShloMosaic.Tactic
open Idealize.SL Idealize.SL.Sem StableHlo
open Cert.KernelIdeal.Gen
open scoped BigOperators

/-! ## The host's operations on values -/

/-- The scores of the queries `q` and the keys `kv`, `kr`. -/
def scoresOf (q : FVec Ideal S4096x2048 .f32) (cs : FVec Ideal S4096x128 .f32) (kv : FVec Ideal S4096x2048 .f32)
    (kr : FVec Ideal S4096x128 .f32) : FVec Ideal S2x8x2048x2048 .f32 :=
  have q4 := shapeCast S2x2048x8x256 q shapeCasts_S4096x2048_S2x2048x8x256
  have rot := broadcastInDim S2x2048x8x128 ![0, 1, 2, 3] bcast_S2x2048x1x128_S2x2048x8x128_0_1_2_3
    (broadcastInDim S2x2048x1x128 ![0, 1, 3] bcast_S2x2048x128_S2x2048x1x128_0_1_3 (shapeCast S2x2048x128 cs shapeCasts_S4096x128_S2x2048x128))
  mulf (addf
      (Host.dotGeneral dot_S2x2048x8x128_S2x2048x8x128_S2x8x2048x2048_3_3_1_1_02_02 none
        (extractStridedSlice S2x2048x8x128 ![0, 0, 0, 0] q4 slices_S2x2048x8x256_S2x2048x8x128_0_0_0_0)
        (extractStridedSlice S2x2048x8x128 ![0, 0, 0, 0] (shapeCast S2x2048x8x256 kv shapeCasts_S4096x2048_S2x2048x8x256)
          slices_S2x2048x8x256_S2x2048x8x128_0_0_0_0))
      (transpose S2x8x2048x2048 [0, 3, 2, 1]
        (Host.dotGeneral dot_S2x2048x128_S2x2048x8x128_S2x2048x2048x8_2_3_1_12_0_0 none
          (shapeCast S2x2048x128 kr shapeCasts_S4096x128_S2x2048x128)
          (mulf (extractStridedSlice S2x2048x8x128 ![0, 0, 0, 128] q4 slices_S2x2048x8x256_S2x2048x8x128_0_0_0_128) rot))
        transposes_S2x2048x2048x8_S2x8x2048x2048_0_3_2_1))
    (broadcastInDim S2x8x2048x2048 ![] bcast_S_S2x8x2048x2048 (constant S_ FTy.f32 0x3D93CD3A#32))

/-- The rows' greatest elements. -/
def topOf (x : FVec Ideal S2x8x2048x2048 .f32) : FVec Ideal S2x8x2048 .f32 :=
  Host.reduce FloatOps.maximumf x (constant S_ FTy.f32 0xFF800000#32) reducesTo_S2x8x2048x2048_S2x8x2048_d3 h_S_

/-- The rows' sums of exponentials, a row's greatest element taken away first. -/
def totalOf (x : FVec Ideal S2x8x2048x2048 .f32) (t : FVec Ideal S2x8x2048 .f32) : FVec Ideal S2x8x2048 .f32 :=
  Host.reduceAdd (Host.exp (subf x (broadcastInDim S2x8x2048x2048 ![0, 1, 2, 3] bcast_S2x8x2048x1_S2x8x2048x2048_0_1_2_3
    (broadcastInDim S2x8x2048x1 ![0, 1, 2] bcast_S2x8x2048_S2x8x2048x1_0_1_2 t))))
    (constant S_ FTy.f32 0x00000000#32) reducesTo_S2x8x2048x2048_S2x8x2048_d3 h_S_

/-- The greatest element plus the logarithm of the sum. -/
def lseOf (t z : FVec Ideal S2x8x2048 .f32) : FVec Ideal S16x2048x1 .f32 :=
  shapeCast S16x2048x1 (addf (broadcastInDim S2x8x2048x1 ![0, 1, 2] bcast_S2x8x2048_S2x8x2048x1_0_1_2 t)
    (Host.log (broadcastInDim S2x8x2048x1 ![0, 1, 2] bcast_S2x8x2048_S2x8x2048x1_0_1_2 z))) shapeCasts_S2x8x2048x1_S16x2048x1

/-- The elements where a mask is set, elsewhere a constant. -/
def whereOf (c : IVec S2048x2048 1) (x : FVec Ideal S2x8x2048x2048 .f32) (z : FVec Ideal S_ .f32) : FVec Ideal S2x8x2048x2048 .f32 :=
  select (broadcastInDim S2x8x2048x2048 ![2, 3] bcast_S2048x2048_S2x8x2048x2048_2_3 c) x (broadcastInDim S2x8x2048x2048 ![] bcast_S_S2x8x2048x2048 z)

/-- The mask of the keys up to the query. -/
def causal : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

theorem topOf_apply (x : FVec Ideal S2x8x2048x2048 .f32) (b : Fin 2) (h : Fin 8) (i : Fin 2048) :
    topOf x (ix3 b h i) = Finset.univ.fold max ⊥ fun j => x (ix4 b h i j) := by
  pointwise [topOf]
  rfl
theorem totalOf_apply (x : FVec Ideal S2x8x2048x2048 .f32) (t : FVec Ideal S2x8x2048 .f32) (b : Fin 2) (h : Fin 8) (i : Fin 2048) :
    totalOf x t (ix3 b h i) = ∑ j, Ideal.exp (x (ix4 b h i j) - t (ix3 b h i)) := by
  pointwise [totalOf]
theorem lseOf_apply (t z : FVec Ideal S2x8x2048 .f32) (b : Fin 2) (h : Fin 8) (n : Fin 16) (hn : n.val = 8 * b.val + h.val) (i : Fin 2048) :
    lseOf t z (ix3 n i (0 : Fin 1)) = t (ix3 b h i) + Ideal.log (z (ix3 b h i)) := by
  have hb : n.val / 8 = b.val := by omega
  have hh : n.val % 8 = h.val := by omega
  pointwise [lseOf]
  simp only [hb, hh, Fin.eta]
theorem whereOf_apply (x : FVec Ideal S2x8x2048x2048 .f32) (b : Fin 2) (h : Fin 8) (i j : Fin 2048) :
    whereOf causal x (constant S_ .f32 0xFF800000#32) (ix4 b h i j) = if j.val ≤ i.val then x (ix4 b h i j) else ⊥ := by
  have hc : causal (ix2 i j) = if j.val ≤ i.val then 1#1 else 0#1 := by
    pointwise [causal]
    rw [WordCmp.cmpi_sle_ofNat (by omega) (by omega)]
    by_cases g : j.val ≤ i.val <;> simp [g]
  generalize causal = w at *
  pointwise [whereOf]
  rw [hc]
  split <;> rfl
theorem scoresOf_apply (q cs kv kr) (b : Fin 2) (h : Fin 8) (i j : Fin 2048) : scoresOf q cs kv kr (ix4 b h i j)
    = ((∑ d, q (ix2 (Cert.Attn.tok b i) (Cert.Attn.lo h d)) * kv (ix2 (Cert.Attn.tok b j) (Cert.Attn.lo h d)))
      + ∑ d, kr (ix2 (Cert.Attn.tok b j) d) * (q (ix2 (Cert.Attn.tok b i) (Cert.Attn.hi h d)) * cs (ix2 (Cert.Attn.tok b i) d))) * Cert.Attn.scale := by
  pointwise [scoresOf]
  rfl

/-! ## The arrays after the host's operations -/

theorem after_append (k l : List (HloOp τ sig (Elt Ideal))) (W : Valuation τ sig (Elt Ideal)) :
    after (k ++ l) W = after l (after k W) := by
  induction k generalizing W with
  | nil => rfl
  | cons o k ih => exact ih _

theorem read_scores (W : Valuation τ sig (Elt Ideal)) : (after hostOps0 W (Proc.devRef .tc main_v20) : FVec Ideal S2x8x2048x2048 .f32)
    = scoresOf (W (Proc.devRef .tc main_arg0)) (W (Proc.devRef .tc main_arg1)) (W (Proc.devRef .tc main_arg2)) (W (Proc.devRef .tc main_arg3)) := by
  after_reads_simp
  rfl
theorem read_causal (W : Valuation τ sig (Elt Ideal)) : (after hostOps0 W (Proc.devRef .tc main_v27) : IVec S2048x2048 1) = causal := by
  after_reads_simp
  rfl
theorem read_floor (W : Valuation τ sig (Elt Ideal)) : (after hostOps0 W (Proc.devRef .tc main_cst_2) : FVec Ideal S_ .f32) = constant (F := Ideal) S_ .f32 0xFF800000#32 := by
  after_reads_simp
theorem read_where (W : Valuation τ sig (Elt Ideal)) : (after hostOps0_1 W (Proc.devRef .tc main_v28) : FVec Ideal S2x8x2048x2048 .f32)
    = whereOf (W (Proc.devRef .tc main_v27)) (W (Proc.devRef .tc main_v20)) (W (Proc.devRef .tc main_cst_2)) := by
  after_reads_simp
  rfl
theorem read_lse (W : Valuation τ sig (Elt Ideal)) : (after hostOps0_2 W (Proc.devRef .tc main_v40) : FVec Ideal S16x2048x1 .f32)
    = lseOf (topOf (W (Proc.devRef .tc main_v28))) (totalOf (W (Proc.devRef .tc main_v28)) (topOf (W (Proc.devRef .tc main_v28)))) := by
  after_reads_simp
  rfl

/-- The logarithm of the weights' sum, after all of them. -/
theorem read_all (W : Valuation τ sig (Elt Ideal)) :
    (after (List.flatten [hostOps0, hostOps0_1, hostOps0_2]) W (Proc.devRef .tc main_v40) : FVec Ideal S16x2048x1 .f32)
      = have x := whereOf causal (scoresOf (W (Proc.devRef .tc main_arg0)) (W (Proc.devRef .tc main_arg1)) (W (Proc.devRef .tc main_arg2))
          (W (Proc.devRef .tc main_arg3))) (constant S_ .f32 0xFF800000#32)
        lseOf (topOf x) (totalOf x (topOf x)) := by
  rw [List.flatten_cons, List.flatten_cons, List.flatten_cons, List.flatten_nil, List.append_nil, after_append, after_append]
  refine (read_lse _).trans ?_
  rw [read_where, read_causal, read_scores, read_floor]

end Cert.KernelIdeal.Attn

end
-- ==== Proof.AttnEntry.lean ====
/- The arrays that the call reads, as functions of the program's arguments. -/
module

public import proofs.«01_k».proof.Proof.AttnHost
public import proofs.«01_k».proof.Proof.AttnPoints

@[expose] public section

set_option maxRecDepth 16384

noncomputable section

namespace Cert.KernelIdeal.Attn

open Idealize.ShloMosaic Idealize.ShloMosaic.TcCoe Idealize.ShloMosaic.Tactic
open Idealize.SL Idealize.SL.Sem StableHlo
open Cert.KernelIdeal.Gen
open scoped BigOperators

variable (m : (ℓ : Loc nD τ sig) → Buf (Elt Ideal) ℓ)

/-- The arguments of the program. -/
def args (c : Dev nD) : Cert.Attn.Args where
  q r l := (m ((c.tc : Thread nD τ).loc main_arg0) : FVec Ideal S4096x2048 .f32) (ix2 r l)
  cs r d := (m ((c.tc : Thread nD τ).loc main_arg1) : FVec Ideal S4096x128 .f32) (ix2 r d)
  kv r l := (m ((c.tc : Thread nD τ).loc main_arg2) : FVec Ideal S4096x2048 .f32) (ix2 r l)
  kr r d := (m ((c.tc : Thread nD τ).loc main_arg3) : FVec Ideal S4096x128 .f32) (ix2 r d)
  ct r l := (m ((c.tc : Thread nD τ).loc main_arg4) : FVec Ideal S4096x1024 .f32) (ix2 r l)

theorem arrs_q (c : Dev nD) (r : Fin 4096) (l : Fin 2048) : (arrs m c).q (ix2 r l) = (args m c).q r l := congrFun (V_main_arg0 m c) _
theorem arrs_ct (c : Dev nD) (r : Fin 4096) (l : Fin 1024) : (arrs m c).ct (ix2 r l) = (args m c).ct r l := congrFun (V_main_arg4 m c) _
theorem arrs_kv (c : Dev nD) (r : Fin 4096) (l : Fin 2048) : (arrs m c).kv (ix2 r l) = (args m c).kv r l := by
  show V m c main_v38 (ix2 r l) = _
  entry_read
  pointwise []
  rfl
theorem arrs_kr (c : Dev nD) (r : Fin 4096) (l : Fin 128) : (arrs m c).kr (ix2 r l) = (args m c).kr r l := by
  show V m c main_v39 (ix2 r l) = _
  entry_read
  pointwise []
  rfl
theorem arrs_qt (c : Dev nD) (r : Fin 4096) (l : Fin 256) : (arrs m c).qt (ix2 r l)
    = if h : l.val < 128 then Cert.Attn.scale else Cert.Attn.scale * (args m c).cs r ⟨l.val - 128, by omega⟩ := by
  show V m c main_v3 (ix2 r l) = _
  simp only [V, List.flatten_cons, List.flatten_nil, List.append_nil]
  after_reads_at
  rfl
theorem arrs_lse (c : Dev nD) (b : Fin 2) (h : Fin 8) (i : Fin 2048) :
    (arrs m c).lse (ix3 (⟨8 * b.val + h.val, by omega⟩ : Fin 16) i (0 : Fin 1)) = (args m c).lse b h i := by
  refine (congrFun (read_all fun r => m (c, r)) _).trans ?_
  have hm (i j : Fin 2048) : whereOf causal (scoresOf (m (c, Proc.devRef .tc main_arg0)) (m (c, Proc.devRef .tc main_arg1))
      (m (c, Proc.devRef .tc main_arg2)) (m (c, Proc.devRef .tc main_arg3))) (constant S_ .f32 0xFF800000#32) (ix4 b h i j)
      = (args m c).masked b h i j := by
    rw [whereOf_apply, scoresOf_apply]
    rfl
  generalize whereOf causal (scoresOf (m (c, Proc.devRef .tc main_arg0)) (m (c, Proc.devRef .tc main_arg1))
      (m (c, Proc.devRef .tc main_arg2)) (m (c, Proc.devRef .tc main_arg3))) (constant S_ .f32 0xFF800000#32) = x at *
  have ht : topOf x (ix3 b h i) = (args m c).top b h i := by
    rw [topOf_apply]
    exact congrArg (Finset.univ.fold max ⊥) (funext (hm i))
  show lseOf (topOf x) (totalOf x (topOf x)) _ = _
  rw [lseOf_apply _ _ b h _ rfl, totalOf_apply, ht]
  unfold Cert.Attn.Args.lse Cert.Attn.Args.total Cert.Attn.Args.ex
  simp only [hm]

end Cert.KernelIdeal.Attn

end
-- ==== Proof.AttnRef.lean ====
/- The reference's results, as functions of its arguments. -/
module

public import proofs.«01_k».proof.Proof.AttnArgs
public import proofs.«01_k».proof.Proof.Gen.ReferenceIdeal.Read
public import Idealize.ShloMosaic.Lib.WordCmp
public import Idealize.ShloMosaic.Lib.Pointwise
public import Idealize.ShloMosaic.Lib.Pointwise.IndexVar

@[expose] public section

set_option maxRecDepth 16384

noncomputable section

namespace Cert.ReferenceIdeal.Attn

open Idealize.ShloMosaic Idealize.ShloMosaic.TcCoe Idealize.ShloMosaic.Tactic
open Cert.ReferenceIdeal.Gen Cert.ReferenceIdeal.Read Cert.Attn
open scoped BigOperators

variable (x0 : FVec Ideal S4096x2048 .f32) (x1 : FVec Ideal S4096x128 .f32) (x2 : FVec Ideal S4096x2048 .f32)
  (x3 : FVec Ideal S4096x128 .f32) (x4 : FVec Ideal S4096x1024 .f32)

/-- The arguments, element by element. -/
def args : Args where
  q r l := x0 (ix2 r l)
  cs r d := x1 (ix2 r d)
  kv r l := x2 (ix2 r l)
  kr r d := x3 (ix2 r d)
  ct r l := x4 (ix2 r l)

variable (b : Fin 2) (h : Fin 8) (i j : Fin 2048)

theorem mask_apply : val_main_v24_1 (F := Ideal) (ix4 b h i j) = if j.val ≤ i.val then 1#1 else 0#1 := by
  pointwise [val_main_v24_1, val_main_v23, val_main_v22, val_main_v21, val_main_v20, val_main_v19, val_main_v18, val_main_v17]
  rw [WordCmp.cmpi_sle_ofNat (by omega) (by omega)]
  by_cases g : j.val ≤ i.val <;> simp [g]
theorem score_apply : val_main_v16 (F := Ideal) x0 x1 x2 x3 (ix4 b h i j) = (args x0 x1 x2 x3 x4).score b h i j := by
  pointwise [val_main_v16, val_main_v15, val_main_cst, val_main_v14, val_main_v13, val_main_v12, val_main_v11, val_main_v10, val_main_v9, val_main_v8,
    val_main_v7, val_main_v6, val_main_v5, val_main_v3, val_main_v2, val_main_v1, val_main_v0]
  rfl
theorem masked_apply : val_main_v24_0 (F := Ideal) x0 x1 x2 x3 (ix4 b h i j) = (args x0 x1 x2 x3 x4).masked b h i j := by
  pointwise [val_main_v24_0, val_main_call0_v1, val_main_cst_0]
  rw [mask_apply, score_apply x0 x1 x2 x3 x4]
  unfold Args.masked
  split <;> rfl
theorem top_apply : val_main_v25 (F := Ideal) x0 x1 x2 x3 (ix3 b h i) = (args x0 x1 x2 x3 x4).top b h i := by
  have e (j) := masked_apply x0 x1 x2 x3 x4 b h i j
  unfold val_main_v25
  generalize val_main_v24_0 (F := Ideal) x0 x1 x2 x3 = x at *
  pointwise [val_main_cst_1]
  exact congrArg (Finset.univ.fold max ⊥) (funext e)
theorem low_apply : val_main_v31 (F := Ideal) (ix3 b h i) = (⊥ : EReal) := by
  rw [val_main_v31_apply]
  rfl
theorem floor_apply : val_main_v32 (F := Ideal) x0 x1 x2 x3 (ix3 b h i) = (args x0 x1 x2 x3 x4).top b h i := by
  have t := top_apply x0 x1 x2 x3 x4 b h i
  have l := low_apply b h i
  rw [val_main_v32_apply]
  generalize val_main_v25 (F := Ideal) x0 x1 x2 x3 = y at *
  generalize val_main_v31 (F := Ideal) = z at *
  rw [t, l]
  exact max_eq_right (bot_le (a := (args x0 x1 x2 x3 x4).top b h i))
theorem ex_apply : val_main_v45 (F := Ideal) x0 x1 x2 x3 (ix4 b h i j) = (args x0 x1 x2 x3 x4).ex b h i j := by
  have e := masked_apply x0 x1 x2 x3 x4 b h i j
  have t := floor_apply x0 x1 x2 x3 x4 b h i
  unfold val_main_v45 val_main_v44 val_main_v43 val_main_v42
  generalize val_main_v24_0 (F := Ideal) x0 x1 x2 x3 = x at *
  generalize val_main_v32 (F := Ideal) x0 x1 x2 x3 = y at *
  pointwise []
  rw [e, t]
  rfl
theorem total_apply : val_main_v46 (F := Ideal) x0 x1 x2 x3 (ix3 b h i) = (args x0 x1 x2 x3 x4).total b h i := by
  have e (j) := ex_apply x0 x1 x2 x3 x4 b h i j
  unfold val_main_v46
  generalize val_main_v45 (F := Ideal) x0 x1 x2 x3 = x at *
  pointwise [val_main_cst_9]
  exact Finset.sum_congr rfl fun j _ => e j
theorem dp_apply : val_main_v58 (F := Ideal) x2 x4 (ix4 b h i j) = (args x0 x1 x2 x3 x4).dp b h i j := by
  pointwise [val_main_v58, val_main_v57, val_main_v56, val_main_v4, val_main_v0]
  rfl
theorem back_apply : val_main_v64 (F := Ideal) x0 x1 x2 x3 x4 (ix3 b h i) = (args x0 x1 x2 x3 x4).back b h i := by
  have e (j) := ex_apply x0 x1 x2 x3 x4 b h i j
  have t := total_apply x0 x1 x2 x3 x4 b h i
  have d (j) := dp_apply x0 x1 x2 x3 x4 b h i j
  unfold val_main_v64 val_main_v63 val_main_v62 val_main_v61 val_main_v52 val_main_v50 val_main_v47
  generalize val_main_v45 (F := Ideal) x0 x1 x2 x3 = x at *
  generalize val_main_v46 (F := Ideal) x0 x1 x2 x3 = y at *
  generalize val_main_v58 (F := Ideal) x2 x4 = z at *
  pointwise [val_main_v51, val_main_cst_10, val_main_cst_11]
  simp only [e, t, d]
  rfl
theorem ds_apply : val_main_v75 (F := Ideal) x0 x1 x2 x3 x4 (ix4 b h i j) = (args x0 x1 x2 x3 x4).ds b h i j := by
  have e := ex_apply x0 x1 x2 x3 x4 b h i j
  have t := total_apply x0 x1 x2 x3 x4 b h i
  have d := dp_apply x0 x1 x2 x3 x4 b h i j
  have k := back_apply x0 x1 x2 x3 x4 b h i
  have c := mask_apply b h i j
  unfold val_main_v75 val_main_v73 val_main_v72 val_main_v71 val_main_v70 val_main_v69 val_main_v68 val_main_v67 val_main_v66 val_main_v65 val_main_v47
  generalize val_main_v45 (F := Ideal) x0 x1 x2 x3 = x at *
  generalize val_main_v46 (F := Ideal) x0 x1 x2 x3 = y at *
  generalize val_main_v58 (F := Ideal) x2 x4 = z at *
  generalize val_main_v64 (F := Ideal) x0 x1 x2 x3 x4 = w at *
  generalize val_main_v24_1 (F := Ideal) = a at *
  pointwise [val_main_v74, val_main_cst_13, val_main_cst_12, val_main_call1_v0, val_main_call1_cst]
  rw [c, d, t, k, e, Fin.sum_univ_one]
  unfold Args.ds
  split
  · rfl
  · exact (zero_mul _).symm

/-! ## The results -/

theorem dqHi_apply (d : Fin 128) : val_main_v80 (F := Ideal) x0 x1 x2 x3 x4 (ix4 b i h d) = (args x0 x1 x2 x3 x4).dqHi b h i d := by
  have e (j) := ds_apply x0 x1 x2 x3 x4 b h i j
  unfold val_main_v80 val_main_v77 val_main_v76
  generalize val_main_v75 (F := Ideal) x0 x1 x2 x3 x4 = x at *
  pointwise [val_main_v79, val_main_v5, val_main_v9, val_main_v2]
  simp only [e]
  rfl
theorem dqLo_apply (d : Fin 128) : val_main_v85 (F := Ideal) x0 x1 x2 x3 x4 (ix4 b i h d) = (args x0 x1 x2 x3 x4).dqLo b h i d := by
  have e (j) := ds_apply x0 x1 x2 x3 x4 b h i j
  unfold val_main_v85 val_main_v84
  generalize val_main_v75 (F := Ideal) x0 x1 x2 x3 x4 = x at *
  pointwise [val_main_v3, val_main_v0]
  simp only [e]
  rfl
theorem dk_apply (d : Fin 128) : val_main_v83 (F := Ideal) x0 x1 x2 x3 x4 (ix4 b j h d) = (args x0 x1 x2 x3 x4).dk b h j d := by
  have e (i) := ds_apply x0 x1 x2 x3 x4 b h i j
  unfold val_main_v83 val_main_v82
  generalize val_main_v75 (F := Ideal) x0 x1 x2 x3 x4 = x at *
  pointwise [val_main_v6, val_main_v1]
  simp only [e]
  rfl
theorem dv_apply (d : Fin 128) : val_main_v60 (F := Ideal) x0 x1 x2 x3 x4 (ix4 b j h d) = (args x0 x1 x2 x3 x4).dv b h j d := by
  have e (i) := ex_apply x0 x1 x2 x3 x4 b h i j
  have t (i) := total_apply x0 x1 x2 x3 x4 b h i
  unfold val_main_v60 val_main_v59 val_main_v49 val_main_v48 val_main_v47
  generalize val_main_v45 (F := Ideal) x0 x1 x2 x3 = x at *
  generalize val_main_v46 (F := Ideal) x0 x1 x2 x3 = y at *
  pointwise [val_main_v57, val_main_v56]
  simp only [e, t]
  rfl
/-- The gradient of the shared keys' rotary half, over the queries and then over the heads. -/
theorem dkr_apply (d : Fin 128) : val_main_v78 (F := Ideal) x0 x1 x2 x3 x4 (ix3 b j d) = (args x0 x1 x2 x3 x4).dkr b j d := by
  have e (h i) := ds_apply x0 x1 x2 x3 x4 b h i j
  unfold val_main_v78 val_main_v76
  generalize val_main_v75 (F := Ideal) x0 x1 x2 x3 x4 = x at *
  pointwise [val_main_v11, val_main_v10, val_main_v9, val_main_v8, val_main_v2, val_main_v1]
  simp only [e]
  exact Finset.sum_comm

/-- Two padded halves added are the two halves side by side. -/
theorem halves (n : Nat) (hn : n < 256) (x y : Fin 128 → EReal) :
    ((if g : 128 ≤ n ∧ n - 128 < 128 then x ⟨n - 128, g.2⟩ else 0) + if g : n < 128 then y ⟨n, g⟩ else 0)
      = if g : n < 128 then y ⟨n, g⟩ else x ⟨n - 128, by omega⟩ := by
  by_cases g : n < 128
  · rw [dif_pos g, dif_pos g, dif_neg (by omega), zero_add]
  · rw [dif_neg g, dif_neg g, dif_pos (by omega), add_zero]

/-- The queries' gradient: its plain half, then its rotary half. -/
theorem joined_q (c : Fin 256) : val_main_v87 (F := Ideal) x0 x1 x2 x3 x4 (ix4 b i h c)
    = if g : c.val < 128 then (args x0 x1 x2 x3 x4).dqLo b h i ⟨c.val, g⟩ else (args x0 x1 x2 x3 x4).dqHi b h i ⟨c.val - 128, by omega⟩ := by
  have e := dqLo_apply x0 x1 x2 x3 x4 b h i
  have f := dqHi_apply x0 x1 x2 x3 x4 b h i
  unfold val_main_v87 val_main_v81 val_main_v86
  generalize val_main_v80 (F := Ideal) x0 x1 x2 x3 x4 = x at *
  generalize val_main_v85 (F := Ideal) x0 x1 x2 x3 x4 = y at *
  pointwise [val_main_cst_14, val_main_cst_15]
  refine (halves c.val c.isLt (fun d => x (ix4 b i h d)) (fun d => y (ix4 b i h d))).trans ?_
  split
  · exact e _
  · exact f _
/-- The first result. -/
theorem res_q (r : Fin 4096) (l : Fin 2048) : val_main_v94 (F := Ideal) x0 x1 x2 x3 x4 (ix2 r l)
    = val_main_v87 (F := Ideal) x0 x1 x2 x3 x4 (ix4 ⟨r.val / 2048, by omega⟩ ⟨r.val % 2048, by omega⟩ ⟨l.val / 256, by omega⟩ ⟨l.val % 256, by omega⟩) := by
  unfold val_main_v94 val_main_v92
  generalize val_main_v87 (F := Ideal) x0 x1 x2 x3 x4 = x at *
  pointwise []
/-- The keys' gradient, then the values'. -/
theorem joined_kv (c : Fin 256) : val_main_v91 (F := Ideal) x0 x1 x2 x3 x4 (ix4 b i h c)
    = if g : c.val < 128 then (args x0 x1 x2 x3 x4).dk b h i ⟨c.val, g⟩ else (args x0 x1 x2 x3 x4).dv b h i ⟨c.val - 128, by omega⟩ := by
  have e := dk_apply x0 x1 x2 x3 x4 b h i
  have f := dv_apply x0 x1 x2 x3 x4 b h i
  unfold val_main_v91 val_main_v89 val_main_v90
  generalize val_main_v60 (F := Ideal) x0 x1 x2 x3 x4 = x at *
  generalize val_main_v83 (F := Ideal) x0 x1 x2 x3 x4 = y at *
  pointwise [val_main_cst_16, val_main_cst_17]
  refine (halves c.val c.isLt (fun d => x (ix4 b i h d)) (fun d => y (ix4 b i h d))).trans ?_
  split
  · exact e _
  · exact f _
/-- The second result. -/
theorem res_kv (r : Fin 4096) (l : Fin 2048) : val_main_v95 (F := Ideal) x0 x1 x2 x3 x4 (ix2 r l)
    = val_main_v91 (F := Ideal) x0 x1 x2 x3 x4 (ix4 ⟨r.val / 2048, by omega⟩ ⟨r.val % 2048, by omega⟩ ⟨l.val / 256, by omega⟩ ⟨l.val % 256, by omega⟩) := by
  unfold val_main_v95 val_main_v93
  generalize val_main_v91 (F := Ideal) x0 x1 x2 x3 x4 = x at *
  pointwise []
/-- The third result. -/
theorem res_kr (r : Fin 4096) (d : Fin 128) : val_main_v88 (F := Ideal) x0 x1 x2 x3 x4 (ix2 r d)
    = (args x0 x1 x2 x3 x4).dkr ⟨r.val / 2048, by omega⟩ ⟨r.val % 2048, by omega⟩ d := by
  have e := dkr_apply x0 x1 x2 x3 x4
  unfold val_main_v88
  generalize val_main_v78 (F := Ideal) x0 x1 x2 x3 x4 = x at *
  pointwise []
  rw [e]

end Cert.ReferenceIdeal.Attn

end
-- ==== Proof.AttnMath.lean ====
/- Two spellings of the attention's gradient agree on finite arguments: weights from the logarithm of their sum, and
   weights divided by their sum. -/
module

public import proofs.«01_k».proof.Proof.AttnArgs
public import proofs.«01_k».proof.Proof.AttnHead
public import Mathlib.Data.EReal.Inv

@[expose] public section

noncomputable section

namespace Cert.Attn

open Idealize.ShloMosaic
open Cert.KernelIdeal.Attn (Head)
open scoped BigOperators

/-! ## Real numbers among the extended reals -/

/-- A value that is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A factor that is a nonnegative real goes through a sum, whatever the terms. -/
theorem sum_mul_of_nonneg {ι : Type} {w : EReal} (h0 : 0 ≤ w) (ht : w ≠ ⊤) (s : Finset ι) (f : ι → EReal) :
    (∑ i ∈ s, f i) * w = ∑ i ∈ s, f i * w := by
  classical
  induction s using Finset.induction_on with
  | empty => simp
  | insert a s ha ih => rw [Finset.sum_insert ha, Finset.sum_insert ha, EReal.right_distrib_of_nonneg_of_ne_top h0 ht, ih]

theorem scale_eq : scale = (((2 ^ 23 + 1297722 : ℕ) * (2 : ℝ) ^ (-27 : ℤ) : ℝ) : EReal) := by
  unfold scale
  simp [Ideal.ofBits, Ideal.ieee, -EReal.coe_mul]
theorem scale_nonneg : 0 ≤ scale := by
  rw [scale_eq]
  exact EReal.coe_nonneg.2 (by positivity)
theorem scale_ne_top : scale ≠ ⊤ := by
  rw [scale_eq]
  exact EReal.coe_ne_top _
theorem scale_real : IsReal scale := ⟨_, scale_eq⟩

/-! ## The weights on finite arguments -/

namespace Args

variable (A : Args)

/-- The arguments that make the scores are real numbers. -/
structure Finite : Prop where
  q : ∀ r l, IsReal (A.q r l)
  cs : ∀ r d, IsReal (A.cs r d)
  kv : ∀ r l, IsReal (A.kv r l)
  kr : ∀ r d, IsReal (A.kr r d)

variable {A} (hA : A.Finite) (b : Fin 2) (h : Fin 8) (i j : Fin 2048)
include hA

theorem score_real : IsReal (A.score b h i j) :=
  ((IsReal.sum _ _ fun d => (hA.q _ _).mul (hA.kv _ _)).add
    (IsReal.sum _ _ fun d => (hA.kr _ _).mul ((hA.q _ _).mul (hA.cs _ _)))).mul scale_real

/-- The greatest score is a real number: a query may always use its own key. -/
theorem top_real : IsReal (A.top b h i) := by
  obtain ⟨k, -, hk⟩ := Finset.exists_mem_eq_sup Finset.univ ⟨i, Finset.mem_univ i⟩ (A.masked b h i)
  have own : A.masked b h i i ≤ A.top b h i := Finset.le_sup (Finset.mem_univ i)
  have hk : A.top b h i = A.masked b h i k := hk
  obtain ⟨r, hr⟩ := score_real hA b h i i
  by_cases g : k.val ≤ i.val
  · rw [hk, masked, if_pos g]; exact score_real hA b h i k
  · rw [hk, masked, masked, if_pos le_rfl, if_neg g, hr] at own
    exact absurd (le_bot_iff.1 own) (EReal.coe_ne_bot r)

theorem ex_on (g : j.val ≤ i.val) : ∃ s t : ℝ, A.score b h i j = s ∧ A.top b h i = t ∧ A.ex b h i j = (Real.exp (s - t) : ℝ) := by
  obtain ⟨s, hs⟩ := score_real hA b h i j
  obtain ⟨t, ht⟩ := top_real hA b h i
  refine ⟨s, t, hs, ht, ?_⟩
  rw [ex, masked, if_pos g, hs, ht, ← EReal.coe_sub]
  rfl
theorem ex_past (g : ¬ j.val ≤ i.val) : A.ex b h i j = 0 := by
  obtain ⟨t, ht⟩ := top_real hA b h i
  rw [ex, masked, if_neg g, ht]
  rfl
theorem ex_real : IsReal (A.ex b h i j) ∧ 0 ≤ A.ex b h i j := by
  by_cases g : j.val ≤ i.val
  · obtain ⟨s, t, -, -, e⟩ := ex_on hA b h i j g
    rw [e]; exact ⟨⟨_, rfl⟩, EReal.coe_nonneg.2 (Real.exp_pos _).le⟩
  · rw [ex_past hA b h i j g]; exact ⟨⟨0, rfl⟩, le_rfl⟩
/-- The weights' sum is a positive real number. -/
theorem total_pos : ∃ z : ℝ, 0 < z ∧ A.total b h i = z := by
  obtain ⟨z, hz⟩ : IsReal (A.total b h i) := IsReal.sum _ _ fun j => (ex_real hA b h i j).1
  obtain ⟨s, t, -, -, e⟩ := ex_on hA b h i i le_rfl
  have le : A.ex b h i i ≤ A.total b h i := Finset.single_le_sum (fun j _ => (ex_real hA b h i j).2) (Finset.mem_univ i)
  rw [e, hz, EReal.coe_le_coe_iff] at le
  exact ⟨z, lt_of_lt_of_le (Real.exp_pos _) le, hz⟩

/-- The weight by the logarithm of the sum is the weight divided by the sum. -/
theorem weight_eq : (if j.val ≤ i.val then Ideal.exp (A.score b h i j - A.lse b h i) else 0) = A.ex b h i j * (A.total b h i)⁻¹ := by
  by_cases g : j.val ≤ i.val
  · obtain ⟨z, hz, ez⟩ := total_pos hA b h i
    obtain ⟨s, t, es, et, ee⟩ := ex_on hA b h i j g
    have hl : Ideal.log (z : EReal) = (Real.log z : EReal) := if_neg (not_le.2 hz)
    rw [if_pos g, lse, es, et, ee, ez, hl, ← EReal.coe_add, ← EReal.coe_sub, ← EReal.coe_inv, ← EReal.coe_mul]
    show ((Real.exp (s - (t + Real.log z)) : ℝ) : EReal) = _
    rw [← sub_sub, Real.exp_sub, Real.exp_log hz, div_eq_mul_inv]
  · rw [if_neg g, ex_past hA b h i j g, zero_mul]

theorem inv_total : 0 ≤ (A.total b h i)⁻¹ ∧ (A.total b h i)⁻¹ ≠ ⊤ ∧ (∀ x, Ideal.div x (A.total b h i) = x * (A.total b h i)⁻¹)
    ∧ Ideal.div 1 (A.total b h i * A.total b h i) = (A.total b h i)⁻¹ * (A.total b h i)⁻¹ := by
  obtain ⟨z, hz, ez⟩ := total_pos hA b h i
  have h0 : (z : EReal) ≠ 0 := EReal.coe_ne_zero.2 hz.ne'
  have h1 : (z : EReal) * z ≠ 0 := by rw [← EReal.coe_mul]; exact EReal.coe_ne_zero.2 (mul_pos hz hz).ne'
  rw [ez]
  refine ⟨?_, ?_, fun x => if_neg h0, ?_⟩
  · rw [← EReal.coe_inv]; exact EReal.coe_nonneg.2 (inv_nonneg.2 hz.le)
  · rw [← EReal.coe_inv]; exact EReal.coe_ne_top _
  · rw [Ideal.div, if_neg h1, one_mul, ← EReal.coe_mul, ← EReal.coe_inv, ← EReal.coe_inv, ← EReal.coe_mul, mul_inv]

end Args

/-! ## One head's gradient -/

/-- A head whose parts are those of head `h` of sequence `b` in the arguments. -/
structure Linked (H : Head) (A : Args) (b : Fin 2) (h : Fin 8) : Prop where
  q_lo : ∀ i (d : Fin 128), H.q i ⟨d.val, by omega⟩ = A.q (tok b i) (lo h d)
  q_hi : ∀ i (d : Fin 128), H.q i ⟨128 + d.val, by omega⟩ = A.q (tok b i) (hi h d)
  qt_lo : ∀ i (d : Fin 128), H.qt i ⟨d.val, by omega⟩ = scale
  qt_hi : ∀ i (d : Fin 128), H.qt i ⟨128 + d.val, by omega⟩ = scale * A.cs (tok b i) d
  k_lo : ∀ j (d : Fin 128), H.k j ⟨d.val, by omega⟩ = A.kv (tok b j) (lo h d)
  k_hi : ∀ j (d : Fin 128), H.k j ⟨128 + d.val, by omega⟩ = A.kr (tok b j) d
  v : ∀ j d, H.v j d = A.kv (tok b j) (hi h d)
  lse : ∀ i, H.lse i = A.lse b h i
  ct : ∀ i d, H.ct i d = A.ct (tok b i) (out h d)

namespace Linked

variable {H : Head} {A : Args} {b : Fin 2} {h : Fin 8} (L : Linked H A b h)
include L

/-- The product of the scaled query and the key is the score. -/
theorem score_eq (i j : Fin 2048) : (∑ c : Fin 256, H.qs i c * H.k j c) = A.score b h i j := by
  have split : (∑ c : Fin 256, H.qs i c * H.k j c) = (∑ d : Fin 128, H.qs i ⟨d.val, by omega⟩ * H.k j ⟨d.val, by omega⟩)
      + ∑ d : Fin 128, H.qs i ⟨128 + d.val, by omega⟩ * H.k j ⟨128 + d.val, by omega⟩ :=
    Fin.sum_univ_add (a := 128) (b := 128) fun c => H.qs i c * H.k j c
  rw [split, Args.score, EReal.right_distrib_of_nonneg_of_ne_top scale_nonneg scale_ne_top,
    sum_mul_of_nonneg scale_nonneg scale_ne_top, sum_mul_of_nonneg scale_nonneg scale_ne_top]
  congr 1
  · refine Finset.sum_congr rfl fun d _ => ?_
    rw [Head.qs, L.q_lo, L.qt_lo, L.k_lo]
    ac_rfl
  · refine Finset.sum_congr rfl fun d _ => ?_
    rw [Head.qs, L.q_hi, L.qt_hi, L.k_hi]
    ac_rfl
theorem dp_eq (i j : Fin 2048) : H.dp i j = A.dp b h i j := by
  simp only [Head.dp, Args.dp, L.ct, L.v]

variable (hA : A.Finite)
include hA

theorem p_eq (i j : Fin 2048) : H.p i j = A.ex b h i j * (A.total b h i)⁻¹ := by
  rw [← Args.weight_eq hA, Head.p, L.score_eq, L.lse]
/-- The scaled gradient of a score. -/
theorem ds_eq (i j : Fin 2048) : H.ds i j * scale = A.ds b h i j := by
  obtain ⟨w0, wt, dv, dd⟩ := Args.inv_total hA b h i
  have back : A.back b h i = (∑ k, H.p i k * H.dp i k) * (A.total b h i)⁻¹ := by
    rw [sum_mul_of_nonneg w0 wt, Args.back]
    refine Finset.sum_congr rfl fun k _ => ?_
    rw [L.p_eq hA, L.dp_eq, dd]
    ac_rfl
  rw [Args.ds]
  congr 1
  by_cases g : j.val ≤ i.val
  · rw [if_pos g, dv, back, ← EReal.neg_mul, ← EReal.right_distrib_of_nonneg_of_ne_top w0 wt, ← sub_eq_add_neg, Head.ds,
      L.dp_eq, L.p_eq hA i j]
    ac_rfl
  · rw [if_neg g, H.ds_past (by omega)]

theorem dq_lo (i : Fin 2048) (d : Fin 128) : H.dq i ⟨d.val, by omega⟩ = A.dqLo b h i d := by
  rw [Head.dq, L.qt_lo, sum_mul_of_nonneg scale_nonneg scale_ne_top, Args.dqLo]
  refine Finset.sum_congr rfl fun j _ => ?_
  rw [L.k_lo, ← L.ds_eq hA]
  ac_rfl
theorem dq_hi (i : Fin 2048) (d : Fin 128) : H.dq i ⟨128 + d.val, by omega⟩ = A.dqHi b h i d := by
  rw [Head.dq, L.qt_hi, ← mul_assoc, sum_mul_of_nonneg scale_nonneg scale_ne_top, Args.dqHi]
  congr 1
  refine Finset.sum_congr rfl fun j _ => ?_
  rw [L.k_hi, ← L.ds_eq hA]
  ac_rfl
theorem dk_eq (j : Fin 2048) (d : Fin 128) : (∑ i, H.addK i j ⟨d.val, by omega⟩) = A.dk b h j d := by
  refine Finset.sum_congr rfl fun i _ => ?_
  rw [Head.addK, Head.qs, L.q_lo, L.qt_lo, ← L.ds_eq hA]
  ac_rfl
theorem dkr_eq (j : Fin 2048) (d : Fin 128) : (∑ i, H.addK i j ⟨128 + d.val, by omega⟩)
    = ∑ i, A.ds b h i j * (A.q (tok b i) (hi h d) * A.cs (tok b i) d) := by
  refine Finset.sum_congr rfl fun i _ => ?_
  rw [Head.addK, Head.qs, L.q_hi, L.qt_hi, ← L.ds_eq hA]
  ac_rfl
theorem dv_eq (j : Fin 2048) (d : Fin 128) : (∑ i, H.addV i j d) = A.dv b h j d := by
  refine Finset.sum_congr rfl fun i _ => ?_
  rw [Head.addV, L.p_eq hA, L.ct, (Args.inv_total hA b h i).2.2.1]
  ac_rfl

end Linked

end Cert.Attn

end
-- ==== Proof.AttnFinite.lean ====
/- The precondition, read element by element: the queries, rotations, keys and values are real numbers. -/
module

public import proofs.«01_k».proof.Proof.AttnMath
public import proofs.«01_k».proof.Proof.Gen.Pre_finite
public import Idealize.ShloMosaic.Lib.ReduceAll
public import Idealize.ShloMosaic.PureOps.Ideal.Laws
public import Idealize.ShloMosaic.Lib.Pointwise

@[expose] public section

noncomputable section

namespace Cert.Attn

open Idealize.ShloMosaic
open Cert.Pre_finite Cert.Pre_finite.Gen

/-- A value whose size is below +∞ is a real number. -/
theorem real_of_lt (x : EReal) (h : Ideal.cmp .olt (max x (-x)) (Ideal.ofBits .f32 0x7F800000#32) = 1#1) : IsReal x := by
  have e : Ideal.ofBits .f32 0x7F800000#32 = ⊤ := rfl
  have l : max x (-x) < ⊤ := by
    rw [e] at h
    by_contra n
    simp [Ideal.cmp, n] at h
  obtain ⟨a, b⟩ := max_lt_iff.1 l
  induction x using EReal.rec with
  | bot => exact absurd b (by simp)
  | top => exact absurd a (by simp)
  | coe r => exact ⟨r, rfl⟩

instance : Subsingleton S_.Idx := ⟨fun a b => funext fun k => k.elim0⟩

theorem and_one {a b : BitVec 1} (h : a &&& b = 1#1) : a = 1#1 ∧ b = 1#1 := by
  revert a b
  decide

/-- What the precondition says of each array. -/
theorem finite_parts (x0 : FVec Ideal S4096x2048 .f32) (x1 : FVec Ideal S4096x128 .f32) (x2 : FVec Ideal S4096x2048 .f32)
    (x3 : FVec Ideal S4096x128 .f32) (x4 : FVec Ideal S4096x1024 .f32) (h : fn (F := Ideal) x0 x1 x2 x3 x4 = fun _ => 1#1) :
    (∀ i, IsReal (x0 i)) ∧ (∀ i, IsReal (x1 i)) ∧ (∀ i, IsReal (x2 i)) ∧ ∀ i, IsReal (x3 i) := by
  have h0 := congrFun h ix0
  obtain ⟨h012, h3⟩ := and_one h0
  obtain ⟨h01, h2⟩ := and_one h012
  obtain ⟨hx0, hx1⟩ := and_one h01
  exact ⟨fun i => real_of_lt _ (Host.reduce_andi_all _ _ _ _ _ hx0 i), fun i => real_of_lt _ (Host.reduce_andi_all _ _ _ _ _ hx1 i),
    fun i => real_of_lt _ (Host.reduce_andi_all _ _ _ _ _ h2 i), fun i => real_of_lt _ (Host.reduce_andi_all _ _ _ _ _ h3 i)⟩

end Cert.Attn

end
-- ==== Proof.AttnValue.lean ====
/- The call's results and the reference's results are the same arrays. -/
module

public import proofs.«01_k».proof.Proof.AttnArrays
public import proofs.«01_k».proof.Proof.AttnEntry
public import proofs.«01_k».proof.Proof.AttnRef
public import proofs.«01_k».proof.Proof.AttnFinite

@[expose] public section

set_option maxRecDepth 16384

noncomputable section

namespace Cert.KernelIdeal.Attn

open Idealize.ShloMosaic Idealize.ShloMosaic.TcCoe Idealize.ShloMosaic.Tactic Idealize.SL.Sem
open Cert.KernelIdeal.Gen
open Cert.Attn (Args Linked)
open scoped BigOperators

theorem tok_eq (b : Fin 2) (i : Fin 2048) : tok b i = Cert.Attn.tok b i :=
  Fin.ext (by show 2048 * b.val + i.val = b.val * 2048 + i.val; omega)

section
variable (A : Arrs) (b : Fin 2) (h : Fin 8) (r : Fin 4096)

/-- The two halves of a row of the gradients, from the gradients of one head. -/
theorem outQ_halves (l : Fin 2048) : A.outQ r l = if g : l.val % 256 < 128
    then (A.head (seqOf r) (headOf l)).dq (rowOf r) ⟨l.val % 256, by omega⟩
    else (A.head (seqOf r) (headOf l)).dq (rowOf r) ⟨128 + (l.val % 256 - 128), by omega⟩ := by
  unfold Arrs.outQ
  split
  · rfl
  · exact congrArg _ (Fin.ext (by show l.val % 256 = 128 + (l.val % 256 - 128); omega))
theorem outKV_halves (l : Fin 2048) : A.outKV r l = if g : l.val % 256 < 128
    then ∑ i, (A.head (seqOf r) (headOf l)).addK i (rowOf r) ⟨l.val % 256, by omega⟩
    else ∑ i, (A.head (seqOf r) (headOf l)).addV i (rowOf r) ⟨l.val % 256 - 128, by omega⟩ := by
  unfold Arrs.outKV
  split
  next g => exact Finset.sum_congr rfl fun i _ => dif_pos g
  next g => exact Finset.sum_congr rfl fun i _ => dif_neg g
end

variable (m : (ℓ : Loc nD τ sig) → Buf (Elt Ideal) ℓ) (c : Dev nD)

/-- Each head of arrays that hold the arguments is that head of the arguments. -/
theorem linked_of (X : Arrs) (A : Args) (hq : ∀ r l, X.q (ix2 r l) = A.q r l) (hct : ∀ r l, X.ct (ix2 r l) = A.ct r l)
    (hkv : ∀ r l, X.kv (ix2 r l) = A.kv r l) (hkr : ∀ r l, X.kr (ix2 r l) = A.kr r l)
    (hqt : ∀ r (l : Fin 256), X.qt (ix2 r l) = if h : l.val < 128 then Cert.Attn.scale else Cert.Attn.scale * A.cs r ⟨l.val - 128, by omega⟩)
    (hl : ∀ (b : Fin 2) (h : Fin 8) i, X.lse (ix3 (⟨8 * b.val + h.val, by omega⟩ : Fin 16) i (0 : Fin 1)) = A.lse b h i)
    (b : Fin 2) (h : Fin 8) : Linked (X.head b h) A b h where
  q_lo i d := by
    refine (hq _ _).trans ?_
    rw [tok_eq]
    exact congrArg _ (Fin.ext (by show 256 * h.val + d.val = h.val * 256 + d.val; omega))
  q_hi i d := by
    refine (hq _ _).trans ?_
    rw [tok_eq]
    exact congrArg _ (Fin.ext (by show 256 * h.val + (128 + d.val) = h.val * 256 + (128 + d.val); omega))
  qt_lo i d := (hqt _ _).trans (dif_pos d.isLt)
  qt_hi i d := by
    refine (hqt _ _).trans ((dif_neg (by show ¬ 128 + d.val < 128; omega)).trans ?_)
    rw [tok_eq]
    exact congrArg (fun e => Cert.Attn.scale * A.cs _ e) (Fin.ext (by show 128 + d.val - 128 = d.val; omega))
  k_lo j d := by
    refine (dif_pos d.isLt).trans ((hkv _ _).trans ?_)
    rw [tok_eq]
    exact congrArg _ (Fin.ext (by show 256 * h.val + d.val = h.val * 256 + d.val; omega))
  k_hi j d := by
    refine (dif_neg (by show ¬ 128 + d.val < 128; omega)).trans ((hkr _ _).trans ?_)
    rw [tok_eq]
    exact congrArg _ (Fin.ext (by show 128 + d.val - 128 = d.val; omega))
  v j d := by
    refine (hkv _ _).trans ?_
    rw [tok_eq]
    exact congrArg _ (Fin.ext (by show 256 * h.val + 128 + d.val = h.val * 256 + (128 + d.val); omega))
  lse i := hl b h i
  ct i d := by
    refine (hct _ _).trans ?_
    rw [tok_eq]
    exact congrArg _ (Fin.ext (by show 128 * h.val + d.val = h.val * 128 + d.val; omega))

theorem linked (b : Fin 2) (h : Fin 8) : Linked ((arrs m c).head b h) (args m c) b h :=
  linked_of _ _ (arrs_q m c) (arrs_ct m c) (arrs_kv m c) (arrs_kr m c) (arrs_qt m c) (arrs_lse m c) b h

section
variable (hA : (args m c).Finite) (r : Fin 4096)
include hA

theorem outQ_eq (l : Fin 2048) : (arrs m c).outQ r l = if g : l.val % 256 < 128
    then (args m c).dqLo (seqOf r) (headOf l) (rowOf r) ⟨l.val % 256, g⟩
    else (args m c).dqHi (seqOf r) (headOf l) (rowOf r) ⟨l.val % 256 - 128, by omega⟩ := by
  rw [outQ_halves]
  split
  next g => exact (linked m c (seqOf r) (headOf l)).dq_lo hA (rowOf r) ⟨l.val % 256, g⟩
  next g => exact (linked m c (seqOf r) (headOf l)).dq_hi hA (rowOf r) ⟨l.val % 256 - 128, by omega⟩
theorem outKV_eq (l : Fin 2048) : (arrs m c).outKV r l = if g : l.val % 256 < 128
    then (args m c).dk (seqOf r) (headOf l) (rowOf r) ⟨l.val % 256, g⟩
    else (args m c).dv (seqOf r) (headOf l) (rowOf r) ⟨l.val % 256 - 128, by omega⟩ := by
  rw [outKV_halves]
  split
  next g => exact (linked m c (seqOf r) (headOf l)).dk_eq hA (rowOf r) ⟨l.val % 256, g⟩
  next g => exact (linked m c (seqOf r) (headOf l)).dv_eq hA (rowOf r) ⟨l.val % 256 - 128, by omega⟩
theorem outKr_eq (d : Fin 128) : (arrs m c).outKr r d = (args m c).dkr (seqOf r) (rowOf r) d :=
  Finset.sum_congr rfl fun h _ => (linked m c (seqOf r) h).dkr_eq hA (rowOf r) d
end

/-- The arguments under the precondition. -/
theorem args_finite (h : Cert.Pre_finite.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
      = fun _ => 1#1) : (args m c).Finite :=
  have p := Cert.Attn.finite_parts _ _ _ _ _ h
  ⟨fun r l => p.1 _, fun r d => p.2.1 _, fun r l => p.2.2.1 _, fun r d => p.2.2.2 _⟩

/-- The three result arrays. -/
abbrev gradQ : FVec Ideal S4096x2048 .bf16 := fun y => (arrs m c).outQ (y 0) (y 1)
abbrev gradKV : FVec Ideal S4096x2048 .bf16 := fun y => (arrs m c).outKV (y 0) (y 1)
abbrev gradKr : FVec Ideal S4096x128 .f32 := fun y => (arrs m c).outKr (y 0) (y 1)

/-- Every run ends with the three gradients in the results and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v41_0) = gradQ m c
      ∧ r.2.mem ((c.tc : Thread nD τ).loc main_v41_1) = gradKV m c
      ∧ r.2.mem ((c.tc : Thread nD τ).loc main_v41_2) = gradKr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨((h.1.1 c).1 7).trans (arr_7 m c), ((h.1.1 c).1 8).trans (arr_8 m c), ((h.1.1 c).1 9).trans (arr_9 m c), h.2.1 c⟩)
    (θ_run_and (run_ends m ρ) (quiet m ρ))

end Cert.KernelIdeal.Attn

namespace Cert.Attn

open Idealize.ShloMosaic Idealize.ShloMosaic.TcCoe Idealize.ShloMosaic.Tactic
open Cert.KernelIdeal.Attn (arrs args_finite outQ_eq outKV_eq outKr_eq)
open Cert.ReferenceIdeal.Read Cert.ReferenceIdeal.Attn

variable (x0 : FVec Ideal Cert.KernelIdeal.S4096x2048 .f32) (x1 : FVec Ideal Cert.KernelIdeal.S4096x128 .f32)
  (x2 : FVec Ideal Cert.KernelIdeal.S4096x2048 .f32) (x3 : FVec Ideal Cert.KernelIdeal.S4096x128 .f32)
  (x4 : FVec Ideal Cert.KernelIdeal.S4096x1024 .f32)
  (m : (ℓ : Loc Cert.KernelIdeal.nD Cert.KernelIdeal.τ Cert.KernelIdeal.sig) → Buf (Elt Ideal) ℓ) (c : Dev Cert.KernelIdeal.nD)
  (hm : Cert.KernelIdeal.Attn.args m c = args x0 x1 x2 x3 x4) (hA : (Cert.KernelIdeal.Attn.args m c).Finite)
include hm hA

theorem q_agree : val_main_v94 (F := Ideal) x0 x1 x2 x3 x4 = fun y => (arrs m c).outQ (y 0) (y 1) := by
  funext y
  obtain ⟨r, l, rfl⟩ : ∃ r l, y = ix2 r l := ⟨y 0, y 1, by funext k; match k with | 0 => rfl | 1 => rfl⟩
  rw [res_q, joined_q]
  exact ((outQ_eq m c hA r l).trans (by rw [hm]; rfl)).symm
theorem kv_agree : val_main_v95 (F := Ideal) x0 x1 x2 x3 x4 = fun y => (arrs m c).outKV (y 0) (y 1) := by
  funext y
  obtain ⟨r, l, rfl⟩ : ∃ r l, y = ix2 r l := ⟨y 0, y 1, by funext k; match k with | 0 => rfl | 1 => rfl⟩
  rw [res_kv, joined_kv]
  exact ((outKV_eq m c hA r l).trans (by rw [hm]; rfl)).symm
theorem kr_agree : val_main_v88 (F := Ideal) x0 x1 x2 x3 x4 = fun y => (arrs m c).outKr (y 0) (y 1) := by
  funext y
  obtain ⟨r, l, rfl⟩ : ∃ r l, y = ix2 r l := ⟨y 0, y 1, by funext k; match k with | 0 => rfl | 1 => rfl⟩
  rw [res_kr]
  exact ((outKr_eq m c hA r l).trans (by rw [hm]; rfl)).symm

end Cert.Attn

end
-- ==== Proof.FwdFinite.lean ====
/- The forward pass's precondition, read element by element: the queries, rotations, keys and values are real numbers. -/
module

public import proofs.«01_k».proof.Proof.AttnFinite
public import proofs.«01_k».proof.Proof.Gen.Pre_finite20
public import Idealize.ShloMosaic.Lib.ReduceAll
public import Idealize.ShloMosaic.PureOps.Ideal.Laws
public import Idealize.ShloMosaic.Lib.Pointwise

@[expose] public section

noncomputable section

namespace Cert.Attn

open Idealize.ShloMosaic
open Cert.Pre_finite20 Cert.Pre_finite20.Gen

instance : Subsingleton S_.Idx := ⟨fun a b => funext fun k => k.elim0⟩

/-- What the precondition says of each array. -/
theorem fwd_finite_parts (x0 : FVec Ideal S4096x2048 .f32) (x1 : FVec Ideal S4096x128 .f32) (x2 : FVec Ideal S4096x2048 .f32)
    (x3 : FVec Ideal S4096x128 .f32) (h : fn (F := Ideal) x0 x1 x2 x3 = fun _ => 1#1) :
    (∀ i, IsReal (x0 i)) ∧ (∀ i, IsReal (x1 i)) ∧ (∀ i, IsReal (x2 i)) ∧ ∀ i, IsReal (x3 i) := by
  have h0 := congrFun h ix0
  obtain ⟨h012, h3⟩ := and_one h0
  obtain ⟨h01, h2⟩ := and_one h012
  obtain ⟨hx0, hx1⟩ := and_one h01
  exact ⟨fun i => real_of_lt _ (Host.reduce_andi_all _ _ _ _ _ hx0 i), fun i => real_of_lt _ (Host.reduce_andi_all _ _ _ _ _ hx1 i),
    fun i => real_of_lt _ (Host.reduce_andi_all _ _ _ _ _ h2 i), fun i => real_of_lt _ (Host.reduce_andi_all _ _ _ _ _ h3 i)⟩

end Cert.Attn

end
-- ==== Proof.FwdMath.lean ====
/- The attention's forward pass on finite arguments: the first keys are enough for a block of queries, and two spellings
   of the logarithm of the scores' exponentials agree. -/
module

public import proofs.«01_k».proof.Proof.AttnMath

@[expose] public section

noncomputable section

namespace Cert.Attn

open Idealize.ShloMosaic
open Cert.KernelIdeal.Attn (sum_first)
open scoped BigOperators

/-- A maximum over all the keys whose terms from `n` on are −∞ is the maximum over the first `n`. -/
theorem max_first {n : ℕ} (hn : n ≤ 2048) (f : Fin 2048 → EReal) (h : ∀ j, n ≤ j.val → f j = ⊥) :
    Finset.univ.fold max ⊥ f = Finset.univ.fold max ⊥ fun j : Fin n => f ⟨j.val, by omega⟩ := by
  show Finset.univ.sup f = Finset.univ.sup fun j : Fin n => f ⟨j.val, by omega⟩
  refine le_antisymm (Finset.sup_le fun j _ => ?_) (Finset.sup_le fun j _ => Finset.le_sup (f := f) (Finset.mem_univ _))
  by_cases hj : j.val < n
  · exact Finset.le_sup (f := fun j : Fin n => f ⟨j.val, by omega⟩) (Finset.mem_univ (⟨j.val, hj⟩ : Fin n))
  · rw [h j (by omega)]
    exact bot_le

namespace Args

variable (A : Args) (b : Fin 2) (h : Fin 8)

/-- The attention's result: the values, each by its weight. -/
def res (i : Fin 2048) (d : Fin 128) : EReal := ∑ j, A.kv (tok b j) (hi h d) * Ideal.div (A.ex b h i j) (A.total b h i)
/-- The logarithm of the sum of the scores' exponentials, with no score taken off first. -/
def logSum (i : Fin 2048) : EReal := Ideal.log (∑ j, Ideal.exp (A.masked b h i j))

theorem top_first {n : ℕ} (hn : n ≤ 2048) {i : Fin 2048} (hi : i.val < n) :
    A.top b h i = Finset.univ.fold max ⊥ fun j : Fin n => A.masked b h i ⟨j.val, by omega⟩ :=
  max_first hn _ fun j hj => if_neg (by omega)

variable {A} (hA : A.Finite) (i j : Fin 2048)
include hA

theorem total_first {n : ℕ} (hn : n ≤ 2048) (hi : i.val < n) : A.total b h i = ∑ j : Fin n, A.ex b h i ⟨j.val, by omega⟩ :=
  sum_first hn _ fun j hj => ex_past hA b h i j (by omega)

/-- The sum of the weighted values over the first keys, divided once by the weights' sum, is the result. -/
theorem res_first {n : ℕ} (hn : n ≤ 2048) (hi' : i.val < n) (d : Fin 128) :
    Ideal.div (∑ j : Fin n, A.ex b h i ⟨j.val, by omega⟩ * A.kv (tok b ⟨j.val, by omega⟩) (hi h d)) (A.total b h i) = A.res b h i d := by
  obtain ⟨w0, wt, dv, -⟩ := inv_total hA b h i
  rw [← sum_first hn (fun j => A.ex b h i j * A.kv (tok b j) (hi h d)) fun j hj => by rw [ex_past hA b h i j (by omega), zero_mul],
    dv, sum_mul_of_nonneg w0 wt, res]
  refine Finset.sum_congr rfl fun j _ => ?_
  rw [dv]
  ac_rfl

/-- A score's exponential is its weight times the exponential of the greatest score. -/
theorem exp_masked {t : ℝ} (ht : A.top b h i = t) : Ideal.exp (A.masked b h i j) = A.ex b h i j * (Real.exp t : ℝ) := by
  by_cases g : j.val ≤ i.val
  · obtain ⟨s, t', es, et, ee⟩ := ex_on hA b h i j g
    obtain rfl : t' = t := EReal.coe_injective (et.symm.trans ht)
    rw [ee, masked, if_pos g, es, ← EReal.coe_mul, ← Real.exp_add, sub_add_cancel]
    rfl
  · rw [ex_past hA b h i j g, masked, if_neg g, zero_mul]
    rfl

theorem logSum_eq : A.logSum b h i = A.lse b h i := by
  obtain ⟨t, ht⟩ := top_real hA b h i
  obtain ⟨z, hz, ez⟩ := total_pos hA b h i
  have hl {x : ℝ} (hx : 0 < x) : Ideal.log (x : EReal) = (Real.log x : EReal) := if_neg (not_le.2 hx)
  have e : (∑ j, Ideal.exp (A.masked b h i j)) = ((z * Real.exp t : ℝ) : EReal) := by
    rw [EReal.coe_mul, ← ez, total, sum_mul_of_nonneg (EReal.coe_nonneg.2 (Real.exp_pos t).le) (EReal.coe_ne_top _)]
    exact Finset.sum_congr rfl fun j _ => exp_masked b h hA i j ht
  rw [logSum, e, lse, ht, ez, hl hz, hl (mul_pos hz (Real.exp_pos t)), Real.log_mul hz.ne' (Real.exp_pos t).ne', Real.log_exp,
    add_comm, EReal.coe_add]

end Args

end Cert.Attn

end
-- ==== Proof.FwdStep.lean ====
/- The forward pass of a block of queries over the extended reals, as the equations that its arithmetic satisfies. -/
module

public import proofs.«01_k».proof.Proof.FwdMath
public import proofs.«01_k».proof.Proof.Gen.Kernel20Ideal.Skeleton
public import Idealize.ShloMosaic.Lib.WordCmp
public import Idealize.ShloMosaic.Lib.Pointwise
public import Idealize.ShloMosaic.Lib.Pointwise.IndexVar

@[expose] public section

set_option maxRecDepth 16384

noncomputable section

namespace Cert.Kernel20Ideal.Attn

open Idealize.ShloMosaic Idealize.ShloMosaic.Tactic
open Cert.Kernel20Ideal.Gen
open Cert.Attn Cert.KernelIdeal.Attn
open scoped BigOperators

/-- The masked score of key `j` for query `i` of the block that starts at query `o`. -/
def maskedAt {n : ℕ} (o : ℕ) (q qt : Vec Ideal S512x256 .f32) (keys : Vec Ideal ⟨2, ![n, 256]⟩ .bf16) (i : Fin 512) (j : Fin n) : EReal :=
  if j.val ≤ o + i.val then ∑ c : Fin 256, q (ix2 i c) * qt (ix2 i c) * keys (ix2 j c) else ⊥

/-- A score past the diagonal is the constant, which is −∞. -/
theorem choose (o i j : ℕ) (hi : o + i < 4096) (hj : j < 4096) (s : EReal) :
    Scalar.select (IntOp.cmpi .sle (BitVec.ofNat 32 j) (IntOp.addi (BitVec.ofNat 32 o) (BitVec.ofNat 32 i))) s
      (Named.named κ "mask" (0xF149F2CA#32 : BitVec FTy.f32.bits) : Ideal .f32) = if j ≤ o + i then s else ⊥ := by
  have hm : (Named.named κ "mask" (0xF149F2CA#32 : BitVec FTy.f32.bits) : Ideal .f32) = (⊥ : EReal) := rfl
  have hc : IntOp.cmpi .sle (BitVec.ofNat 32 j) (IntOp.addi (BitVec.ofNat 32 o) (BitVec.ofNat 32 i)) = if j ≤ o + i then 1#1 else 0#1 := by
    show IntOp.cmpi .sle _ (BitVec.ofNat 32 o + BitVec.ofNat 32 i) = _
    rw [← BitVec.ofNat_add, WordCmp.cmpi_sle_ofNat (by omega) (by omega)]
    by_cases h : j ≤ o + i <;> simp [h]
  rw [hm, hc]
  split <;> rfl

/-- The arithmetic of the block of queries that starts at query `o` and looks at the first `n` keys: the scores, their
    maximum, the weights, their sum, and the two results. -/
structure Fwd (n o : ℕ) where
  s : Vec Ideal S512x256 .f32 → Vec Ideal S512x256 .f32 → Vec Ideal ⟨2, ![n, 256]⟩ .bf16 → FVec Ideal ⟨2, ![512, n]⟩ .f32
  top : Vec Ideal S512x256 .f32 → Vec Ideal S512x256 .f32 → Vec Ideal ⟨2, ![n, 256]⟩ .bf16 → FVec Ideal S512x1 .f32
  p : Vec Ideal S512x256 .f32 → Vec Ideal S512x256 .f32 → Vec Ideal ⟨2, ![n, 256]⟩ .bf16 → FVec Ideal ⟨2, ![512, n]⟩ .f32
  l : Vec Ideal S512x256 .f32 → Vec Ideal S512x256 .f32 → Vec Ideal ⟨2, ![n, 256]⟩ .bf16 → FVec Ideal S512x1 .f32
  out : Vec Ideal S512x256 .f32 → Vec Ideal S512x256 .f32 → Vec Ideal ⟨2, ![n, 256]⟩ .bf16 → Vec Ideal ⟨2, ![n, 128]⟩ .bf16 →
    FVec Ideal S512x128 .bf16
  lse : Vec Ideal S512x256 .f32 → Vec Ideal S512x256 .f32 → Vec Ideal ⟨2, ![n, 256]⟩ .bf16 → FVec Ideal S1x512x1 .f32
  s_at : ∀ q qt keys (i : Fin 512) (j : Fin n), s q qt keys (ix2 i j) = maskedAt o q qt keys i j
  top_at : ∀ q qt keys (i : Fin 512), top q qt keys (ix2 i 0) = Finset.univ.fold max ⊥ fun j : Fin n => s q qt keys (ix2 i j)
  p_at : ∀ q qt keys (i : Fin 512) (j : Fin n), p q qt keys (ix2 i j) = Ideal.exp (s q qt keys (ix2 i j) - top q qt keys (ix2 i 0))
  l_at : ∀ q qt keys (i : Fin 512), l q qt keys (ix2 i 0) = ∑ j : Fin n, p q qt keys (ix2 i j)
  out_at : ∀ q qt keys v (i : Fin 512) (d : Fin 128),
    out q qt keys v (ix2 i d) = Ideal.div (∑ j : Fin n, p q qt keys (ix2 i j) * v (ix2 j d)) (l q qt keys (ix2 i 0))
  lse_at : ∀ q qt keys (i : Fin 512), lse q qt keys (ix3 0 i 0) = top q qt keys (ix2 i 0) + Ideal.log (l q qt keys (ix2 i 0))

end Cert.Kernel20Ideal.Attn

end
-- ==== Proof.FwdBlocks.lean ====
/- The arithmetic of a block of queries, for any number of keys, read at an index; the four blocks are four instances of it. -/
module

public import proofs.«01_k».proof.Proof.FwdStep
public import Idealize.ShloMosaic.Lib.MatmulPlain

@[expose] public section

set_option maxRecDepth 16384

noncomputable section

namespace Cert.Kernel20Ideal.Attn

open Idealize.ShloMosaic Idealize.ShloMosaic.Tactic
open Cert.Kernel20Ideal.Gen
open scoped BigOperators

section Parts

variable {n : ℕ} (o : ℕ) (q qt : Vec Ideal S512x256 .f32) (keys : Vec Ideal ⟨2, ![n, 256]⟩ .bf16) (v : Vec Ideal ⟨2, ![n, 128]⟩ .bf16)
  (s p : FVec Ideal ⟨2, ![512, n]⟩ .f32) (top l : FVec Ideal S512x1 .f32)
  (h0 : (⟨2, ![512, n]⟩ : Shape).Iotas .tc 32 [0]) (h1 : (⟨2, ![512, n]⟩ : Shape).Iotas .tc 32 [1])
  (hr : (⟨2, ![512, n]⟩ : Shape).Reduces [1] S512) (hb : S512x1.Broadcasts ⟨2, ![512, n]⟩)
  (hv : (⟨2, ![n, 128]⟩ : Shape).ShapeCasts ⟨2, ![n, 128]⟩)

/-- The scores, before the mask. -/
def dots : FVec Ideal ⟨2, ![512, n]⟩ .f32 :=
  matmul (φ₁ := .bf16) (φ₂ := .bf16) (DotDims.transposedRhs 512 256 n) none
    (truncf .bf16 (mulf q (shapeCast S512x256 qt shapeCasts_S512x256_S512x256)) bitsLt_bf16_f32) keys (constant ⟨2, ![512, n]⟩ .f32 0x00000000#32)
/-- The masked scores. -/
def scores : FVec Ideal ⟨2, ![512, n]⟩ .f32 :=
  select (cmpi .sle (iota .tc ⟨2, ![512, n]⟩ 32 [1] h1) (addi (broadcast ⟨2, ![512, n]⟩ (BitVec.ofNat 32 o)) (iota .tc ⟨2, ![512, n]⟩ 32 [0] h0)))
    (dots q qt keys) (broadcast ⟨2, ![512, n]⟩ (Named.named κ "mask" (0xF149F2CA#32 : BitVec FTy.f32.bits)))
/-- Each row's greatest score. -/
def topOf : FVec Ideal S512x1 .f32 :=
  shapeCast S512x1 (multiReduction .maximumf [1] S512 s 0xFF800000#32 hr (.inl rfl) rfl) shapeCasts_S512_S512x1
/-- The weights. -/
def weightsOf : FVec Ideal ⟨2, ![512, n]⟩ .f32 := exp (subf s (broadcastTo ⟨2, ![512, n]⟩ top hb))
/-- Each row's sum of weights. -/
def totalOf : FVec Ideal S512x1 .f32 :=
  shapeCast S512x1 (multiReduction .add [1] S512 p 0x00000000#32 hr (.inl rfl) rfl) shapeCasts_S512_S512x1
/-- The values, each by its weight. -/
def mixOf : FVec Ideal S512x128 .f32 :=
  matmul (φ₁ := .bf16) (φ₂ := .bf16) (DotDims.plain 512 n 128) none (truncf .bf16 p bitsLt_bf16_f32) (shapeCast ⟨2, ![n, 128]⟩ v hv)
    (constant S512x128 .f32 0x00000000#32)
/-- The first result. -/
def outOf : FVec Ideal S512x128 .bf16 :=
  truncf .bf16 (divf (mixOf v p hv) (broadcastTo S512x128 l broadcasts_S512x1_S512x128)) bitsLt_bf16_f32
/-- The second result. -/
def logOf : FVec Ideal S1x512x1 .f32 := shapeCast S1x512x1 (addf top (log l)) shapeCasts_S512x1_S1x512x1

variable (i : Fin 512)

theorem dots_apply (j : Fin n) : dots q qt keys (ix2 i j) = ∑ c : Fin 256, q (ix2 i c) * qt (ix2 i c) * keys (ix2 j c) := by
  refine (Ideal.matmul_transposedRhs_apply (φ₁ := .bf16) (φ₂ := .bf16) none _ _ _ i j).trans ?_
  show (constant (F := Ideal) ⟨2, ![512, n]⟩ .f32 0x00000000#32) (ix2 i j)
    + ∑ c : Fin 256, truncf (F := Ideal) .bf16 (mulf q (shapeCast S512x256 qt shapeCasts_S512x256_S512x256)) bitsLt_bf16_f32 (ix2 i c) * keys (ix2 j c) = _
  pointwise []
theorem scores_apply (hn : n ≤ 2048) (ho : o ≤ 2048) (j : Fin n) : scores o q qt keys h0 h1 (ix2 i j) = maskedAt o q qt keys i j := by
  have e := dots_apply q qt keys i j
  unfold scores
  generalize dots q qt keys = x at *
  pointwise []
  rw [e]
  exact choose o i.val j.val (by omega) (by omega) _
theorem topOf_apply : topOf s hr (ix2 i 0) = Finset.univ.fold max ⊥ fun j : Fin n => s (ix2 i j) := by
  pointwise [topOf]
  rfl
theorem weightsOf_apply (j : Fin n) : weightsOf s top hb (ix2 i j) = Ideal.exp (s (ix2 i j) - top (ix2 i 0)) := by
  pointwise [weightsOf]
theorem totalOf_apply : totalOf p hr (ix2 i 0) = ∑ j : Fin n, p (ix2 i j) := by
  pointwise [totalOf]
theorem mixOf_apply (d : Fin 128) : mixOf v p hv (ix2 i d) = ∑ j : Fin n, p (ix2 i j) * v (ix2 j d) := by
  refine (Ideal.matmul_plain_apply (φ₁ := .bf16) (φ₂ := .bf16) none _ _ _ i d).trans ?_
  show (constant (F := Ideal) S512x128 .f32 0x00000000#32) (ix2 i d)
    + ∑ j : Fin n, truncf (F := Ideal) .bf16 p bitsLt_bf16_f32 (ix2 i j) * shapeCast ⟨2, ![n, 128]⟩ v hv (ix2 j d) = _
  pointwise []
theorem outOf_apply (d : Fin 128) : outOf v p l hv (ix2 i d) = Ideal.div (∑ j : Fin n, p (ix2 i j) * v (ix2 j d)) (l (ix2 i 0)) := by
  rw [← mixOf_apply v p hv]
  unfold outOf
  generalize mixOf v p hv = x
  pointwise []
theorem logOf_apply : logOf top l (ix3 0 i 0) = top (ix2 i 0) + Ideal.log (l (ix2 i 0)) := by
  pointwise [logOf]

/-- The arithmetic of the block that starts at query `o` and looks at the first `n` keys. -/
def Fwd.of (hn : n ≤ 2048) (ho : o ≤ 2048) : Fwd n o where
  s q qt keys := scores o q qt keys h0 h1
  top q qt keys := topOf (scores o q qt keys h0 h1) hr
  p q qt keys := weightsOf (scores o q qt keys h0 h1) (topOf (scores o q qt keys h0 h1) hr) hb
  l q qt keys := totalOf (weightsOf (scores o q qt keys h0 h1) (topOf (scores o q qt keys h0 h1) hr) hb) hr
  out q qt keys v := outOf v (weightsOf (scores o q qt keys h0 h1) (topOf (scores o q qt keys h0 h1) hr) hb)
    (totalOf (weightsOf (scores o q qt keys h0 h1) (topOf (scores o q qt keys h0 h1) hr) hb) hr) hv
  lse q qt keys := logOf (topOf (scores o q qt keys h0 h1) hr)
    (totalOf (weightsOf (scores o q qt keys h0 h1) (topOf (scores o q qt keys h0 h1) hr) hb) hr)
  s_at q qt keys i j := scores_apply o q qt keys h0 h1 i hn ho j
  top_at q qt keys i := topOf_apply _ hr i
  p_at q qt keys i j := weightsOf_apply _ _ hb i j
  l_at q qt keys i := totalOf_apply _ hr i
  out_at q qt keys v i d := outOf_apply v _ _ hv i d
  lse_at q qt keys i := logOf_apply _ _ i

end Parts

/-- The four blocks of queries. -/
def fwd0 : Fwd 512 0 := Fwd.of 0 iota_S512x512_d0_w32 iota_S512x512_d1_w32 reduces_S512x512_S512 broadcasts_S512x1_S512x512
  shapeCasts_S512x128_S512x128 (by decide) (by decide)
def fwd1 : Fwd 1024 512 := Fwd.of 512 iota_S512x1024_d0_w32 iota_S512x1024_d1_w32 reduces_S512x1024_S512 broadcasts_S512x1_S512x1024
  shapeCasts_S1024x128_S1024x128 (by decide) (by decide)
def fwd2 : Fwd 1536 1024 := Fwd.of 1024 iota_S512x1536_d0_w32 iota_S512x1536_d1_w32 reduces_S512x1536_S512 broadcasts_S512x1_S512x1536
  shapeCasts_S1536x128_S1536x128 (by decide) (by decide)
def fwd3 : Fwd 2048 1536 := Fwd.of 1536 iota_S512x2048_d0_w32 iota_S512x2048_d1_w32 reduces_S512x2048_S512 broadcasts_S512x1_S512x2048
  shapeCasts_S2048x128_S2048x128 (by decide) (by decide)

/-- The printed arithmetic of each block is that. -/
theorem out0_eq : k0_pay7 = fwd0.out := rfl
theorem lse0_eq : k0_pay8 = fwd0.lse := rfl
theorem out1_eq : k0_pay13 = fwd1.out := rfl
theorem lse1_eq : k0_pay14 = fwd1.lse := rfl
theorem out2_eq : k0_pay19 = fwd2.out := rfl
theorem lse2_eq : k0_pay20 = fwd2.lse := rfl
theorem out3_eq : k0_pay25 = fwd3.out := rfl
theorem lse3_eq : k0_pay26 = fwd3.lse := rfl

end Cert.Kernel20Ideal.Attn

end
-- ==== Proof.FwdHead.lean ====
/- The two results of a block of queries, for a head of the arguments. -/
module

public import proofs.«01_k».proof.Proof.FwdStep

@[expose] public section

set_option maxRecDepth 16384

noncomputable section

namespace Cert.Kernel20Ideal.Attn

open Idealize.ShloMosaic Idealize.ShloMosaic.Tactic
open Cert.Attn
open Cert.KernelIdeal.Attn (Head row)
open scoped BigOperators

/-- What block `k` of a head's queries reads: its queries, the factors that scale and rotate them, and the keys and values
    up to the block's last query. -/
structure Reads (H : Head) (k : Fin 4) {n : ℕ} (hn : n ≤ 2048) (q qt : Vec Ideal S512x256 .f32) (keys : Vec Ideal ⟨2, ![n, 256]⟩ .bf16)
    (v : Vec Ideal ⟨2, ![n, 128]⟩ .bf16) : Prop where
  q : ∀ i c, q (ix2 i c) = H.q (row k i) c
  qt : ∀ i c, qt (ix2 i c) = H.qt (row k i) c
  keys : ∀ (j : Fin n) c, keys (ix2 j c) = H.k ⟨j.val, by omega⟩ c
  v : ∀ (j : Fin n) d, v (ix2 j d) = H.v ⟨j.val, by omega⟩ d

namespace Fwd

variable {n : ℕ} {k : Fin 4} (B : Fwd n (512 * k.val)) (hn : n ≤ 2048) (hk : n = 512 * k.val + 512) {H : Head} {A : Args} {b : Fin 2} {h : Fin 8}
  (L : Linked H A b h) {q qt : Vec Ideal S512x256 .f32} {keys : Vec Ideal ⟨2, ![n, 256]⟩ .bf16} {v : Vec Ideal ⟨2, ![n, 128]⟩ .bf16}
  (R : Reads H k hn q qt keys v)

include hk L R

theorem s_eq (i : Fin 512) (j : Fin n) : B.s q qt keys (ix2 i j) = A.masked b h (row k i) ⟨j.val, by omega⟩ := by
  rw [B.s_at, maskedAt, Args.masked, ← L.score_eq]
  have e : (∑ c : Fin 256, q (ix2 i c) * qt (ix2 i c) * keys (ix2 j c)) = ∑ c : Fin 256, H.qs (row k i) c * H.k ⟨j.val, by omega⟩ c :=
    Finset.sum_congr rfl fun c _ => by rw [R.q, R.qt, R.keys]; rfl
  rw [e]
  rfl

theorem top_eq (i : Fin 512) : B.top q qt keys (ix2 i 0) = A.top b h (row k i) := by
  rw [B.top_at, A.top_first b h hn (show 512 * k.val + i.val < n by omega)]
  exact congrArg (Finset.univ.fold max ⊥) (funext (B.s_eq hn hk L R i))
theorem p_eq (i : Fin 512) (j : Fin n) : B.p q qt keys (ix2 i j) = A.ex b h (row k i) ⟨j.val, by omega⟩ := by
  rw [B.p_at, B.s_eq hn hk L R, B.top_eq hn hk L R]
  rfl

variable (hA : A.Finite)
include hA

theorem l_eq (i : Fin 512) : B.l q qt keys (ix2 i 0) = A.total b h (row k i) := by
  rw [B.l_at, Args.total_first b h hA _ hn (show 512 * k.val + i.val < n by omega)]
  exact Finset.sum_congr rfl fun j _ => B.p_eq hn hk L R i j
/-- The block's result is the attention's. -/
theorem out_eq (i : Fin 512) (d : Fin 128) : B.out q qt keys v (ix2 i d) = A.res b h (row k i) d := by
  rw [B.out_at, B.l_eq hn hk L R hA, ← Args.res_first b h hA _ hn (show 512 * k.val + i.val < n by omega)]
  refine congrArg (Ideal.div · _) (Finset.sum_congr rfl fun j _ => ?_)
  rw [B.p_eq hn hk L R, R.v, L.v]
/-- The block's second result is the logarithm of the weights' sum. -/
theorem lse_eq (i : Fin 512) : B.lse q qt keys (ix3 0 i 0) = A.lse b h (row k i) := by
  rw [B.lse_at, B.top_eq hn hk L R, B.l_eq hn hk L R hA]
  rfl

end Fwd

end Cert.Kernel20Ideal.Attn

end
-- ==== Proof.FwdEntry.lean ====
/- The arrays that the forward call reads, as functions of the program's arguments, and the blocks that a point reads of them. -/
module

public import proofs.«01_k».proof.Proof.AttnValue
public import proofs.«01_k».proof.Proof.FwdHead
public import proofs.«01_k».proof.Proof.Gen.Kernel20Ideal.Value
public import Idealize.ShloMosaic.Lib.Pipeline.ValueKit
public import Idealize.ShloMosaic.Lib.StableHlo.ReadAt
public import Idealize.ShloMosaic.Lib.Pointwise
public import Idealize.ShloMosaic.Lib.Pointwise.IndexVar

@[expose] public section

set_option maxRecDepth 16384

noncomputable section

namespace Cert.Kernel20Ideal.Attn

open Idealize.ShloMosaic Idealize.ShloMosaic.TcCoe Idealize.ShloMosaic.Tactic
open Idealize.SL Idealize.SL.Sem StableHlo
open Cert.Kernel20Ideal.Gen
open Cert.KernelIdeal.Attn (Arrs Ins Head row tok tok_row tok_val rows rows_apply keysOf keysOf_apply linked_of)
open Cert.Attn (Args Linked)

variable (m : (ℓ : Loc nD τ sig) → Buf (Elt Ideal) ℓ)

/-- The arguments of the program; the forward pass has no gradient to start from. -/
def args (c : Dev nD) : Args where
  q r l := (m ((c.tc : Thread nD τ).loc main_arg0) : FVec Ideal S4096x2048 .f32) (ix2 r l)
  cs r d := (m ((c.tc : Thread nD τ).loc main_arg1) : FVec Ideal S4096x128 .f32) (ix2 r d)
  kv r l := (m ((c.tc : Thread nD τ).loc main_arg2) : FVec Ideal S4096x2048 .f32) (ix2 r l)
  kr r d := (m ((c.tc : Thread nD τ).loc main_arg3) : FVec Ideal S4096x128 .f32) (ix2 r d)
  ct r l := 0

/-- The arrays at the call. The backward call's two further arrays are filled in from the arguments, so that its heads can be used here. -/
def arrs (c : Dev nD) : Arrs where
  q := V m c (Pipeline.arrRef spec0 0)
  qt := V m c (Pipeline.arrRef spec0 1)
  kv := V m c (Pipeline.arrRef spec0 2)
  kr := V m c (Pipeline.arrRef spec0 3)
  lse := fun y => (args m c).lse ⟨(y 0).val / 8, by have := (y 0).isLt; change (y 0).val < 16 at this; omega⟩ ⟨(y 0).val % 8, by omega⟩ (y 1)
  ct := fun _ => (0 : EReal)

theorem arrs_q (c : Dev nD) (r : Fin 4096) (l : Fin 2048) : (arrs m c).q (ix2 r l) = (args m c).q r l := congrFun (V_main_arg0 m c) _
theorem arrs_kv (c : Dev nD) (r : Fin 4096) (l : Fin 2048) : (arrs m c).kv (ix2 r l) = (args m c).kv r l := by
  show V m c main_v4 (ix2 r l) = _
  entry_read
  pointwise []
  rfl
theorem arrs_kr (c : Dev nD) (r : Fin 4096) (l : Fin 128) : (arrs m c).kr (ix2 r l) = (args m c).kr r l := by
  show V m c main_v5 (ix2 r l) = _
  entry_read
  pointwise []
  rfl
theorem arrs_qt (c : Dev nD) (r : Fin 4096) (l : Fin 256) : (arrs m c).qt (ix2 r l)
    = if h : l.val < 128 then Cert.Attn.scale else Cert.Attn.scale * (args m c).cs r ⟨l.val - 128, by omega⟩ := by
  show V m c main_v3 (ix2 r l) = _
  simp only [V]
  after_reads_at
  rfl
theorem arrs_lse (c : Dev nD) (b : Fin 2) (h : Fin 8) (i : Fin 2048) :
    (arrs m c).lse (ix3 (⟨8 * b.val + h.val, by omega⟩ : Fin 16) i (0 : Fin 1)) = (args m c).lse b h i := by
  show (args m c).lse ⟨(8 * b.val + h.val) / 8, _⟩ ⟨(8 * b.val + h.val) % 8, _⟩ i = _
  rw [show (⟨(8 * b.val + h.val) / 8, by omega⟩ : Fin 2) = b from Fin.ext (by dsimp only; omega),
    show (⟨(8 * b.val + h.val) % 8, by omega⟩ : Fin 8) = h from Fin.ext (by dsimp only; omega)]

/-- Each head of the arrays is that head of the arguments. -/
theorem linked (c : Dev nD) (b : Fin 2) (h : Fin 8) : Linked ((arrs m c).head b h) (args m c) b h :=
  linked_of _ _ (arrs_q m c) (fun _ _ => rfl) (arrs_kv m c) (arrs_kr m c) (arrs_qt m c) (arrs_lse m c) b h

theorem places (t : Fin grid0.N) : win0_0.index t = ![t.val / 32 * 4 + t.val % 4, t.val / 4 % 8]
    ∧ win0_1.index t = ![t.val / 32 * 4 + t.val % 4, 0] ∧ win0_2.index t = ![t.val / 32, 2 * (t.val / 4 % 8)]
    ∧ win0_3.index t = ![t.val / 32, 0] ∧ win0_4.index t = ![t.val / 32, 2 * (t.val / 4 % 8) + 1]
    ∧ win0_5.index t = ![t.val / 32 * 4 + t.val % 4, t.val / 4 % 8] ∧ win0_6.index t = ![t.val / 4, t.val % 4, 0] := by
  revert t
  decide +kernel

section Blocks

variable (b : Fin 2) (h : Fin 8) (k : Fin 4) (t : Fin cfg0.N) (ht : t.val = 32 * b.val + 4 * h.val + k.val)

include ht

theorem rd_q (X : Vec Ideal S4096x2048 .f32) (i : Fin 512) (d : Fin 256) :
    (win0_0.blk t).view.read (Elt Ideal) X (ix2 i d) = X (ix2 (tok b (row k i)) ⟨256 * h.val + d.val, by omega⟩) := by
  have e := tok_row b k i
  blk_ext [places t]
theorem rd_qt (X : Vec Ideal S4096x256 .f32) (i : Fin 512) (d : Fin 256) :
    (win0_1.blk t).view.read (Elt Ideal) X (ix2 i d) = X (ix2 (tok b (row k i)) d) := by
  have e := tok_row b k i
  blk_ext [places t]
theorem rd_kn (X : Vec Ideal S4096x2048 .bf16) (j : Fin 2048) (d : Fin 128) :
    (win0_2.blk t).view.read (Elt Ideal) X (ix2 j d) = X (ix2 (tok b j) ⟨256 * h.val + d.val, by omega⟩) := by
  have e := tok_val b j
  blk_ext [places t]
theorem rd_kr (X : Vec Ideal S4096x128 .bf16) (j : Fin 2048) (d : Fin 128) :
    (win0_3.blk t).view.read (Elt Ideal) X (ix2 j d) = X (ix2 (tok b j) d) := by
  have e := tok_val b j
  blk_ext [places t]
theorem rd_v (X : Vec Ideal S4096x2048 .bf16) (j : Fin 2048) (d : Fin 128) :
    (win0_4.blk t).view.read (Elt Ideal) X (ix2 j d) = X (ix2 (tok b j) ⟨256 * h.val + 128 + d.val, by omega⟩) := by
  have e := tok_val b j
  blk_ext [places t]
theorem rd_o (X : Vec Ideal S4096x1024 .bf16) (i : Fin 512) (d : Fin 128) :
    (win0_5.blk t).view.read (Elt Ideal) X (ix2 i d) = X (ix2 (tok b (row k i)) ⟨128 * h.val + d.val, by omega⟩) := by
  have e := tok_row b k i
  blk_ext [places t]
theorem rd_lse (X : Vec Ideal S16x2048x1 .f32) (i : Fin 512) :
    (win0_6.blk t).view.read (Elt Ideal) X (ix3 (0 : Fin 1) i (0 : Fin 1)) = X (ix3 (⟨8 * b.val + h.val, by omega⟩ : Fin 16) (row k i) (0 : Fin 1)) := by
  have e : (row k i).val = 512 * k.val + i.val := rfl
  blk_ext [places t]

end Blocks

end Cert.Kernel20Ideal.Attn

end
-- ==== Proof.Mm.lean ====
/- A product computed block by block along the summed axis is the whole product. -/
module

public import Idealize.ShloMosaic.Lib.Pointwise
public import Idealize.ShloMosaic.Lib.Pointwise.IndexVar
public import Idealize.ShloMosaic.Lib.Pipeline.Value
public import Idealize.ShloMosaic.Lib.Pipeline.ValueKit
public import Idealize.ShloMosaic.PureOps.Ideal.Laws

@[expose] public section

namespace Cert.Mm

open scoped BigOperators

/-- The start of a whole array, of two axes and of three. -/
theorem origin2 : (![0, 0] : Fin 2 → ℕ) = fun _ => 0 := funext fun a => by fin_cases a <;> rfl
theorem origin3 : (![0, 0, 0] : Fin 3 → ℕ) = fun _ => 0 := funext fun a => by fin_cases a <;> rfl

/-- The sum of the products of two rows of numbers. -/
noncomputable abbrev dotted {n : ℕ} (f g : Fin n → EReal) : EReal := ∑ q, f q * g q

/-- A sum over a long axis, cut into `n` parts of `w`. -/
theorem sum_parts {K : ℕ} (n w : ℕ) (h : n * w = K) (f : Fin K → EReal) :
    ∑ k, f k = ∑ l : Fin n, ∑ q : Fin w, f ⟨w * l.val + q.val, by
      have h1 := l.isLt; have h2 := q.isLt
      calc w * l.val + q.val < w * l.val + w := by omega
        _ = w * (l.val + 1) := by ring
        _ ≤ w * n := Nat.mul_le_mul_left _ h1
        _ = K := by rw [Nat.mul_comm, h]⟩ := by
  subst h
  rw [← Equiv.sum_comp finProdFinEquiv, Fintype.sum_prod_type]
  refine Finset.sum_congr rfl fun l _ => Finset.sum_congr rfl fun q _ => congrArg f (Fin.ext ?_)
  show q.val + w * l.val = w * l.val + q.val
  omega

/-- An accumulator that is set at the first of every `n` steps and added to at the others holds, at the last of them, the sum of
    what the `n` steps bring. -/
theorem last_step {N n : ℕ} (o p : Fin N → EReal) (h0 : ∀ t : Fin N, t.val % n = 0 → o t = p t)
    (h1 : ∀ t : Fin N, t.val % n ≠ 0 → ∀ s : Fin N, s.val + 1 = t.val → o t = o s + p t)
    (t : Fin N) (ht : t.val % n + 1 = n) :
    o t = ∑ l : Fin n, p ⟨n * (t.val / n) + l.val, by have := Nat.div_add_mod t.val n; have := l.isLt; have := t.isLt; omega⟩ := by
  have hn : 0 < n := by omega
  have key : ∀ (j : ℕ) (hj : j < n) (hN : n * (t.val / n) + j < N),
      o ⟨n * (t.val / n) + j, hN⟩ = ∑ l : Fin (j + 1), p ⟨n * (t.val / n) + l.val, by have := l.isLt; omega⟩ := by
    intro j
    induction j with
    | zero =>
      intro hj hN
      rw [Fin.sum_univ_one]
      exact h0 _ (by show (n * (t.val / n) + 0) % n = 0; rw [Nat.add_zero, Nat.mul_mod_right])
    | succ j ih =>
      intro hj hN
      rw [h1 ⟨n * (t.val / n) + (j + 1), hN⟩ (by
          show (n * (t.val / n) + (j + 1)) % n ≠ 0
          rw [Nat.mul_add_mod, Nat.mod_eq_of_lt hj]; omega) ⟨n * (t.val / n) + j, by omega⟩ rfl,
        ih (by omega) (by omega), Fin.sum_univ_castSucc (n := j + 1)]
      rfl
  obtain ⟨m, rfl⟩ : ∃ m, n = m + 1 := ⟨n - 1, by omega⟩
  have hd := Nat.div_add_mod t.val (m + 1)
  rw [← key m (by omega) (by have := t.isLt; omega)]
  exact congrArg o (Fin.ext (by show t.val = (m + 1) * (t.val / (m + 1)) + m; omega))

end Cert.Mm
-- ==== Proof.FwdRead.lean ====
/- What a point of the forward pass leaves: its block's results, as the stores write them, and the head's keys. -/
module

public import proofs.«01_k».proof.Proof.FwdStep
public import proofs.«01_k».proof.Proof.Mm
public import Idealize.ShloMosaic.Lib.Pipeline.ReadBack
public import proofs.«01_k».proof.Proof.Gen.Kernel20Ideal.Value

@[expose] public section

set_option maxRecDepth 16384

noncomputable section

namespace Cert.Kernel20Ideal.Attn

open Idealize.ShloMosaic Idealize.ShloMosaic.TcCoe Idealize.ShloMosaic.Tactic Idealize.SL.Sem
open Cert.Kernel20Ideal.Gen Cert.Mm
open Cert.KernelIdeal.Attn (rows rows_apply keysOf)

variable (m : (ℓ : Loc nD τ sig) → Buf (Elt Ideal) ℓ) (c : Dev nD) (t : Fin cfg0.N)

/-- The first block of a head writes the head's keys. -/
theorem keys_A (h : t.val % 4 = 0) :
    (outsAt0 m c t.val t.isLt).2.2 = keysOf (iblk m c 2 t) (iblk m c 3 t) := by
  rw [outsAt0_A m c t h h (by omega) (by omega) (by omega)]
  dsimp only
  unfold sout0_A_0 kernelRun0_A
  dsimp only
  sl_unfold_words
  simp only [View.readAt_eq_ld, Memref.IsWhole.read_unread]
  rw [View.ld_unit_zero origin2, View.ld_unit_zero origin2, View.read_writes_cons_put _ _ _ _ _ rfl, View.read_writes_cons_put _ _ _ _ _ rfl]
  exact Cert.KernelIdeal.Attn.halves_any _ _ _ _

/-- The later blocks leave the keys as they are. -/
theorem keys_held (h : t.val % 4 ≠ 0) :
    (outsAt0 m c t.val t.isLt).2.2 = (outsAt0 m c (t.val - 1) (Nat.lt_of_le_of_lt (Nat.sub_le _ _) t.isLt)).2.2 := by
  obtain e | e | e : t.val % 4 = 1 ∨ t.val % 4 = 2 ∨ t.val % 4 = 3 := by omega
  · rw [outsAt0_B m c t (by omega) (by omega) e (by omega) (by omega)]
    rfl
  · rw [outsAt0_C m c t (by omega) (by omega) (by omega) e (by omega)]
    rfl
  · rw [outsAt0_D m c t (by omega) (by omega) (by omega) (by omega) e]
    rfl

/-- The first 2048 rows are all the rows. -/
theorem rows_whole {e : EltTy} {W : ℕ} (x : Vec Ideal ⟨2, ![2048, W]⟩ e) : rows 2048 (by decide) 0 W W (by omega) x = x := by
  funext y
  obtain ⟨j, c, rfl⟩ : ∃ j c, y = ix2 j c := ⟨y 0, y 1, by funext k; match k with | 0 => rfl | 1 => rfl⟩
  rw [rows_apply]
  exact congrArg x (congrArg₂ ix2 rfl (Fin.ext (Nat.zero_add _)))

/-! Each block's results, from the block's queries and the keys and values up to its last query. -/

theorem out_A (h : t.val % 4 = 0) :
    (outsAt0 m c t.val t.isLt).1 = k0_pay7 (iblk m c 0 t) (iblk m c 1 t)
      (rows 512 (by decide) 0 256 256 (by decide) (outsAt0 m c t.val t.isLt).2.2)
      (rows 512 (by decide) 0 128 128 (by decide) (iblk m c 4 t)) := by
  rw [outsAt0_A m c t h h (by omega) (by omega) (by omega)]
  dsimp only
  unfold sout0_A_0 out0_A_5
  rw [View.read_writes_junk_eq_canon VO0_5]
  unfold kernelRun0_A
  dsimp only
  sl_unfold_words
  rw [View.canon_unit_zero origin2]
  simp only [View.readAt_eq_ld, Memref.IsWhole.read_unread]
  rw [View.ld_unit_zero origin2, View.ld_unit_zero origin2, View.ld_unit_zero origin2, View.ld_unit_zero origin2]
  rfl
theorem lse_A (h : t.val % 4 = 0) :
    (outsAt0 m c t.val t.isLt).2.1 = k0_pay8 (iblk m c 0 t) (iblk m c 1 t)
      (rows 512 (by decide) 0 256 256 (by decide) (outsAt0 m c t.val t.isLt).2.2) := by
  rw [outsAt0_A m c t h h (by omega) (by omega) (by omega)]
  dsimp only
  unfold sout0_A_0 out0_A_6
  rw [View.read_writes_junk_eq_canon VO0_6]
  unfold kernelRun0_A
  dsimp only
  sl_unfold_words
  rw [View.canon_unit_zero origin3]
  simp only [View.readAt_eq_ld, Memref.IsWhole.read_unread]
  rw [View.ld_unit_zero origin2, View.ld_unit_zero origin2, View.ld_unit_zero origin2, View.ld_unit_zero origin2]
  rfl

theorem out_B (h : t.val % 4 = 1) :
    (outsAt0 m c t.val t.isLt).1 = k0_pay13 (iblk m c 0 t) (iblk m c 1 t)
      (rows 1024 (by decide) 0 256 256 (by decide) (outsAt0 m c t.val t.isLt).2.2)
      (rows 1024 (by decide) 0 128 128 (by decide) (iblk m c 4 t)) := by
  rw [keys_held m c t (by omega), outsAt0_B m c t (by omega) (by omega) h (by omega) (by omega)]
  frame_out
  simp only [read_unread_whole]
  rfl
theorem lse_B (h : t.val % 4 = 1) :
    (outsAt0 m c t.val t.isLt).2.1 = k0_pay14 (iblk m c 0 t) (iblk m c 1 t)
      (rows 1024 (by decide) 0 256 256 (by decide) (outsAt0 m c t.val t.isLt).2.2) := by
  rw [keys_held m c t (by omega), outsAt0_B m c t (by omega) (by omega) h (by omega) (by omega)]
  frame_out
  simp only [read_unread_whole]
  rfl

theorem out_C (h : t.val % 4 = 2) :
    (outsAt0 m c t.val t.isLt).1 = k0_pay19 (iblk m c 0 t) (iblk m c 1 t)
      (rows 1536 (by decide) 0 256 256 (by decide) (outsAt0 m c t.val t.isLt).2.2)
      (rows 1536 (by decide) 0 128 128 (by decide) (iblk m c 4 t)) := by
  rw [keys_held m c t (by omega), outsAt0_C m c t (by omega) (by omega) (by omega) h (by omega)]
  frame_out
  simp only [read_unread_whole]
  rfl
theorem lse_C (h : t.val % 4 = 2) :
    (outsAt0 m c t.val t.isLt).2.1 = k0_pay20 (iblk m c 0 t) (iblk m c 1 t)
      (rows 1536 (by decide) 0 256 256 (by decide) (outsAt0 m c t.val t.isLt).2.2) := by
  rw [keys_held m c t (by omega), outsAt0_C m c t (by omega) (by omega) (by omega) h (by omega)]
  frame_out
  simp only [read_unread_whole]
  rfl

theorem out_D (h : t.val % 4 = 3) :
    (outsAt0 m c t.val t.isLt).1 = k0_pay25 (iblk m c 0 t) (iblk m c 1 t)
      (rows 2048 (by decide) 0 256 256 (by decide) (outsAt0 m c t.val t.isLt).2.2)
      (rows 2048 (by decide) 0 128 128 (by decide) (iblk m c 4 t)) := by
  rw [rows_whole, rows_whole, keys_held m c t (by omega), outsAt0_D m c t (by omega) (by omega) (by omega) (by omega) h]
  dsimp only
  unfold out0_D_5
  rw [View.read_writes_junk_eq_canon VO0_5]
  unfold kernelRun0_D
  dsimp only
  rw [View.canon_unit_zero origin2]
  simp only [View.readAt_eq_ld, Memref.IsWhole.read_unread]
  rw [View.ld_unit_zero origin2, View.ld_unit_zero origin2, View.ld_unit_zero origin2, View.ld_unit_zero origin2]
  simp only [read_unread_whole]
theorem lse_D (h : t.val % 4 = 3) :
    (outsAt0 m c t.val t.isLt).2.1 = k0_pay26 (iblk m c 0 t) (iblk m c 1 t)
      (rows 2048 (by decide) 0 256 256 (by decide) (outsAt0 m c t.val t.isLt).2.2) := by
  rw [rows_whole, keys_held m c t (by omega), outsAt0_D m c t (by omega) (by omega) (by omega) (by omega) h]
  dsimp only
  unfold out0_D_6
  rw [View.read_writes_junk_eq_canon VO0_6]
  unfold kernelRun0_D
  dsimp only
  rw [View.canon_unit_zero origin3]
  simp only [View.readAt_eq_ld, Memref.IsWhole.read_unread]
  rw [View.ld_unit_zero origin2, View.ld_unit_zero origin2, View.ld_unit_zero origin2]
  simp only [read_unread_whole]

end Cert.Kernel20Ideal.Attn

end
-- ==== Proof.FwdPoints.lean ====
/- What every point of the forward pass leaves, and the arrays that the call leaves. -/
module

public import proofs.«01_k».proof.Proof.FwdBlocks
public import proofs.«01_k».proof.Proof.FwdEntry
public import proofs.«01_k».proof.Proof.FwdRead

@[expose] public section

set_option maxRecDepth 16384

noncomputable section

namespace Cert.Kernel20Ideal.Attn

open Idealize.ShloMosaic Idealize.ShloMosaic.TcCoe Idealize.ShloMosaic.Tactic
open Idealize.SL Idealize.SL.Sem
open Cert.Kernel20Ideal.Gen
open Cert.KernelIdeal.Attn (Arrs Ins Head row tok rows rows_apply keysOf keysOf_apply later point seqOf rowOf place)

variable (m : (ℓ : Loc nD τ sig) → Buf (Elt Ideal) ℓ) (c : Dev nD)

/-- The blocks that a point reads, with what only the backward pass reads filled in from the head. -/
def ins (H : Head) (k : Fin 4) (t : Fin cfg0.N) : Ins Ideal where
  q := iblk m c 0 t
  qt := iblk m c 1 t
  kn := iblk m c 2 t
  kr := iblk m c 3 t
  v := iblk m c 4 t
  lse := fun y => H.lse (row k (y 1))
  ct := fun y => H.ct (row k (y 0)) (y 1)

section Blocks

variable (b : Fin 2) (h : Fin 8) (k : Fin 4) (t : Fin cfg0.N) (ht : t.val = 32 * b.val + 4 * h.val + k.val)

include ht

theorem ins_of : (ins m c ((arrs m c).head b h) k t).Of ((arrs m c).head b h) k where
  q i d := rd_q b h k t ht (arrs m c).q i d
  qt i d := rd_qt b h k t ht (arrs m c).qt i d
  kn j d := by
    refine (rd_kn b h k t ht (arrs m c).kv j d).trans ?_
    dsimp only [Arrs.head]
    rw [dif_pos d.isLt]
  kr j d := by
    refine (rd_kr b h k t ht (arrs m c).kr j d).trans ?_
    dsimp only [Arrs.head]
    rw [dif_neg (show ¬ 128 + d.val < 128 by omega)]
    exact congrArg (fun x => (arrs m c).kr (ix2 (tok b j) x)) (Fin.ext (by show d.val = 128 + d.val - 128; omega))
  v j d := rd_v b h k t ht (arrs m c).kv j d
  lse i := rfl
  ct i d := rfl

end Blocks

/-- At every point the buffer of keys holds the head's keys. -/
theorem keys_at : ∀ (n : ℕ) (t : Fin cfg0.N) (b : Fin 2) (h : Fin 8) (k : Fin 4), t.val = n → t.val = 32 * b.val + 4 * h.val + k.val →
    ∀ (j : Fin 2048) (d : Fin 256), (outsAt0 m c t.val t.isLt).2.2 (ix2 j d) = ((arrs m c).head b h).k j d := by
  intro n
  induction n with
  | zero =>
    intro t b h k hn ht j d
    rw [keys_A m c t (by omega)]
    exact keysOf_apply (ins_of m c b h k t ht) j d
  | succ n ih =>
    intro t b h k hn ht j d
    by_cases h0 : t.val % 4 = 0
    · rw [keys_A m c t h0]
      exact keysOf_apply (ins_of m c b h k t ht) j d
    · have hN : n < cfg0.N := by have := t.isLt; omega
      rw [keys_held m c t h0]
      have I := ih ⟨n, hN⟩ b h ⟨k.val - 1, by omega⟩ rfl (by show n = 32 * b.val + 4 * h.val + (k.val - 1); omega) j d
      have e : t.val - 1 = n := by omega
      simp only [e]
      exact I

section Results

variable (b : Fin 2) (h : Fin 8) (k : Fin 4) (t : Fin cfg0.N) (ht : t.val = 32 * b.val + 4 * h.val + k.val)

include ht

/-- Each block reads its rows of the head. -/
theorem reads {n : ℕ} (hn : n ≤ 2048) : Reads ((arrs m c).head b h) k hn (iblk m c 0 t) (iblk m c 1 t)
    (rows n hn 0 256 256 (by decide) (outsAt0 m c t.val t.isLt).2.2) (rows n hn 0 128 128 (by decide) (iblk m c 4 t)) where
  q := (ins_of m c b h k t ht).q
  qt := (ins_of m c b h k t ht).qt
  keys j d := by
    rw [rows_apply, keys_at m c _ t b h k rfl ht]
    exact congrArg _ (Fin.ext (Nat.zero_add _))
  v j d := by
    rw [rows_apply]
    refine ((ins_of m c b h k t ht).v _ _).trans ?_
    exact congrArg _ (Fin.ext (Nat.zero_add _))

variable (hA : (args m c).Finite)
include hA

/-- After every point the two blocks of results hold the head's rows. -/
theorem left_at : (∀ (i : Fin 512) (d : Fin 128), (outsAt0 m c t.val t.isLt).1 (ix2 i d) = (args m c).res b h (row k i) d)
    ∧ ∀ i : Fin 512, (outsAt0 m c t.val t.isLt).2.1 (ix3 0 i 0) = (args m c).lse b h (row k i) := by
  have L := linked m c b h
  by_cases h0 : k = 0
  · subst h0
    have R := reads m c b h 0 t ht (n := 512) (by decide)
    have e : t.val % 4 = 0 := by rw [ht]; show (32 * b.val + 4 * h.val + 0) % 4 = 0; omega
    rw [out_A m c t e, lse_A m c t e, out0_eq, lse0_eq]
    exact ⟨Fwd.out_eq (k := 0) fwd0 _ rfl L R hA, Fwd.lse_eq (k := 0) fwd0 _ rfl L R hA⟩
  · obtain rfl | rfl | rfl := later k h0
    · have R := reads m c b h 1 t ht (n := 1024) (by decide)
      have e : t.val % 4 = 1 := by rw [ht]; show (32 * b.val + 4 * h.val + 1) % 4 = 1; omega
      rw [out_B m c t e, lse_B m c t e, out1_eq, lse1_eq]
      exact ⟨Fwd.out_eq (k := 1) fwd1 _ rfl L R hA, Fwd.lse_eq (k := 1) fwd1 _ rfl L R hA⟩
    · have R := reads m c b h 2 t ht (n := 1536) (by decide)
      have e : t.val % 4 = 2 := by rw [ht]; show (32 * b.val + 4 * h.val + 2) % 4 = 2; omega
      rw [out_C m c t e, lse_C m c t e, out2_eq, lse2_eq]
      exact ⟨Fwd.out_eq (k := 2) fwd2 _ rfl L R hA, Fwd.lse_eq (k := 2) fwd2 _ rfl L R hA⟩
    · have R := reads m c b h 3 t ht (n := 2048) (by decide)
      have e : t.val % 4 = 3 := by rw [ht]; show (32 * b.val + 4 * h.val + 3) % 4 = 3; omega
      rw [out_D m c t e, lse_D m c t e, out3_eq, lse3_eq]
      exact ⟨Fwd.out_eq (k := 3) fwd3 _ rfl L R hA, Fwd.lse_eq (k := 3) fwd3 _ rfl L R hA⟩

end Results

/-- The two results, as functions of the arguments. -/
def outO (A : Cert.Attn.Args) (r : Fin 4096) (l : Fin 1024) : EReal :=
  A.res (seqOf r) ⟨l.val / 128, by omega⟩ (rowOf r) ⟨l.val % 128, by omega⟩
def outLse (A : Cert.Attn.Args) (g : Fin 16) (i : Fin 2048) : EReal := A.lse ⟨g.val / 8, by omega⟩ ⟨g.val % 8, by omega⟩ i

theorem outO_at (A : Cert.Attn.Args) (b : Fin 2) (h : Fin 8) (i : Fin 2048) (d : Fin 128) :
    outO A (tok b i) ⟨128 * h.val + d.val, by omega⟩ = A.res b h i d := by
  obtain ⟨e₁, e₂⟩ := place (r := tok b i) (b := b) (i := i) rfl
  rw [outO, e₁, e₂]
  congr 1
  · exact Fin.ext (by show (128 * h.val + d.val) / 128 = h.val; omega)
  · exact Fin.ext (by show (128 * h.val + d.val) % 128 = d.val; omega)
theorem outLse_at (A : Cert.Attn.Args) (b : Fin 2) (h : Fin 8) (i : Fin 2048) : outLse A ⟨8 * b.val + h.val, by omega⟩ i = A.lse b h i := by
  unfold outLse
  congr 1
  · exact Fin.ext (by show (8 * b.val + h.val) / 8 = b.val; omega)
  · exact Fin.ext (by show (8 * b.val + h.val) % 8 = h.val; omega)

variable (hA : (args m c).Finite)
include hA

/-- The array of the attention's results. -/
theorem arr_5 : (dats m 0 c).arrAt 5 cfg0.N = fun y => outO (args m c) (y 0) (y 1) := by
  refine (dats m 0 c).arrAt_eq_of_covers 5 _ (by decide +kernel) fun t hf y => ?_
  obtain ⟨b, h, k, ht⟩ := point t
  have L := (left_at m c b h k t ht hA).1
  have R := rd_o b h k t ht (fun y => outO (args m c) (y 0) (y 1))
  generalize args m c = A at *
  rw [after0_5]
  generalize outsAt0 m c t.val t.isLt = s at *
  idx_vars y
  exact ((L y0 y1).trans (outO_at A b h (row k y0) y1).symm).trans (R y0 y1).symm

/-- The array of the logarithms of the weights' sums. -/
theorem arr_6 : (dats m 0 c).arrAt 6 cfg0.N = fun y => outLse (args m c) (y 0) (y 1) := by
  refine (dats m 0 c).arrAt_eq_of_covers 6 _ (by decide +kernel) fun t hf y => ?_
  obtain ⟨b, h, k, ht⟩ := point t
  have L := (left_at m c b h k t ht hA).2
  have R := rd_lse b h k t ht (fun y => outLse (args m c) (y 0) (y 1))
  generalize args m c = A at *
  rw [after0_6]
  generalize outsAt0 m c t.val t.isLt = s at *
  idx_vars y
  obtain rfl : y0 = 0 := Subsingleton.elim _ _
  obtain rfl : y2 = 0 := Subsingleton.elim _ _
  exact ((L y1).trans (outLse_at A b h (row k y1)).symm).trans (R y1).symm

end Cert.Kernel20Ideal.Attn

end
-- ==== Proof.FwdRef.lean ====
/- The forward pass's reference, as functions of its arguments. -/
module

public import proofs.«01_k».proof.Proof.FwdMath
public import proofs.«01_k».proof.Proof.Gen.Reference20Ideal.Read
public import Idealize.ShloMosaic.Lib.WordCmp
public import Idealize.ShloMosaic.Lib.Pointwise
public import Idealize.ShloMosaic.Lib.Pointwise.IndexVar

@[expose] public section

set_option maxRecDepth 16384

noncomputable section

namespace Cert.Reference20Ideal.Attn

open Idealize.ShloMosaic Idealize.ShloMosaic.TcCoe Idealize.ShloMosaic.Tactic
open Cert.Reference20Ideal.Gen Cert.Reference20Ideal.Read Cert.Attn
open scoped BigOperators

variable (x0 : FVec Ideal S4096x2048 .f32) (x1 : FVec Ideal S4096x128 .f32) (x2 : FVec Ideal S4096x2048 .f32)
  (x3 : FVec Ideal S4096x128 .f32)

/-- The arguments, element by element; the forward pass has no gradient that comes in. -/
def args : Args where
  q r l := x0 (ix2 r l)
  cs r d := x1 (ix2 r d)
  kv r l := x2 (ix2 r l)
  kr r d := x3 (ix2 r d)
  ct _ _ := 0

variable (b : Fin 2) (h : Fin 8) (i j : Fin 2048)

theorem mask_apply : val_main_call0_v0 (F := Ideal) (ix4 b h i j) = if j.val ≤ i.val then 1#1 else 0#1 := by
  pointwise [val_main_call0_v0, val_main_v23, val_main_v22, val_main_v21, val_main_v20, val_main_v19, val_main_v18, val_main_v17]
  rw [WordCmp.cmpi_sle_ofNat (by omega) (by omega)]
  by_cases g : j.val ≤ i.val <;> simp [g]
theorem score_apply : val_main_v16 (F := Ideal) x0 x1 x2 x3 (ix4 b h i j) = (args x0 x1 x2 x3).score b h i j := by
  pointwise [val_main_v16, val_main_v15, val_main_cst, val_main_v14, val_main_v13, val_main_v12, val_main_v11, val_main_v10, val_main_v9, val_main_v8,
    val_main_v7, val_main_v6, val_main_v5, val_main_v3, val_main_v2, val_main_v1, val_main_v0]
  rfl
theorem masked_apply : val_main_v24 (F := Ideal) x0 x1 x2 x3 (ix4 b h i j) = (args x0 x1 x2 x3).masked b h i j := by
  pointwise [val_main_v24, val_main_call0_v1, val_main_cst_0]
  rw [mask_apply, score_apply x0 x1 x2 x3]
  unfold Args.masked
  split <;> rfl
theorem top_apply : val_main_v25 (F := Ideal) x0 x1 x2 x3 (ix3 b h i) = (args x0 x1 x2 x3).top b h i := by
  have e (j) := masked_apply x0 x1 x2 x3 b h i j
  unfold val_main_v25
  generalize val_main_v24 (F := Ideal) x0 x1 x2 x3 = x at *
  pointwise [val_main_cst_1]
  exact congrArg (Finset.univ.fold max ⊥) (funext e)
theorem low_apply : val_main_v26 (F := Ideal) (ix3 b h i) = (⊥ : EReal) := by
  rw [val_main_v26_apply]
  rfl
theorem floor_apply : val_main_v27 (F := Ideal) x0 x1 x2 x3 (ix3 b h i) = (args x0 x1 x2 x3).top b h i := by
  have t := top_apply x0 x1 x2 x3 b h i
  have l := low_apply b h i
  rw [val_main_v27_apply]
  generalize val_main_v25 (F := Ideal) x0 x1 x2 x3 = y at *
  generalize val_main_v26 (F := Ideal) = z at *
  rw [t, l]
  exact max_eq_right (bot_le (a := (args x0 x1 x2 x3).top b h i))
theorem ex_apply : val_main_v31 (F := Ideal) x0 x1 x2 x3 (ix4 b h i j) = (args x0 x1 x2 x3).ex b h i j := by
  have e := masked_apply x0 x1 x2 x3 b h i j
  have t := floor_apply x0 x1 x2 x3 b h i
  unfold val_main_v31 val_main_v30 val_main_v29 val_main_v28
  generalize val_main_v24 (F := Ideal) x0 x1 x2 x3 = x at *
  generalize val_main_v27 (F := Ideal) x0 x1 x2 x3 = y at *
  pointwise []
  rw [e, t]
  rfl
theorem total_apply : val_main_v32 (F := Ideal) x0 x1 x2 x3 (ix3 b h i) = (args x0 x1 x2 x3).total b h i := by
  have e (j) := ex_apply x0 x1 x2 x3 b h i j
  unfold val_main_v32
  generalize val_main_v31 (F := Ideal) x0 x1 x2 x3 = x at *
  pointwise [val_main_cst_3]
  exact Finset.sum_congr rfl fun j _ => e j
theorem res_apply (d : Fin 128) : val_main_v37 (F := Ideal) x0 x1 x2 x3 (ix4 b i h d) = (args x0 x1 x2 x3).res b h i d := by
  have e (j) := ex_apply x0 x1 x2 x3 b h i j
  have t := total_apply x0 x1 x2 x3 b h i
  unfold val_main_v37 val_main_v36 val_main_v35 val_main_v34 val_main_v33
  generalize val_main_v31 (F := Ideal) x0 x1 x2 x3 = x at *
  generalize val_main_v32 (F := Ideal) x0 x1 x2 x3 = y at *
  pointwise [val_main_v4, val_main_v0]
  simp only [e, t]
  rfl
theorem logSum_apply : val_main_v40 (F := Ideal) x0 x1 x2 x3 (ix3 b h i) = (args x0 x1 x2 x3).logSum b h i := by
  have e (j) := masked_apply x0 x1 x2 x3 b h i j
  unfold val_main_v40 val_main_v39 val_main_v38
  generalize val_main_v24 (F := Ideal) x0 x1 x2 x3 = x at *
  pointwise [val_main_cst_4]
  simp only [e]
  rfl

/-- The first result. -/
theorem res_o (r : Fin 4096) (l : Fin 1024) : val_main_v42 (F := Ideal) x0 x1 x2 x3 (ix2 r l)
    = (args x0 x1 x2 x3).res ⟨r.val / 2048, by omega⟩ ⟨l.val / 128, by omega⟩ ⟨r.val % 2048, by omega⟩ ⟨l.val % 128, by omega⟩ := by
  have e := res_apply x0 x1 x2 x3
  unfold val_main_v42 val_main_v41
  generalize val_main_v37 (F := Ideal) x0 x1 x2 x3 = x at *
  pointwise []
  rw [e]
/-- The second result. -/
theorem res_lse (g : Fin 16) (i : Fin 2048) (z : Fin 1) : val_main_v43 (F := Ideal) x0 x1 x2 x3 (ix3 g i z)
    = (args x0 x1 x2 x3).logSum ⟨g.val / 8, by omega⟩ ⟨g.val % 8, by omega⟩ i := by
  have e := logSum_apply x0 x1 x2 x3
  unfold val_main_v43
  generalize val_main_v40 (F := Ideal) x0 x1 x2 x3 = x at *
  pointwise []
  rw [e]

end Cert.Reference20Ideal.Attn

end
-- ==== Proof.Fwd.lean ====
/- The attention's forward pass: what its run leaves, and that over exact arithmetic its results are the reference's. -/
module

public import proofs.«01_k».proof.Proof.FwdFinite
public import proofs.«01_k».proof.Proof.FwdPoints
public import proofs.«01_k».proof.Proof.FwdRef
public import proofs.«01_k».proof.Defs
public import proofs.«01_k».proof.Proof.Gen.Kernel20Ideal
public import proofs.«01_k».proof.Proof.Gen.Reference20Ideal

@[expose] public section

noncomputable section

namespace Cert.Forward

open Idealize.ShloMosaic Idealize.ShloMosaic.Tactic Idealize.SL.Sem
open Cert.Kernel20Ideal.Attn (args outO outLse arr_5 arr_6)

variable (m : (ℓ : Loc Kernel20Ideal.nD Kernel20Ideal.τ Kernel20Ideal.sig) → Buf (Elt Ideal) ℓ) (c : Dev Kernel20Ideal.nD)

/-- The arguments under the precondition. -/
theorem args_finite (h : Pre_finite20.fn (F := Ideal) (m ((c.tc : Thread Kernel20Ideal.nD Kernel20Ideal.τ).loc Kernel20Ideal.main_arg0))
    (m ((c.tc : Thread Kernel20Ideal.nD Kernel20Ideal.τ).loc Kernel20Ideal.main_arg1))
    (m ((c.tc : Thread Kernel20Ideal.nD Kernel20Ideal.τ).loc Kernel20Ideal.main_arg2))
    (m ((c.tc : Thread Kernel20Ideal.nD Kernel20Ideal.τ).loc Kernel20Ideal.main_arg3)) = fun _ => 1#1) : (args m c).Finite :=
  have p := Cert.Attn.fwd_finite_parts _ _ _ _ h
  ⟨fun r l => p.1 _, fun r d => p.2.1 _, fun r l => p.2.2.1 _, fun r d => p.2.2.2 _⟩

section
variable (x0 : FVec Ideal Kernel20Ideal.S4096x2048 .f32) (x1 : FVec Ideal Kernel20Ideal.S4096x128 .f32)
  (x2 : FVec Ideal Kernel20Ideal.S4096x2048 .f32) (x3 : FVec Ideal Kernel20Ideal.S4096x128 .f32)

theorem o_agree : Reference20Ideal.Read.val_main_v42 (F := Ideal) x0 x1 x2 x3
    = fun y => outO (Reference20Ideal.Attn.args x0 x1 x2 x3) (y 0) (y 1) := by
  funext y
  obtain ⟨r, l, rfl⟩ : ∃ r l, y = ix2 r l := ⟨y 0, y 1, by funext k; match k with | 0 => rfl | 1 => rfl⟩
  exact Reference20Ideal.Attn.res_o x0 x1 x2 x3 r l
theorem lse_agree (hA : (Reference20Ideal.Attn.args x0 x1 x2 x3).Finite) : Reference20Ideal.Read.val_main_v43 (F := Ideal) x0 x1 x2 x3
    = fun y => outLse (Reference20Ideal.Attn.args x0 x1 x2 x3) (y 0) (y 1) := by
  funext y
  obtain ⟨g, i, z, rfl⟩ : ∃ g i z, y = ix3 g i z := ⟨y 0, y 1, y 2, by funext k; match k with | 0 => rfl | 1 => rfl | 2 => rfl⟩
  exact (Reference20Ideal.Attn.res_lse x0 x1 x2 x3 g i z).trans (Cert.Attn.Args.logSum_eq _ _ hA _)
end

/-- The reference has no semaphore, and its generated run leaves its arguments as they were. -/
theorem reference_quiet : quiescent_Reference20Ideal (hReference20Ideal := Reference20Ideal.Gen.facts) := fun m ρ _ =>
  (θ_run Reference20Ideal.defs _ _).mono
    (fun r h => ⟨fun c => (h c).2.2, sem_eq_zero_of_no_sems (by decide) r.2⟩)
    (Reference20Ideal.Value.run (F := Ideal) m ρ)

/-- The kernel's results, over exact arithmetic, are the reference's. -/
theorem results_agree : algebraic_Kernel20Ideal_Reference20Ideal_pre_finite20 (hKernel20Ideal := Kernel20Ideal.Gen.facts)
    (hReference20Ideal := Reference20Ideal.Gen.facts) (hPre_finite20 := Pre_finite20.Gen.facts) := by
  intro m g m' g' hp ha
  have hA c := args_finite m c (hp c)
  refine ⟨fun c => fun y => outO (args m c) (y 0) (y 1), fun c => fun y => outLse (args m c) (y 0) (y 1),
    (θ_run Kernel20Ideal.defs _ _).mono (fun r h c => ?_) (Kernel20Ideal.Value.run_blocks m g),
    (θ_run Reference20Ideal.defs _ _).mono (fun r h c => ?_) (Reference20Ideal.Value.run (F := Ideal) m' g')⟩
  · obtain ⟨ho, hl, hargs⟩ := h c
    exact ⟨ho.trans (arr_5 m c (hA c)), hl.trans (arr_6 m c (hA c)), hargs⟩
  · obtain ⟨ho, hl, hargs⟩ := h c
    obtain ⟨e0, e1, e2, e3⟩ := ha c
    refine ⟨ho.trans ?_, hl.trans ?_, hargs⟩
    · rw [Reference20Ideal.Read.val_main_v42_eq, e0, e1, e2, e3]
      exact o_agree _ _ _ _
    · rw [Reference20Ideal.Read.val_main_v43_eq, e0, e1, e2, e3]
      exact lse_agree _ _ _ _ (hA c)

end Cert.Forward

end
-- ==== Proof.MmDownDw.lean ====
/- What the call for the gradient of the down projection's weights computes: the product summed over all tokens. -/
module

public import proofs.«01_k».proof.Proof.Gen.Kernel2Ideal.Value
public import proofs.«01_k».proof.Proof.Mm

@[expose] public section

set_option maxRecDepth 16384

noncomputable section

namespace Cert.Kernel2Ideal.Mm

open Idealize.ShloMosaic Idealize.ShloMosaic.TcCoe Idealize.ShloMosaic.Tactic Idealize.SL.Sem
open Cert.Kernel2Ideal.Gen Cert.Mm
open scoped BigOperators

/-- The first half's product at an index. -/
theorem set_at (x : Vec Ideal S2048x1408 .bf16) (w : Vec Ideal S2048x1024 .bf16) (r : Fin 1408) (s : Fin 1024) :
    k0_pay1 x w (ix2 r s) = ∑ q : Fin 2048, x (ix2 q r) * w (ix2 q s) := by
  pointwise [k0_pay1]

/-- The second half's product, added to what is there. -/
theorem last_at (a : Vec Ideal S1408x1024 .f32) (x : Vec Ideal S2048x1408 .bf16) (w : Vec Ideal S2048x1024 .bf16) (r : Fin 1408) (s : Fin 1024) :
    k0_pay3 a x w (ix2 r s) = a (ix2 r s) + ∑ q : Fin 2048, x (ix2 q r) * w (ix2 q s) := by
  pointwise [k0_pay3]

variable (m : (ℓ : Loc nD τ sig) → Buf (Elt Ideal) ℓ)

/-- What the first point of a block leaves in the scratch: its product. -/
theorem left_first (c : Dev nD) (t : Fin cfg0.N) (h : t.val % 2 = 0) :
    (outsAt0 m c t.val t.isLt).2 = k0_pay1 (iblk m c 0 t) (iblk m c 1 t) := by
  rw [outsAt0_A m c t h (by omega)]
  dsimp only
  unfold sout0_A_0
  rw [View.read_writes_junk_eq_canon]
  unfold kernelRun0_A
  dsimp only
  rw [View.canon_unit_zero origin2]
  simp only [View.readAt_eq_ld, Memref.IsWhole.read_unread]
  rw [View.ld_unit_zero origin2, View.ld_unit_zero origin2]

/-- What the last point of a block leaves in the result: its product added to the scratch. -/
theorem left_last (c : Dev nD) (t s : Fin cfg0.N) (h : t.val % 2 = 1) (hs : s.val + 1 = t.val) :
    (outsAt0 m c t.val t.isLt).1 = k0_pay3 (k0_pay1 (iblk m c 0 s) (iblk m c 1 s)) (iblk m c 0 t) (iblk m c 1 t) := by
  rw [← left_first m c s (by omega), outsAt0_B m c t (by omega) h]
  obtain ⟨s, ls⟩ := s
  obtain rfl : s = t.val - 1 := by dsimp only at hs; omega
  dsimp only
  unfold out0_B_2
  rw [View.read_writes_junk_eq_canon]
  unfold kernelRun0_B
  dsimp only
  rw [View.canon_unit_zero origin2]
  simp only [View.readAt_eq_ld, Memref.IsWhole.read_unread]
  rw [(Memref.isWhole_whole _).read_unread]
  rw [View.ld_unit_zero origin2, View.ld_unit_zero origin2, View.ld_unit_zero origin2]

theorem places (t : Fin grid0.N) : win0_0.index t = ![t.val % 2, t.val / 4]
    ∧ win0_1.index t = ![t.val % 2, t.val / 2 % 2] ∧ win0_2.index t = ![t.val / 4, t.val / 2 % 2] := by
  revert t
  decide +kernel

theorem lt_N (t : Fin cfg0.N) : t.val < 16 := t.isLt

theorem rd_x (t : Fin cfg0.N) (X : Vec Ideal S4096x5632 .bf16) (q : Fin 2048) (r : Fin 1408) :
    (win0_0.blk t).view.read (Elt Ideal) X (ix2 q r)
      = X (ix2 (⟨2048 * (t.val % 2) + q.val, by omega⟩ : Fin 4096) (⟨1408 * (t.val / 4) + r.val, by have := lt_N t; omega⟩ : Fin 5632)) := by
  have e := lt_N t
  blk_ext [places t]
theorem rd_z (t : Fin cfg0.N) (X : Vec Ideal S4096x2048 .bf16) (q : Fin 2048) (s : Fin 1024) :
    (win0_1.blk t).view.read (Elt Ideal) X (ix2 q s)
      = X (ix2 (⟨2048 * (t.val % 2) + q.val, by omega⟩ : Fin 4096) (⟨1024 * (t.val / 2 % 2) + s.val, by omega⟩ : Fin 2048)) := by
  have e := lt_N t
  blk_ext [places t]
theorem rd_out (t : Fin cfg0.N) (X : Vec Ideal S5632x2048 .bf16) (r : Fin 1408) (s : Fin 1024) :
    (win0_2.blk t).view.read (Elt Ideal) X (ix2 r s)
      = X (ix2 (⟨1408 * (t.val / 4) + r.val, by have := lt_N t; omega⟩ : Fin 5632) (⟨1024 * (t.val / 2 % 2) + s.val, by omega⟩ : Fin 2048)) := by
  have e := lt_N t
  blk_ext [places t]

theorem flush_last : ∀ t : Fin cfg0.N, (cfg0.win 2).flush t = true → t.val % 2 = 1 := by decide +kernel

/-- The product over all tokens. -/
def prod (x : Vec Ideal S4096x5632 .bf16) (z : Vec Ideal S4096x2048 .bf16) : Vec Ideal S5632x2048 .bf16 := fun y =>
  ∑ k : Fin 4096, x (ix2 k (y 0)) * z (ix2 k (y 1))

/-- The part of the product that a point brings. -/
theorem part (x : Vec Ideal S4096x5632 .bf16) (z : Vec Ideal S4096x2048 .bf16) (t p : Fin cfg0.N) (l : Fin 2)
    (hp : p.val = 2 * (t.val / 2) + l.val) (r : Fin 1408) (s : Fin 1024) :
    dotted (fun q : Fin 2048 => (win0_0.blk p).view.read (Elt Ideal) x (ix2 q r)) (fun q => (win0_1.blk p).view.read (Elt Ideal) z (ix2 q s))
      = ∑ q : Fin 2048, x (ix2 (⟨2048 * l.val + q.val, by omega⟩ : Fin 4096) (⟨1408 * (t.val / 4) + r.val, by have := lt_N t; omega⟩ : Fin 5632))
          * z (ix2 (⟨2048 * l.val + q.val, by omega⟩ : Fin 4096) (⟨1024 * (t.val / 2 % 2) + s.val, by omega⟩ : Fin 2048)) := by
  refine Finset.sum_congr rfl fun q _ => ?_
  dsimp only
  rw [rd_x, rd_z]
  congr 3 <;> (apply Fin.ext; dsimp only; omega)

/-- The array after the run. -/
theorem arr (c : Dev nD) : (dats m 0 c).arrAt 2 cfg0.N
    = prod (V m c (Pipeline.arrRef spec0 0)) (V m c (Pipeline.arrRef spec0 1)) := by
  refine (dats m 0 c).arrAt_eq_of_covers 2 _ (by decide +kernel) fun t hf y => ?_
  have hl := flush_last t hf
  have R := rd_out t (prod (V m c (Pipeline.arrRef spec0 0)) (V m c (Pipeline.arrRef spec0 1)))
  have L := left_last m c t ⟨t.val - 1, by have := lt_N t; show _ < 16; omega⟩ hl (by dsimp only; omega)
  rw [after0_2]
  unfold iblk at L
  generalize V m c (Pipeline.arrRef spec0 0) = x at *
  generalize V m c (Pipeline.arrRef spec0 1) = z at *
  generalize outsAt0 m c = o at *
  idx_vars y
  refine Eq.trans ?_ (R y0 y1).symm
  rw [L]
  unfold prod
  rw [sum_parts 2 2048 rfl, Fin.sum_univ_two]
  refine (last_at _ _ _ y0 y1).trans ?_
  rw [set_at]
  exact congrArg₂ (· + ·) (part x z t _ 0 (by show t.val - 1 = 2 * (t.val / 2) + 0; omega) y0 y1)
    (part x z t _ 1 (by show t.val = 2 * (t.val / 2) + 1; omega) y0 y1)

end Cert.Kernel2Ideal.Mm

end
-- ==== Proof.MmDownDx.lean ====
/- What the call that takes the gradient back through the down projection computes: the product with the weights' rows. -/
module

public import proofs.«01_k».proof.Proof.Gen.Kernel3Ideal.Value
public import proofs.«01_k».proof.Proof.Mm

@[expose] public section

set_option maxRecDepth 16384

noncomputable section

namespace Cert.Kernel3Ideal.Mm

open Idealize.ShloMosaic Idealize.ShloMosaic.TcCoe Idealize.ShloMosaic.Tactic Idealize.SL.Sem
open Cert.Kernel3Ideal.Gen Cert.Mm
open scoped BigOperators

/-- The product of a block of rows with a block of the weights' rows, at an index. -/
theorem set_at (z : Vec Ideal S1024x2048 .bf16) (w : Vec Ideal S1408x2048 .bf16) (r : Fin 1024) (s : Fin 1408) :
    k0_pay1 z w (ix2 r s) = ∑ q : Fin 2048, z (ix2 r q) * w (ix2 s q) := by
  pointwise [k0_pay1]

/-- What a point leaves: its product. -/
theorem left_at (z : Vec Ideal S1024x2048 .bf16) (w : Vec Ideal S1408x2048 .bf16) : out0_2 z w = k0_pay1 z w := by
  unfold out0_2
  rw [View.canon_unit_zero origin2, View.ld_unit_zero origin2, View.ld_unit_zero origin2]

variable (m : (ℓ : Loc nD τ sig) → Buf (Elt Ideal) ℓ)

theorem places (t : Fin grid0.N) : win0_0.index t = ![t.val / 4, 0]
    ∧ win0_1.index t = ![t.val % 4, 0] ∧ win0_2.index t = ![t.val / 4, t.val % 4] := by
  revert t
  decide +kernel

theorem lt_N (t : Fin cfg0.N) : t.val < 16 := t.isLt

theorem rd_z (t : Fin cfg0.N) (X : Vec Ideal S4096x2048 .bf16) (r : Fin 1024) (q : Fin 2048) :
    (win0_0.blk t).view.read (Elt Ideal) X (ix2 r q) = X (ix2 (⟨1024 * (t.val / 4) + r.val, by have := lt_N t; omega⟩ : Fin 4096) q) := by
  have e := lt_N t
  blk_ext [places t]
theorem rd_w (t : Fin cfg0.N) (X : Vec Ideal S5632x2048 .bf16) (s : Fin 1408) (q : Fin 2048) :
    (win0_1.blk t).view.read (Elt Ideal) X (ix2 s q) = X (ix2 (⟨1408 * (t.val % 4) + s.val, by omega⟩ : Fin 5632) q) := by
  have e := lt_N t
  blk_ext [places t]
theorem rd_out (t : Fin cfg0.N) (X : Vec Ideal S4096x5632 .bf16) (r : Fin 1024) (s : Fin 1408) :
    (win0_2.blk t).view.read (Elt Ideal) X (ix2 r s)
      = X (ix2 (⟨1024 * (t.val / 4) + r.val, by have := lt_N t; omega⟩ : Fin 4096) (⟨1408 * (t.val % 4) + s.val, by omega⟩ : Fin 5632)) := by
  have e := lt_N t
  blk_ext [places t]

/-- The product of the rows with the weights' rows. -/
def prod (z : Vec Ideal S4096x2048 .bf16) (w : Vec Ideal S5632x2048 .bf16) : Vec Ideal S4096x5632 .bf16 := fun y =>
  ∑ k : Fin 2048, z (ix2 (y 0) k) * w (ix2 (y 1) k)

/-- The array after the run. -/
theorem arr (c : Dev nD) : (dats m 0 c).arrAt 2 cfg0.N
    = prod (V m c (Pipeline.arrRef spec0 0)) (V m c (Pipeline.arrRef spec0 1)) := by
  refine (dats m 0 c).arrAt_eq_of_covers 2 _ (by decide +kernel) fun t hf y => ?_
  rw [after0_2]
  unfold iblk
  generalize V m c (Pipeline.arrRef spec0 0) = z at *
  generalize V m c (Pipeline.arrRef spec0 1) = w at *
  have R := rd_out t (prod z w)
  idx_vars y
  refine Eq.trans ?_ (R y0 y1).symm
  rw [left_at]
  refine (set_at _ _ y0 y1).trans (Finset.sum_congr rfl fun q _ => ?_)
  exact congrArg₂ (· * ·) (rd_z t z y0 q) (rd_w t w y1 q)

end Cert.Kernel3Ideal.Mm

end
-- ==== Proof.MmDown.lean ====
/- What the down projection's call computes: the product with the weights. -/
module

public import proofs.«01_k».proof.Proof.Gen.Kernel7Ideal.Value
public import proofs.«01_k».proof.Proof.Mm

@[expose] public section

set_option maxRecDepth 16384

noncomputable section

namespace Cert.Kernel7Ideal.Mm

open Idealize.ShloMosaic Idealize.ShloMosaic.TcCoe Idealize.ShloMosaic.Tactic Idealize.SL.Sem
open Cert.Kernel7Ideal.Gen Cert.Mm
open scoped BigOperators

/-- The first part's product at an index. -/
theorem set_at (x : Vec Ideal S1024x2816 .bf16) (w : Vec Ideal S2816x1024 .bf16) (r s : Fin 1024) :
    k0_pay1 x w (ix2 r s) = ∑ q : Fin 2816, x (ix2 r q) * w (ix2 q s) := by
  pointwise [k0_pay1]

/-- A further part's product, added to what is there. -/
theorem add_at (a : Vec Ideal S1024x1024 .f32) (x : Vec Ideal S1024x2816 .bf16) (w : Vec Ideal S2816x1024 .bf16) (r s : Fin 1024) :
    k0_pay2 a x w (ix2 r s) = a (ix2 r s) + ∑ q : Fin 2816, x (ix2 r q) * w (ix2 q s) := by
  pointwise [k0_pay2]

variable (m : (ℓ : Loc nD τ sig) → Buf (Elt Ideal) ℓ)

/-- What the first point of a block leaves: its product. -/
theorem left_first (c : Dev nD) (t : Fin cfg0.N) (h : t.val % 2 = 0) :
    outsAt0 m c t.val t.isLt = k0_pay1 (iblk m c 0 t) (iblk m c 1 t) := by
  rw [outsAt0_A m c t h (by omega)]
  unfold out0_A_2
  rw [View.read_writes_junk_eq_canon]
  unfold kernelRun0_A
  dsimp only
  rw [View.canon_unit_zero origin2]
  simp only [View.readAt_eq_ld, Memref.IsWhole.read_unread]
  rw [View.ld_unit_zero origin2, View.ld_unit_zero origin2]

/-- What a later point leaves: its product added to what the point before left. -/
theorem left_next (c : Dev nD) (t s : Fin cfg0.N) (h : t.val % 2 ≠ 0) (hs : s.val + 1 = t.val) :
    outsAt0 m c t.val t.isLt = k0_pay2 (outsAt0 m c s.val s.isLt) (iblk m c 0 t) (iblk m c 1 t) := by
  rw [outsAt0_B m c t h (by omega)]
  obtain ⟨s, ls⟩ := s
  obtain rfl : s = t.val - 1 := by dsimp only at hs; omega
  unfold out0_B_2
  rw [View.read_writes_junk_eq_canon]
  unfold kernelRun0_B
  dsimp only
  rw [View.canon_unit_zero origin2]
  simp only [View.readAt_eq_ld, Memref.IsWhole.read_unread]
  rw [View.ld_unit_zero origin2, View.ld_unit_zero origin2, View.ld_unit_zero origin2]

theorem places (t : Fin grid0.N) : win0_0.index t = ![t.val / 4, t.val % 2]
    ∧ win0_1.index t = ![t.val % 2, t.val / 2 % 2] ∧ win0_2.index t = ![t.val / 4, t.val / 2 % 2] := by
  revert t
  decide +kernel

theorem lt_N (t : Fin cfg0.N) : t.val < 16 := t.isLt

theorem rd_x (t : Fin cfg0.N) (X : Vec Ideal S4096x5632 .bf16) (r : Fin 1024) (q : Fin 2816) :
    (win0_0.blk t).view.read (Elt Ideal) X (ix2 r q)
      = X (ix2 (⟨1024 * (t.val / 4) + r.val, by have := lt_N t; omega⟩ : Fin 4096) (⟨2816 * (t.val % 2) + q.val, by omega⟩ : Fin 5632)) := by
  have e := lt_N t
  blk_ext [places t]
theorem rd_w (t : Fin cfg0.N) (X : Vec Ideal S5632x2048 .bf16) (q : Fin 2816) (s : Fin 1024) :
    (win0_1.blk t).view.read (Elt Ideal) X (ix2 q s)
      = X (ix2 (⟨2816 * (t.val % 2) + q.val, by omega⟩ : Fin 5632) (⟨1024 * (t.val / 2 % 2) + s.val, by omega⟩ : Fin 2048)) := by
  have e := lt_N t
  blk_ext [places t]
theorem rd_out (t : Fin cfg0.N) (X : Vec Ideal S4096x2048 .f32) (r s : Fin 1024) :
    (win0_2.blk t).view.read (Elt Ideal) X (ix2 r s)
      = X (ix2 (⟨1024 * (t.val / 4) + r.val, by have := lt_N t; omega⟩ : Fin 4096) (⟨1024 * (t.val / 2 % 2) + s.val, by omega⟩ : Fin 2048)) := by
  have e := lt_N t
  blk_ext [places t]

theorem flush_last : ∀ t : Fin cfg0.N, (cfg0.win 2).flush t = true → t.val % 2 = 1 := by decide +kernel

/-- The product of the rows with the weights. -/
def prod (x : Vec Ideal S4096x5632 .bf16) (w : Vec Ideal S5632x2048 .bf16) : Vec Ideal S4096x2048 .f32 := fun y =>
  ∑ k : Fin 5632, x (ix2 (y 0) k) * w (ix2 k (y 1))

/-- The part of the product that a point brings. -/
theorem part (x : Vec Ideal S4096x5632 .bf16) (w : Vec Ideal S5632x2048 .bf16) (t : Fin cfg0.N) (l : Fin 2) (p : Fin cfg0.N)
    (hp : p.val = 2 * (t.val / 2) + l.val) (r s : Fin 1024) :
    dotted (fun q : Fin 2816 => (win0_0.blk p).view.read (Elt Ideal) x (ix2 r q)) (fun q => (win0_1.blk p).view.read (Elt Ideal) w (ix2 q s))
      = ∑ q : Fin 2816, x (ix2 (⟨1024 * (t.val / 4) + r.val, by have := lt_N t; omega⟩ : Fin 4096) (⟨2816 * l.val + q.val, by omega⟩ : Fin 5632))
          * w (ix2 (⟨2816 * l.val + q.val, by omega⟩ : Fin 5632) (⟨1024 * (t.val / 2 % 2) + s.val, by omega⟩ : Fin 2048)) := by
  refine Finset.sum_congr rfl fun q _ => ?_
  dsimp only
  rw [rd_x, rd_w]
  congr 3 <;> (apply Fin.ext; dsimp only; omega)

/-- The array after the run. -/
theorem arr (c : Dev nD) : (dats m 0 c).arrAt 2 cfg0.N
    = prod (V m c (Pipeline.arrRef spec0 0)) (V m c (Pipeline.arrRef spec0 1)) := by
  refine (dats m 0 c).arrAt_eq_of_covers 2 _ (by decide +kernel) fun t hf y => ?_
  have hl := flush_last t hf
  have R := rd_out t (prod (V m c (Pipeline.arrRef spec0 0)) (V m c (Pipeline.arrRef spec0 1)))
  have S := fun r s => last_step (n := 2) (fun t : Fin cfg0.N => outsAt0 m c t.val t.isLt (ix2 r s))
    (fun t => dotted (fun q : Fin 2816 => iblk m c 0 t (ix2 r q)) (fun q => iblk m c 1 t (ix2 q s)))
    (fun t h => by rw [left_first m c t h, set_at]) (fun t h u hu => by rw [left_next m c t u h hu, add_at]) t (by omega)
  rw [after0_2]
  unfold iblk at S
  generalize V m c (Pipeline.arrRef spec0 0) = x at *
  generalize V m c (Pipeline.arrRef spec0 1) = w at *
  generalize outsAt0 m c = o at *
  idx_vars y
  refine (S y0 y1).trans (Eq.trans ?_ (R y0 y1).symm)
  unfold prod
  rw [sum_parts 2 2816 rfl]
  exact Finset.sum_congr rfl fun l _ => part x w t l _ rfl y0 y1

end Cert.Kernel7Ideal.Mm

end
-- ==== Proof.RefDown.lean ====
/- The references of the down projection and of its gradients, as sums. -/
module

public import proofs.«01_k».proof.Proof.Gen.Reference2Ideal.Read
public import proofs.«01_k».proof.Proof.Gen.Reference3Ideal.Read
public import proofs.«01_k».proof.Proof.Gen.Reference7Ideal.Read
public import proofs.«01_k».proof.Proof.MmDownDw
public import proofs.«01_k».proof.Proof.MmDownDx
public import proofs.«01_k».proof.Proof.MmDown

@[expose] public section

set_option maxRecDepth 16384

noncomputable section

namespace Cert.Ref

open Idealize.ShloMosaic Idealize.ShloMosaic.TcCoe Idealize.ShloMosaic.Tactic Idealize.SL.Sem
open scoped BigOperators

/-- The gradient of the weights is the product over the tokens. -/
theorem down_dw (x : Vec Ideal Reference2Ideal.S4096x5632 .bf16) (z : Vec Ideal Reference2Ideal.S4096x2048 .bf16) :
    Reference2Ideal.Read.val_main_v6 (F := Ideal) x z = Kernel2Ideal.Mm.prod x z := by
  funext y
  idx_vars y
  unfold Kernel2Ideal.Mm.prod
  pointwise [Reference2Ideal.Read.val_main_v6, Reference2Ideal.Read.val_main_v5, Reference2Ideal.Read.val_main_v4,
    Reference2Ideal.Read.val_main_v3, Reference2Ideal.Read.val_main_v1]
  exact Finset.sum_congr rfl fun k _ => mul_comm _ _

/-- The gradient of the input is the product with the weights' rows. -/
theorem down_dx (z : Vec Ideal Reference3Ideal.S4096x2048 .bf16) (w : Vec Ideal Reference3Ideal.S5632x2048 .bf16) :
    Reference3Ideal.Read.val_main_v5 (F := Ideal) z w = Kernel3Ideal.Mm.prod z w := by
  funext y
  idx_vars y
  unfold Kernel3Ideal.Mm.prod
  pointwise [Reference3Ideal.Read.val_main_v5, Reference3Ideal.Read.val_main_v4, Reference3Ideal.Read.val_main_v3,
    Reference3Ideal.Read.val_main_v1]

/-- The projection is the product. -/
theorem down (x : Vec Ideal Reference7Ideal.S4096x5632 .bf16) (w : Vec Ideal Reference7Ideal.S5632x2048 .bf16) :
    Reference7Ideal.Read.val_main_v2 (F := Ideal) x w = Kernel7Ideal.Mm.prod x w := by
  funext y
  idx_vars y
  unfold Kernel7Ideal.Mm.prod
  pointwise [Reference7Ideal.Read.val_main_v2, Reference7Ideal.Read.val_main_v1, Reference7Ideal.Read.val_main_v0]

end Cert.Ref

end
-- ==== Proof.MmUpDx.lean ====
/- What the call that takes the gate's gradient back to its input computes: the product with the weights' rows, summed over all
   columns of both halves. -/
module

public import proofs.«01_k».proof.Proof.Gen.Kernel4Ideal.Value
public import proofs.«01_k».proof.Proof.Mm

@[expose] public section

set_option maxRecDepth 16384

noncomputable section

namespace Cert.Kernel4Ideal.Mm

open Idealize.ShloMosaic Idealize.ShloMosaic.TcCoe Idealize.ShloMosaic.Tactic Idealize.SL.Sem
open Cert.Kernel4Ideal.Gen Cert.Mm
open scoped BigOperators

/-- The first part's product at an index. -/
theorem set_at (x : Vec Ideal S1x1024x1408 .bf16) (w : Vec Ideal S1x1024x1408 .bf16) (r s : Fin 1024) :
    k0_pay1 x w (ix2 r s) = ∑ q : Fin 1408, x (ix3 0 r q) * w (ix3 0 s q) := by
  pointwise [k0_pay1]

/-- A further part's product, added to what is there. -/
theorem add_at (a : Vec Ideal S1024x1024 .f32) (x : Vec Ideal S1x1024x1408 .bf16) (w : Vec Ideal S1x1024x1408 .bf16) (r s : Fin 1024) :
    k0_pay2 a x w (ix2 r s) = a (ix2 r s) + ∑ q : Fin 1408, x (ix3 0 r q) * w (ix3 0 s q) := by
  pointwise [k0_pay2]

variable (m : (ℓ : Loc nD τ sig) → Buf (Elt Ideal) ℓ)

/-- What the first point of a block leaves: its product. -/
theorem left_first (c : Dev nD) (t : Fin cfg0.N) (h : t.val % 8 = 0) :
    outsAt0 m c t.val t.isLt = k0_pay1 (iblk m c 0 t) (iblk m c 1 t) := by
  rw [outsAt0_A m c t h (by omega)]
  unfold out0_A_2
  rw [View.read_writes_junk_eq_canon]
  unfold kernelRun0_A
  dsimp only
  rw [View.canon_unit_zero origin2]
  simp only [View.readAt_eq_ld, Memref.IsWhole.read_unread]
  rw [View.ld_unit_zero origin3, View.ld_unit_zero origin3]

/-- What a later point leaves: its product added to what the point before left. -/
theorem left_next (c : Dev nD) (t s : Fin cfg0.N) (h : t.val % 8 ≠ 0) (hs : s.val + 1 = t.val) :
    outsAt0 m c t.val t.isLt = k0_pay2 (outsAt0 m c s.val s.isLt) (iblk m c 0 t) (iblk m c 1 t) := by
  rw [outsAt0_B m c t h (by omega)]
  obtain ⟨s, ls⟩ := s
  obtain rfl : s = t.val - 1 := by dsimp only at hs; omega
  unfold out0_B_2
  rw [View.read_writes_junk_eq_canon]
  unfold kernelRun0_B
  dsimp only
  rw [View.canon_unit_zero origin2]
  simp only [View.readAt_eq_ld, Memref.IsWhole.read_unread]
  rw [View.ld_unit_zero origin2, View.ld_unit_zero origin3, View.ld_unit_zero origin3]

theorem places (t : Fin grid0.N) : win0_0.index t = ![t.val % 8 / 4, t.val / 16, t.val % 4]
    ∧ win0_1.index t = ![t.val % 8, t.val / 8 % 2, 0] ∧ win0_2.index t = ![t.val / 16, t.val / 8 % 2] := by
  revert t
  decide +kernel

theorem lt_N (t : Fin cfg0.N) : t.val < 64 := t.isLt

theorem rd_d (t : Fin cfg0.N) (X : Vec Ideal S2x4096x5632 .bf16) (r : Fin 1024) (q : Fin 1408) :
    (win0_0.blk t).view.read (Elt Ideal) X (ix3 (0 : Fin 1) r q)
      = X (ix3 (⟨t.val % 8 / 4, by omega⟩ : Fin 2) (⟨1024 * (t.val / 16) + r.val, by have := lt_N t; omega⟩ : Fin 4096)
          (⟨1408 * (t.val % 4) + q.val, by omega⟩ : Fin 5632)) := by
  have e := lt_N t
  blk_ext [places t]
theorem rd_w (t : Fin cfg0.N) (X : Vec Ideal S8x2048x1408 .bf16) (s : Fin 1024) (q : Fin 1408) :
    (win0_1.blk t).view.read (Elt Ideal) X (ix3 (0 : Fin 1) s q)
      = X (ix3 (⟨t.val % 8, by omega⟩ : Fin 8) (⟨1024 * (t.val / 8 % 2) + s.val, by omega⟩ : Fin 2048) q) := by
  have e := lt_N t
  blk_ext [places t]
theorem rd_out (t : Fin cfg0.N) (X : Vec Ideal S4096x2048 .f32) (r s : Fin 1024) :
    (win0_2.blk t).view.read (Elt Ideal) X (ix2 r s)
      = X (ix2 (⟨1024 * (t.val / 16) + r.val, by have := lt_N t; omega⟩ : Fin 4096) (⟨1024 * (t.val / 8 % 2) + s.val, by omega⟩ : Fin 2048)) := by
  have e := lt_N t
  blk_ext [places t]

theorem flush_last : ∀ t : Fin cfg0.N, (cfg0.win 2).flush t = true → t.val % 8 = 7 := by decide +kernel

/-- The product over all columns. -/
def prod (d : Vec Ideal S2x4096x5632 .bf16) (w : Vec Ideal S8x2048x1408 .bf16) : Vec Ideal S4096x2048 .f32 := fun y =>
  ∑ k : Fin 11264, d (ix3 (⟨k.val / 5632, by omega⟩ : Fin 2) (y 0) (⟨k.val % 5632, by omega⟩ : Fin 5632))
    * w (ix3 (⟨k.val / 1408, by omega⟩ : Fin 8) (y 1) (⟨k.val % 1408, by omega⟩ : Fin 1408))

/-- The part of the product that a point brings. -/
theorem part (d : Vec Ideal S2x4096x5632 .bf16) (w : Vec Ideal S8x2048x1408 .bf16) (t : Fin cfg0.N) (l : Fin 8) (p : Fin cfg0.N)
    (hp : p.val = 8 * (t.val / 8) + l.val) (r s : Fin 1024) :
    dotted (fun q : Fin 1408 => (win0_0.blk p).view.read (Elt Ideal) d (ix3 (0 : Fin 1) r q)) (fun q => (win0_1.blk p).view.read (Elt Ideal) w (ix3 (0 : Fin 1) s q))
      = ∑ q : Fin 1408, d (ix3 (⟨(1408 * l.val + q.val) / 5632, by omega⟩ : Fin 2)
            (⟨1024 * (t.val / 16) + r.val, by have := lt_N t; omega⟩ : Fin 4096) (⟨(1408 * l.val + q.val) % 5632, by omega⟩ : Fin 5632))
          * w (ix3 (⟨(1408 * l.val + q.val) / 1408, by omega⟩ : Fin 8) (⟨1024 * (t.val / 8 % 2) + s.val, by omega⟩ : Fin 2048)
            (⟨(1408 * l.val + q.val) % 1408, by omega⟩ : Fin 1408)) := by
  refine Finset.sum_congr rfl fun q _ => ?_
  dsimp only
  rw [rd_d, rd_w]
  congr 3 <;> (apply Fin.ext; dsimp only; omega)

/-- The array after the run. -/
theorem arr (c : Dev nD) : (dats m 0 c).arrAt 2 cfg0.N
    = prod (V m c (Pipeline.arrRef spec0 0)) (V m c (Pipeline.arrRef spec0 1)) := by
  refine (dats m 0 c).arrAt_eq_of_covers 2 _ (by decide +kernel) fun t hf y => ?_
  have hl := flush_last t hf
  have R := rd_out t (prod (V m c (Pipeline.arrRef spec0 0)) (V m c (Pipeline.arrRef spec0 1)))
  have S := fun r s => last_step (n := 8) (fun t : Fin cfg0.N => outsAt0 m c t.val t.isLt (ix2 r s))
    (fun t => dotted (fun q : Fin 1408 => iblk m c 0 t (ix3 (0 : Fin 1) r q)) (fun q => iblk m c 1 t (ix3 (0 : Fin 1) s q)))
    (fun t h => by rw [left_first m c t h, set_at]) (fun t h u hu => by rw [left_next m c t u h hu, add_at]) t (by omega)
  rw [after0_2]
  unfold iblk at S
  generalize V m c (Pipeline.arrRef spec0 0) = d at *
  generalize V m c (Pipeline.arrRef spec0 1) = w at *
  generalize outsAt0 m c = o at *
  idx_vars y
  refine (S y0 y1).trans (Eq.trans ?_ (R y0 y1).symm)
  unfold prod
  rw [sum_parts 8 1408 rfl]
  exact Finset.sum_congr rfl fun l _ => part d w t l _ rfl y0 y1

end Cert.Kernel4Ideal.Mm

end
-- ==== Proof.MmUpDw.lean ====
/- What the call for the gradient of the gate's weights computes: the product summed over all tokens, eight slots of columns. -/
module

public import proofs.«01_k».proof.Proof.Gen.Kernel5Ideal.Value
public import proofs.«01_k».proof.Proof.Mm

@[expose] public section

set_option maxRecDepth 16384

noncomputable section

namespace Cert.Kernel5Ideal.Mm

open Idealize.ShloMosaic Idealize.ShloMosaic.TcCoe Idealize.ShloMosaic.Tactic Idealize.SL.Sem
open Cert.Kernel5Ideal.Gen Cert.Mm
open scoped BigOperators

/-- The first half's product at an index. -/
theorem set_at (x : Vec Ideal S2048x1024 .bf16) (d : Vec Ideal S1x2048x1408 .bf16) (r : Fin 1024) (s : Fin 1408) :
    k0_pay1 x d (ix2 r s) = ∑ q : Fin 2048, x (ix2 q r) * d (ix3 0 q s) := by
  pointwise [k0_pay1]

/-- The second half's product, added to what is there. -/
theorem last_at (a : Vec Ideal S1024x1408 .f32) (x : Vec Ideal S2048x1024 .bf16) (d : Vec Ideal S1x2048x1408 .bf16) (r : Fin 1024) (s : Fin 1408) :
    k0_pay3 a x d (ix3 0 r s) = a (ix2 r s) + ∑ q : Fin 2048, x (ix2 q r) * d (ix3 0 q s) := by
  pointwise [k0_pay3]

variable (m : (ℓ : Loc nD τ sig) → Buf (Elt Ideal) ℓ)

/-- What the first point of a block leaves in the scratch: its product. -/
theorem left_first (c : Dev nD) (t : Fin cfg0.N) (h : t.val % 2 = 0) :
    (outsAt0 m c t.val t.isLt).2 = k0_pay1 (iblk m c 0 t) (iblk m c 1 t) := by
  rw [outsAt0_A m c t h (by omega)]
  dsimp only
  unfold sout0_A_0
  rw [View.read_writes_junk_eq_canon]
  unfold kernelRun0_A
  dsimp only
  rw [View.canon_unit_zero origin2]
  simp only [View.readAt_eq_ld, Memref.IsWhole.read_unread]
  rw [View.ld_unit_zero origin2, View.ld_unit_zero origin3]

/-- What the last point of a block leaves in the result: its product added to the scratch. -/
theorem left_last (c : Dev nD) (t s : Fin cfg0.N) (h : t.val % 2 = 1) (hs : s.val + 1 = t.val) :
    (outsAt0 m c t.val t.isLt).1 = k0_pay3 (k0_pay1 (iblk m c 0 s) (iblk m c 1 s)) (iblk m c 0 t) (iblk m c 1 t) := by
  rw [← left_first m c s (by omega), outsAt0_B m c t (by omega) h]
  obtain ⟨s, ls⟩ := s
  obtain rfl : s = t.val - 1 := by dsimp only at hs; omega
  dsimp only
  unfold out0_B_2
  rw [View.read_writes_junk_eq_canon]
  unfold kernelRun0_B
  dsimp only
  rw [View.canon_unit_zero origin3]
  simp only [View.readAt_eq_ld, Memref.IsWhole.read_unread]
  rw [(Memref.isWhole_whole _).read_unread]
  rw [View.ld_unit_zero origin2, View.ld_unit_zero origin2, View.ld_unit_zero origin3]

theorem places (t : Fin grid0.N) : win0_0.index t = ![t.val % 2, t.val / 16]
    ∧ win0_1.index t = ![t.val / 2 % 8 / 4, t.val % 2, t.val / 2 % 4] ∧ win0_2.index t = ![t.val / 2 % 8, t.val / 16, 0] := by
  revert t
  decide +kernel

theorem lt_N (t : Fin cfg0.N) : t.val < 32 := t.isLt

theorem rd_x (t : Fin cfg0.N) (X : Vec Ideal S4096x2048 .bf16) (q : Fin 2048) (r : Fin 1024) :
    (win0_0.blk t).view.read (Elt Ideal) X (ix2 q r)
      = X (ix2 (⟨2048 * (t.val % 2) + q.val, by omega⟩ : Fin 4096) (⟨1024 * (t.val / 16) + r.val, by have := lt_N t; omega⟩ : Fin 2048)) := by
  have e := lt_N t
  blk_ext [places t]
theorem rd_d (t : Fin cfg0.N) (X : Vec Ideal S2x4096x5632 .bf16) (q : Fin 2048) (s : Fin 1408) :
    (win0_1.blk t).view.read (Elt Ideal) X (ix3 (0 : Fin 1) q s)
      = X (ix3 (⟨t.val / 2 % 8 / 4, by omega⟩ : Fin 2) (⟨2048 * (t.val % 2) + q.val, by omega⟩ : Fin 4096)
          (⟨1408 * (t.val / 2 % 4) + s.val, by omega⟩ : Fin 5632)) := by
  have e := lt_N t
  blk_ext [places t]
theorem rd_out (t : Fin cfg0.N) (X : Vec Ideal S8x2048x1408 .bf16) (r : Fin 1024) (s : Fin 1408) :
    (win0_2.blk t).view.read (Elt Ideal) X (ix3 (0 : Fin 1) r s)
      = X (ix3 (⟨t.val / 2 % 8, by omega⟩ : Fin 8) (⟨1024 * (t.val / 16) + r.val, by have := lt_N t; omega⟩ : Fin 2048) s) := by
  have e := lt_N t
  blk_ext [places t]

theorem flush_last : ∀ t : Fin cfg0.N, (cfg0.win 2).flush t = true → t.val % 2 = 1 := by decide +kernel

/-- The product over all tokens: a slot is a quarter of the columns of one half. -/
def prod (x : Vec Ideal S4096x2048 .bf16) (d : Vec Ideal S2x4096x5632 .bf16) : Vec Ideal S8x2048x1408 .bf16 := fun y =>
  ∑ k : Fin 4096, x (ix2 k (y 1)) * d (ix3 (⟨(y 0).val / 4, by have : (y 0).val < 8 := (y 0).isLt; omega⟩ : Fin 2) k
    (⟨1408 * ((y 0).val % 4) + (y 2).val, by have : (y 2).val < 1408 := (y 2).isLt; omega⟩ : Fin 5632))

/-- The part of the product that a point brings. -/
theorem part (x : Vec Ideal S4096x2048 .bf16) (d : Vec Ideal S2x4096x5632 .bf16) (t p : Fin cfg0.N) (l : Fin 2)
    (hp : p.val = 2 * (t.val / 2) + l.val) (r : Fin 1024) (s : Fin 1408) :
    dotted (fun q : Fin 2048 => (win0_0.blk p).view.read (Elt Ideal) x (ix2 q r)) (fun q => (win0_1.blk p).view.read (Elt Ideal) d (ix3 (0 : Fin 1) q s))
      = ∑ q : Fin 2048, x (ix2 (⟨2048 * l.val + q.val, by omega⟩ : Fin 4096) (⟨1024 * (t.val / 16) + r.val, by have := lt_N t; omega⟩ : Fin 2048))
          * d (ix3 (⟨t.val / 2 % 8 / 4, by omega⟩ : Fin 2) (⟨2048 * l.val + q.val, by omega⟩ : Fin 4096)
            (⟨1408 * (t.val / 2 % 8 % 4) + s.val, by omega⟩ : Fin 5632)) := by
  refine Finset.sum_congr rfl fun q _ => ?_
  dsimp only
  rw [rd_x, rd_d]
  congr 3 <;> (apply Fin.ext; dsimp only; omega)

/-- The array after the run. -/
theorem arr (c : Dev nD) : (dats m 0 c).arrAt 2 cfg0.N
    = prod (V m c (Pipeline.arrRef spec0 0)) (V m c (Pipeline.arrRef spec0 1)) := by
  refine (dats m 0 c).arrAt_eq_of_covers 2 _ (by decide +kernel) fun t hf y => ?_
  have hl := flush_last t hf
  have R := rd_out t (prod (V m c (Pipeline.arrRef spec0 0)) (V m c (Pipeline.arrRef spec0 1)))
  have L := left_last m c t ⟨t.val - 1, by have := lt_N t; show _ < 32; omega⟩ hl (by dsimp only; omega)
  rw [after0_2]
  unfold iblk at L
  generalize V m c (Pipeline.arrRef spec0 0) = x at *
  generalize V m c (Pipeline.arrRef spec0 1) = d at *
  generalize outsAt0 m c = o at *
  idx_vars y
  obtain rfl : y0 = 0 := Subsingleton.elim _ _
  refine Eq.trans ?_ (R y1 y2).symm
  rw [L]
  unfold prod
  rw [sum_parts 2 2048 rfl, Fin.sum_univ_two]
  refine (last_at _ _ _ y1 y2).trans ?_
  rw [set_at]
  exact congrArg₂ (· + ·) (part x d t _ 0 (by show t.val - 1 = 2 * (t.val / 2) + 0; omega) y1 y2)
    (part x d t _ 1 (by show t.val = 2 * (t.val / 2) + 1; omega) y1 y2)

end Cert.Kernel5Ideal.Mm

end
-- ==== Proof.MmUp.lean ====
/- What the gate's call computes: the product with the weights, whose columns lie in eight slots. -/
module

public import proofs.«01_k».proof.Proof.Gen.Kernel6Ideal.Value
public import proofs.«01_k».proof.Proof.Mm

@[expose] public section

set_option maxRecDepth 16384

noncomputable section

namespace Cert.Kernel6Ideal.Mm

open Idealize.ShloMosaic Idealize.ShloMosaic.TcCoe Idealize.ShloMosaic.Tactic Idealize.SL.Sem
open Cert.Kernel6Ideal.Gen Cert.Mm
open scoped BigOperators

/-- The product of a block of rows with one slot's columns, at an index. -/
theorem set_at (x : Vec Ideal S1024x2048 .bf16) (w : Vec Ideal S1x2048x1408 .bf16) (r : Fin 1024) (s : Fin 1408) :
    k0_pay1 x w (ix2 r s) = ∑ q : Fin 2048, x (ix2 r q) * w (ix3 0 q s) := by
  pointwise [k0_pay1]

/-- What a point leaves: its product. -/
theorem left_at (x : Vec Ideal S1024x2048 .bf16) (w : Vec Ideal S1x2048x1408 .bf16) : out0_2 x w = k0_pay1 x w := by
  unfold out0_2
  rw [View.canon_unit_zero origin2, View.ld_unit_zero origin2, View.ld_unit_zero origin3]

variable (m : (ℓ : Loc nD τ sig) → Buf (Elt Ideal) ℓ)

theorem places (t : Fin grid0.N) : win0_0.index t = ![t.val / 8, 0]
    ∧ win0_1.index t = ![t.val % 8, 0, 0] ∧ win0_2.index t = ![t.val / 8, t.val % 8] := by
  revert t
  decide +kernel

theorem lt_N (t : Fin cfg0.N) : t.val < 32 := t.isLt

theorem rd_x (t : Fin cfg0.N) (X : Vec Ideal S4096x2048 .bf16) (r : Fin 1024) (q : Fin 2048) :
    (win0_0.blk t).view.read (Elt Ideal) X (ix2 r q) = X (ix2 (⟨1024 * (t.val / 8) + r.val, by have := lt_N t; omega⟩ : Fin 4096) q) := by
  have e := lt_N t
  blk_ext [places t]
theorem rd_w (t : Fin cfg0.N) (X : Vec Ideal S8x2048x1408 .bf16) (q : Fin 2048) (s : Fin 1408) :
    (win0_1.blk t).view.read (Elt Ideal) X (ix3 (0 : Fin 1) q s) = X (ix3 (⟨t.val % 8, by omega⟩ : Fin 8) q s) := by
  have e := lt_N t
  blk_ext [places t]
theorem rd_out (t : Fin cfg0.N) (X : Vec Ideal S4096x11264 .f32) (r : Fin 1024) (s : Fin 1408) :
    (win0_2.blk t).view.read (Elt Ideal) X (ix2 r s)
      = X (ix2 (⟨1024 * (t.val / 8) + r.val, by have := lt_N t; omega⟩ : Fin 4096) (⟨1408 * (t.val % 8) + s.val, by omega⟩ : Fin 11264)) := by
  have e := lt_N t
  blk_ext [places t]

/-- The product with all slots' columns, one slot after the other. -/
def prod (x : Vec Ideal S4096x2048 .bf16) (w : Vec Ideal S8x2048x1408 .bf16) : Vec Ideal S4096x11264 .f32 := fun y =>
  ∑ k : Fin 2048, x (ix2 (y 0) k)
    * w (ix3 (⟨(y 1).val / 1408, by have : (y 1).val < 11264 := (y 1).isLt; omega⟩ : Fin 8) k (⟨(y 1).val % 1408, by omega⟩ : Fin 1408))

/-- The array after the run. -/
theorem arr (c : Dev nD) : (dats m 0 c).arrAt 2 cfg0.N
    = prod (V m c (Pipeline.arrRef spec0 0)) (V m c (Pipeline.arrRef spec0 1)) := by
  refine (dats m 0 c).arrAt_eq_of_covers 2 _ (by decide +kernel) fun t hf y => ?_
  rw [after0_2]
  unfold iblk
  generalize V m c (Pipeline.arrRef spec0 0) = x at *
  generalize V m c (Pipeline.arrRef spec0 1) = w at *
  have R := rd_out t (prod x w)
  idx_vars y
  refine Eq.trans ?_ (R y0 y1).symm
  rw [left_at]
  refine (set_at _ _ y0 y1).trans (Finset.sum_congr rfl fun q _ => ?_)
  refine congrArg₂ (· * ·) (rd_x t x y0 q) ((rd_w t w q y1).trans ?_)
  congr 2 <;> (apply Fin.ext; show _ = _; simp only [ix2]; omega)

end Cert.Kernel6Ideal.Mm

end
-- ==== Proof.RefUp.lean ====
/- The references of the gate's product and of its gradients, as sums. -/
module

public import proofs.«01_k».proof.Proof.Gen.Reference4Ideal.Read
public import proofs.«01_k».proof.Proof.Gen.Reference5Ideal.Read
public import proofs.«01_k».proof.Proof.Gen.Reference6Ideal.Read
public import proofs.«01_k».proof.Proof.MmUpDx
public import proofs.«01_k».proof.Proof.MmUpDw
public import proofs.«01_k».proof.Proof.MmUp

@[expose] public section

set_option maxRecDepth 16384

noncomputable section

namespace Cert.Ref

open Idealize.ShloMosaic Idealize.ShloMosaic.TcCoe Idealize.ShloMosaic.Tactic Idealize.SL.Sem
open scoped BigOperators

/-- The two halves side by side: a column lies in the half that its place says. -/
theorem halves_at (d : Vec Ideal Reference4Ideal.S2x4096x5632 .bf16) (r : Fin 4096) (k : Fin 11264) :
    Reference4Ideal.Read.val_main_v9 (F := Ideal) d (ix2 r k)
      = d (ix3 (⟨k.val / 5632, by omega⟩ : Fin 2) r (⟨k.val % 5632, by omega⟩ : Fin 5632)) := by
  unfold Reference4Ideal.Read.val_main_v9
  by_cases h : k.val < 5632
  · refine (concatenate_pair_apply_left (s₁ := Reference4Ideal.S4096x5632) (s₂ := Reference4Ideal.S4096x5632) 1 _ _ _ (ix2 r k) rfl
      (ix2 r (⟨k.val, h⟩ : Fin 5632)) fun b => by fin_cases b <;> rfl).trans ?_
    rw [Reference4Ideal.Read.val_main_v6_apply, Reference4Ideal.Read.val_main_v5_apply]
    refine congrArg d (funext fun a => Fin.ext ?_)
    match a with
    | ⟨0, _⟩ => show 0 = k.val / 5632; omega
    | ⟨1, _⟩ => show (r.val * 5632 + k.val) / 5632 % 4096 = r.val; omega
    | ⟨2, _⟩ => show (r.val * 5632 + k.val) % 5632 = k.val % 5632; omega
  · refine (concatenate_pair_apply_right (s₁ := Reference4Ideal.S4096x5632) (s₂ := Reference4Ideal.S4096x5632) 1 _ _ _ (ix2 r k) rfl rfl
      (ix2 r (⟨k.val - 5632, by omega⟩ : Fin 5632)) (fun b hb => ?_) ?_).trans ?_
    · match b with
      | ⟨0, _⟩ => rfl
      | ⟨1, _⟩ => exact absurd rfl hb
    · show k.val - 5632 + 5632 = k.val
      omega
    rw [Reference4Ideal.Read.val_main_v8_apply, Reference4Ideal.Read.val_main_v7_apply]
    refine congrArg d (funext fun a => Fin.ext ?_)
    match a with
    | ⟨0, _⟩ => show 1 + 0 = k.val / 5632; omega
    | ⟨1, _⟩ => show (r.val * 5632 + (k.val - 5632)) / 5632 % 4096 = r.val; omega
    | ⟨2, _⟩ => show (r.val * 5632 + (k.val - 5632)) % 5632 = k.val % 5632; omega

/-- The slots' columns, one slot after the other. -/
theorem joined_at (w : Vec Ideal Reference4Ideal.S8x2048x1408 .bf16) (s : Fin 2048) (k : Fin 11264) :
    Reference4Ideal.Read.val_main_v3 (F := Ideal) w (ix2 s k)
      = w (ix3 (⟨k.val / 1408, by omega⟩ : Fin 8) s (⟨k.val % 1408, by omega⟩ : Fin 1408)) := by
  rw [Reference4Ideal.Read.val_main_v3_apply, Reference4Ideal.Read.val_main_v2_apply, Reference4Ideal.Read.val_main_v1_apply]
  refine congrArg w (funext fun a => Fin.ext ?_)
  match a with
  | ⟨0, _⟩ => show (s.val * 11264 + k.val) / 1408 % 8 = k.val / 1408; omega
  | ⟨1, _⟩ => show (s.val * 11264 + k.val) / 11264 = s.val; omega
  | ⟨2, _⟩ => show (s.val * 11264 + k.val) % 1408 = k.val % 1408; omega

/-- The gradient of the input is the product with the weights' rows. -/
theorem up_dx (d : Vec Ideal Reference4Ideal.S2x4096x5632 .bf16) (w : Vec Ideal Reference4Ideal.S8x2048x1408 .bf16) :
    Reference4Ideal.Read.val_main_v11 (F := Ideal) d w = Kernel4Ideal.Mm.prod d w := by
  funext y
  idx_vars y
  unfold Kernel4Ideal.Mm.prod
  rw [Reference4Ideal.Read.val_main_v11_apply]
  refine Finset.sum_congr rfl fun k _ => congrArg₂ (· * ·) ?_ ?_
  · exact (congrArg (Reference4Ideal.Read.val_main_v9 (F := Ideal) d) (funext fun a => by fin_cases a <;> rfl)).trans (halves_at d y0 k)
  · exact (congrArg (Reference4Ideal.Read.val_main_v3 (F := Ideal) w) (funext fun a => by fin_cases a <;> rfl)).trans (joined_at w y1 k)

/-- The gradient of the weights, a slot a quarter of one half's columns. -/
theorem up_dw (x : Vec Ideal Reference5Ideal.S4096x2048 .bf16) (d : Vec Ideal Reference5Ideal.S2x4096x5632 .bf16) :
    Reference5Ideal.Read.val_main_v15 (F := Ideal) x d = Kernel5Ideal.Mm.prod x d := by
  funext y
  idx_vars y
  unfold Kernel5Ideal.Mm.prod
  rw [Reference5Ideal.Read.val_main_v15_apply, Reference5Ideal.Read.val_main_v14_apply, Reference5Ideal.Read.val_main_v13_apply,
    Reference5Ideal.Read.val_main_v12_apply]
  refine (Reference5Ideal.Read.val_main_v11_apply x d _).trans (Finset.sum_congr rfl fun k _ => (mul_comm _ _).trans (congrArg₂ (· * ·) ?_ ?_))
  · refine congrArg x (funext fun a => Fin.ext ?_)
    match a with
    | ⟨0, _⟩ => rfl
    | ⟨1, _⟩ => show ((y1.val * 8 + y0.val) * 1408 + y2.val) / 11264 = y1.val; omega
  · refine (congrArg (Reference4Ideal.Read.val_main_v9 (F := Ideal) d) (funext fun a => by fin_cases a <;> rfl)).trans
      ((halves_at d k ⟨((y1.val * 8 + y0.val) * 1408 + y2.val) % 11264, Nat.mod_lt _ (by decide)⟩).trans (congrArg d (funext fun a => Fin.ext ?_)))
    match a with
    | ⟨0, _⟩ => show ((y1.val * 8 + y0.val) * 1408 + y2.val) % 11264 / 5632 = y0.val / 4; omega
    | ⟨1, _⟩ => rfl
    | ⟨2, _⟩ => show ((y1.val * 8 + y0.val) * 1408 + y2.val) % 11264 % 5632 = 1408 * (y0.val % 4) + y2.val; omega

/-- The gate's product. -/
theorem up (x : Vec Ideal Reference6Ideal.S4096x2048 .bf16) (w : Vec Ideal Reference6Ideal.S8x2048x1408 .bf16) :
    Reference6Ideal.Read.val_main_v4 (F := Ideal) x w = Kernel6Ideal.Mm.prod x w := by
  funext y
  idx_vars y
  unfold Kernel6Ideal.Mm.prod
  rw [Reference6Ideal.Read.val_main_v4_apply]
  refine Finset.sum_congr rfl fun k _ => congrArg₂ (· * ·) ?_ ?_
  · exact congrArg x (funext fun a => by fin_cases a <;> rfl)
  · exact (congrArg (Reference4Ideal.Read.val_main_v3 (F := Ideal) w) (funext fun a => by fin_cases a <;> rfl)).trans (joined_at w k y1)

end Cert.Ref

end
-- ==== Proof.Products.lean ====
/- The claims about the feed-forward layer's products: each call's run, its reference's run, and the equality of their results. -/
module

public import proofs.«01_k».proof.Defs
public import proofs.«01_k».proof.Proof.RefDown
public import proofs.«01_k».proof.Proof.RefUp
public import proofs.«01_k».proof.Proof.Gen.Kernel2.Frame
public import proofs.«01_k».proof.Proof.Gen.Reference2Ideal.Run
public import proofs.«01_k».proof.Proof.Gen.Kernel3.Frame
public import proofs.«01_k».proof.Proof.Gen.Reference3Ideal.Run
public import proofs.«01_k».proof.Proof.Gen.Kernel4.Frame
public import proofs.«01_k».proof.Proof.Gen.Reference4Ideal.Run
public import proofs.«01_k».proof.Proof.Gen.Kernel5.Frame
public import proofs.«01_k».proof.Proof.Gen.Reference5Ideal.Run
public import proofs.«01_k».proof.Proof.Gen.Kernel6.Frame
public import proofs.«01_k».proof.Proof.Gen.Reference6Ideal.Run
public import proofs.«01_k».proof.Proof.Gen.Kernel7.Frame
public import proofs.«01_k».proof.Proof.Gen.Reference7Ideal.Run

@[expose] public section

noncomputable section

namespace Cert.Products

open Idealize.ShloMosaic Idealize.SL.Sem

/-- The reference of the down projection's weights' gradient has no semaphore and leaves its arguments as they were. -/
theorem downDw_quiet : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over exact arithmetic the down projection's weights' gradient is the reference's. -/
theorem downDw_agree : Cert.algebraic_Kernel2Ideal_Reference2Ideal (hKernel2Ideal := Cert.Kernel2Ideal.Gen.facts)
    (hReference2Ideal := Cert.Reference2Ideal.Gen.facts) := by
  intro m g m' g' _ ha
  refine ⟨fun c => Cert.Kernel2Ideal.Mm.prod (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    (θ_run Cert.Kernel2Ideal.defs _ _).mono (fun r h c => ⟨(h c).1.trans (Cert.Kernel2Ideal.Mm.arr m c), (h c).2⟩)
      (Cert.Kernel2Ideal.Value.run_blocks (F := Ideal) m g),
    (θ_run Cert.Reference2Ideal.defs _ _).mono (fun r h c => ⟨(h c).1.trans ?_, (h c).2⟩) (Cert.Reference2Ideal.Value.run (F := Ideal) m' g')⟩
  rw [Cert.Reference2Ideal.Read.val_main_v6_eq, (ha c).1, (ha c).2]
  exact Cert.Ref.down_dw _ _

/-- The reference of the gradient taken back through the down projection has no semaphore and leaves its arguments as they were. -/
theorem downDx_quiet : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over exact arithmetic the gradient taken back through the down projection is the reference's. -/
theorem downDx_agree : Cert.algebraic_Kernel3Ideal_Reference3Ideal (hKernel3Ideal := Cert.Kernel3Ideal.Gen.facts)
    (hReference3Ideal := Cert.Reference3Ideal.Gen.facts) := by
  intro m g m' g' _ ha
  refine ⟨fun c => Cert.Kernel3Ideal.Mm.prod (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    (θ_run Cert.Kernel3Ideal.defs _ _).mono (fun r h c => ⟨(h c).1.trans (Cert.Kernel3Ideal.Mm.arr m c), (h c).2⟩)
      (Cert.Kernel3Ideal.Value.run_blocks (F := Ideal) m g),
    (θ_run Cert.Reference3Ideal.defs _ _).mono (fun r h c => ⟨(h c).1.trans ?_, (h c).2⟩) (Cert.Reference3Ideal.Value.run (F := Ideal) m' g')⟩
  rw [Cert.Reference3Ideal.Read.val_main_v5_eq, (ha c).1, (ha c).2]
  exact Cert.Ref.down_dx _ _

/-- The reference of the gradient taken back through the gate's product has no semaphore and leaves its arguments as they were. -/
theorem upDx_quiet : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over exact arithmetic the gradient taken back through the gate's product is the reference's. -/
theorem upDx_agree : Cert.algebraic_Kernel4Ideal_Reference4Ideal (hKernel4Ideal := Cert.Kernel4Ideal.Gen.facts)
    (hReference4Ideal := Cert.Reference4Ideal.Gen.facts) := by
  intro m g m' g' _ ha
  refine ⟨fun c => Cert.Kernel4Ideal.Mm.prod (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)),
    (θ_run Cert.Kernel4Ideal.defs _ _).mono (fun r h c => ⟨(h c).1.trans (Cert.Kernel4Ideal.Mm.arr m c), (h c).2⟩)
      (Cert.Kernel4Ideal.Value.run_blocks (F := Ideal) m g),
    (θ_run Cert.Reference4Ideal.defs _ _).mono (fun r h c => ⟨(h c).1.trans ?_, (h c).2⟩) (Cert.Reference4Ideal.Value.run (F := Ideal) m' g')⟩
  rw [Cert.Reference4Ideal.Read.val_main_v11_eq, (ha c).1, (ha c).2]
  exact Cert.Ref.up_dx _ _

/-- The reference of the gate's weights' gradient has no semaphore and leaves its arguments as they were. -/
theorem upDw_quiet : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over exact arithmetic the gate's weights' gradient is the reference's. -/
theorem upDw_agree : Cert.algebraic_Kernel5Ideal_Reference5Ideal (hKernel5Ideal := Cert.Kernel5Ideal.Gen.facts)
    (hReference5Ideal := Cert.Reference5Ideal.Gen.facts) := by
  intro m g m' g' _ ha
  refine ⟨fun c => Cert.Kernel5Ideal.Mm.prod (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    (θ_run Cert.Kernel5Ideal.defs _ _).mono (fun r h c => ⟨(h c).1.trans (Cert.Kernel5Ideal.Mm.arr m c), (h c).2⟩)
      (Cert.Kernel5Ideal.Value.run_blocks (F := Ideal) m g),
    (θ_run Cert.Reference5Ideal.defs _ _).mono (fun r h c => ⟨(h c).1.trans ?_, (h c).2⟩) (Cert.Reference5Ideal.Value.run (F := Ideal) m' g')⟩
  rw [Cert.Reference5Ideal.Read.val_main_v15_eq, (ha c).1, (ha c).2]
  exact Cert.Ref.up_dw _ _

/-- The reference of the gate's product has no semaphore and leaves its arguments as they were. -/
theorem up_quiet : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- Over exact arithmetic the gate's product is the reference's. -/
theorem up_agree : Cert.algebraic_Kernel6Ideal_Reference6Ideal (hKernel6Ideal := Cert.Kernel6Ideal.Gen.facts)
    (hReference6Ideal := Cert.Reference6Ideal.Gen.facts) := by
  intro m g m' g' _ ha
  refine ⟨fun c => Cert.Kernel6Ideal.Mm.prod (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run Cert.Kernel6Ideal.defs _ _).mono (fun r h c => ⟨(h c).1.trans (Cert.Kernel6Ideal.Mm.arr m c), (h c).2⟩)
      (Cert.Kernel6Ideal.Value.run_blocks (F := Ideal) m g),
    (θ_run Cert.Reference6Ideal.defs _ _).mono (fun r h c => ⟨(h c).1.trans ?_, (h c).2⟩) (Cert.Reference6Ideal.Value.run (F := Ideal) m' g')⟩
  rw [Cert.Reference6Ideal.Read.val_main_v4_eq, (ha c).1, (ha c).2]
  exact Cert.Ref.up _ _

/-- The reference of the down projection has no semaphore and leaves its arguments as they were. -/
theorem down_quiet : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- Over exact arithmetic the down projection is the reference's. -/
theorem down_agree : Cert.algebraic_Kernel7Ideal_Reference7Ideal (hKernel7Ideal := Cert.Kernel7Ideal.Gen.facts)
    (hReference7Ideal := Cert.Reference7Ideal.Gen.facts) := by
  intro m g m' g' _ ha
  refine ⟨fun c => Cert.Kernel7Ideal.Mm.prod (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    (θ_run Cert.Kernel7Ideal.defs _ _).mono (fun r h c => ⟨(h c).1.trans (Cert.Kernel7Ideal.Mm.arr m c), (h c).2⟩)
      (Cert.Kernel7Ideal.Value.run_blocks (F := Ideal) m g),
    (θ_run Cert.Reference7Ideal.defs _ _).mono (fun r h c => ⟨(h c).1.trans ?_, (h c).2⟩) (Cert.Reference7Ideal.Value.run (F := Ideal) m' g')⟩
  rw [Cert.Reference7Ideal.Read.val_main_v2_eq, (ha c).1, (ha c).2]
  exact Cert.Ref.down _ _

end Cert.Products

end
-- ==== Proof.Linear.lean ====
/- The three products of a linear layer, and what a block of them is. -/
module

public import proofs.«01_k».proof.Proof.Mm

@[expose] public section

noncomputable section

namespace Cert.Mm

open Idealize.ShloMosaic Idealize.ShloMosaic.TcCoe Idealize.ShloMosaic.Tactic
open scoped BigOperators

/-- An array of two axes of numbers. -/
abbrev Grid (a b : ℕ) : Type := (⟨2, ![a, b]⟩ : Shape).Idx → EReal

/-- Rows with columns: the layer. -/
def nn {a k b : ℕ} (x : Grid a k) (w : Grid k b) : Grid a b := fun y => dotted (fun q => x (ix2 (y 0) q)) (fun q => w (ix2 q (y 1)))

/-- Rows with rows: a gradient taken back through the weights. -/
def nt {a k b : ℕ} (x : Grid a k) (w : Grid b k) : Grid a b := fun y => dotted (fun q => x (ix2 (y 0) q)) (fun q => w (ix2 (y 1) q))

/-- Columns with columns: the weights' gradient. -/
def tn {a k b : ℕ} (x : Grid k a) (w : Grid k b) : Grid a b := fun y => dotted (fun q => x (ix2 q (y 0))) (fun q => w (ix2 q (y 1)))

theorem dotted_congr {n : ℕ} {f g f' g' : Fin n → EReal} (hf : ∀ q, f q = f' q) (hg : ∀ q, g q = g' q) : dotted f g = dotted f' g' := by
  rw [funext hf, funext hg]

/-- The places `e` of a block of `p` rows and `n` columns in an array: the block's row `i` and column `j` of blocks. -/
structure Placed {p n M N : ℕ} (e : (⟨2, ![p, n]⟩ : Shape).Idx → (⟨2, ![M, N]⟩ : Shape).Idx) (i j : ℕ) : Prop where
  row : ∀ y, (e y 0).val = p * i + (y 0).val
  col : ∀ y, (e y 1).val = n * j + (y 1).val

variable {p n M N : ℕ} {e : (⟨2, ![p, n]⟩ : Shape).Idx → (⟨2, ![M, N]⟩ : Shape).Idx} {i j : ℕ}

/-- Where a placed block's entry lies. -/
theorem Placed.eq (h : Placed e i j) (y : (⟨2, ![p, n]⟩ : Shape).Idx) (r : Fin M) (s : Fin N) (hr : r.val = p * i + (y 0).val) (hs : s.val = n * j + (y 1).val) :
    e y = ix2 r s := by
  funext d
  match d with
  | 0 => exact Fin.ext ((h.row y).trans hr.symm)
  | 1 => exact Fin.ext ((h.col y).trans hs.symm)

/-- A row of blocks with a column of blocks gives the block of the product there. -/
theorem nn_placed {k : ℕ} {x : Grid M k} {w : Grid k N} {e₀ : (⟨2, ![p, k]⟩ : Shape).Idx → (⟨2, ![M, k]⟩ : Shape).Idx}
    {e₁ : (⟨2, ![k, n]⟩ : Shape).Idx → (⟨2, ![k, N]⟩ : Shape).Idx} (h₀ : Placed e₀ i 0) (h₁ : Placed e₁ 0 j) (h : Placed e i j)
    (y : (⟨2, ![p, n]⟩ : Shape).Idx) : nn (fun z => x (e₀ z)) (fun z => w (e₁ z)) y = nn x w (e y) :=
  dotted_congr (fun q => congrArg x (h₀.eq _ _ _ (h.row y) (by show q.val = k * 0 + q.val; omega)))
    fun q => congrArg w (h₁.eq _ _ _ (by show q.val = k * 0 + q.val; omega) (h.col y))

/-- A row of blocks with a row of blocks gives the block of the product there. -/
theorem nt_placed {k : ℕ} {x : Grid M k} {w : Grid N k} {e₀ : (⟨2, ![p, k]⟩ : Shape).Idx → (⟨2, ![M, k]⟩ : Shape).Idx}
    {e₁ : (⟨2, ![n, k]⟩ : Shape).Idx → (⟨2, ![N, k]⟩ : Shape).Idx} (h₀ : Placed e₀ i 0) (h₁ : Placed e₁ j 0) (h : Placed e i j)
    (y : (⟨2, ![p, n]⟩ : Shape).Idx) : nt (fun z => x (e₀ z)) (fun z => w (e₁ z)) y = nt x w (e y) :=
  dotted_congr (fun q => congrArg x (h₀.eq _ _ _ (h.row y) (by show q.val = k * 0 + q.val; omega)))
    fun q => congrArg w (h₁.eq _ _ _ (h.col y) (by show q.val = k * 0 + q.val; omega))

/-- The products of `a` parts of `k` tokens, one after the other down the two columns of blocks, add up to the block of the product. -/
theorem tn_placed {a k K : ℕ} (hK : a * k = K) {x : Grid K M} {w : Grid K N} {e₀ : Fin a → (⟨2, ![k, p]⟩ : Shape).Idx → (⟨2, ![K, M]⟩ : Shape).Idx}
    {e₁ : Fin a → (⟨2, ![k, n]⟩ : Shape).Idx → (⟨2, ![K, N]⟩ : Shape).Idx} (h₀ : ∀ l, Placed (e₀ l) l.val i) (h₁ : ∀ l, Placed (e₁ l) l.val j)
    (h : Placed e i j) (y : (⟨2, ![p, n]⟩ : Shape).Idx) :
    ∑ l, tn (fun z => x (e₀ l z)) (fun z => w (e₁ l z)) y = tn x w (e y) := by
  refine Eq.trans ?_ (sum_parts a k hK _).symm
  exact Finset.sum_congr rfl fun l _ => Finset.sum_congr rfl fun q _ =>
    congrArg₂ (· * ·) (congrArg x ((h₀ l).eq _ _ _ rfl (h.row y))) (congrArg w ((h₁ l).eq _ _ _ rfl (h.col y)))

/-- An accumulator over the points: set to its blocks' product at the first of every `a` points, added to at the others. At the last
    of them it holds the block of the whole product. -/
theorem tn_last {T a k K : ℕ} (hK : a * k = K) {x : Grid K M} {w : Grid K N} {e₀ : Fin T → (⟨2, ![k, p]⟩ : Shape).Idx → (⟨2, ![K, M]⟩ : Shape).Idx}
    {e₁ : Fin T → (⟨2, ![k, n]⟩ : Shape).Idx → (⟨2, ![K, N]⟩ : Shape).Idx} (o : Fin T → Grid p n)
    (hset : ∀ t : Fin T, t.val % a = 0 → o t = tn (fun z => x (e₀ t z)) (fun z => w (e₁ t z)))
    (hadd : ∀ t : Fin T, t.val % a ≠ 0 → ∀ s : Fin T, s.val + 1 = t.val → ∀ y, o t y = o s y + tn (fun z => x (e₀ t z)) (fun z => w (e₁ t z)) y)
    (t : Fin T) (ht : t.val % a + 1 = a) (h₀ : ∀ u : Fin T, u.val / a = t.val / a → Placed (e₀ u) (u.val % a) i)
    (h₁ : ∀ u : Fin T, u.val / a = t.val / a → Placed (e₁ u) (u.val % a) j) (h : Placed e i j) (y : (⟨2, ![p, n]⟩ : Shape).Idx) :
    o t y = tn x w (e y) := by
  have ha : 0 < a := by omega
  have hd : ∀ l : Fin a, (a * (t.val / a) + l.val) / a = t.val / a := fun l => by
    rw [Nat.mul_add_div ha, Nat.div_eq_of_lt l.isLt, Nat.add_zero]
  have hm : ∀ l : Fin a, (a * (t.val / a) + l.val) % a = l.val := fun l => by
    rw [Nat.mul_add_mod, Nat.mod_eq_of_lt l.isLt]
  refine (last_step (fun t => o t y) (fun t => tn (fun z => x (e₀ t z)) (fun z => w (e₁ t z)) y) (fun t h => congrFun (hset t h) y)
    (fun t h s hs => hadd t h s hs y) t ht).trans (tn_placed hK (fun l => ?_) (fun l => ?_) h y)
  · have := h₀ ⟨a * (t.val / a) + l.val, by have := Nat.div_add_mod t.val a; have := l.isLt; have := t.isLt; omega⟩ (hd l)
    rwa [hm l] at this
  · have := h₁ ⟨a * (t.val / a) + l.val, by have := Nat.div_add_mod t.val a; have := l.isLt; have := t.isLt; omega⟩ (hd l)
    rwa [hm l] at this

end Cert.Mm

end
-- ==== Proof.MmIn.lean ====
/- What the calls of the input projection compute: the layer, the gradient taken back, the gradient of the weights. -/
module

public import proofs.«01_k».proof.Proof.Gen.Kernel14Ideal.Value
public import proofs.«01_k».proof.Proof.Gen.Kernel15Ideal.Value
public import proofs.«01_k».proof.Proof.Gen.Kernel16Ideal.Value
public import proofs.«01_k».proof.Proof.Linear

@[expose] public section

set_option maxRecDepth 16384

noncomputable section

open Idealize.ShloMosaic Idealize.ShloMosaic.TcCoe Idealize.ShloMosaic.Tactic Idealize.SL.Sem
open scoped BigOperators

namespace Cert.Kernel16Ideal.Mm

open Cert.Kernel16Ideal.Gen Cert.Mm

/-- What a point of the layer leaves: the product of its two blocks. -/
theorem left_at (x : Vec Ideal S512x2048 .bf16) (w : Vec Ideal S2048x2432 .bf16) : out0_2 x w = nn x w := by
  unfold out0_2
  rw [View.canon_unit_zero origin2, View.ld_unit_zero origin2, View.ld_unit_zero origin2]
  funext y
  idx_vars y
  unfold nn
  pointwise [k0_pay1]

theorem index : ∀ t : Fin grid0.N, win0_0.index t = ![t.val, 0] ∧ win0_1.index t = ![0, 0] ∧ win0_2.index t = ![t.val, 0] := by
  decide +kernel

/-- A point takes a block of tokens and the whole weights. -/
theorem placed (t : Fin cfg0.N) : Placed (win0_0.blk t).view.emb t.val 0 ∧ Placed (win0_1.blk t).view.emb 0 0
    ∧ Placed (win0_2.blk t).view.emb t.val 0 := by
  refine ⟨⟨?_, ?_⟩, ⟨?_, ?_⟩, ⟨?_, ?_⟩⟩ <;> intro y <;> blk_simp [index t] <;> omega

/-- The array after the run: the layer. -/
theorem arr (m : (ℓ : Loc nD τ sig) → Buf (Elt Ideal) ℓ) (c : Dev nD) : (dats m 0 c).arrAt 2 cfg0.N
    = nn (V m c (Pipeline.arrRef spec0 0)) (V m c (Pipeline.arrRef spec0 1)) := by
  refine (dats m 0 c).arrAt_eq_of_covers 2 _ (by decide +kernel) fun t hf y => ?_
  rw [after0_2, left_at]
  exact nn_placed (placed t).1 (placed t).2.1 (placed t).2.2 y

end Cert.Kernel16Ideal.Mm

namespace Cert.Kernel14Ideal.Mm

open Cert.Kernel14Ideal.Gen Cert.Mm

/-- What a point leaves of the gradient taken back: the product of its two blocks. -/
theorem left_at (x : Vec Ideal S512x2432 .bf16) (w : Vec Ideal S1024x2432 .bf16) : out0_2 x w = nt x w := by
  unfold out0_2
  rw [View.canon_unit_zero origin2, View.ld_unit_zero origin2, View.ld_unit_zero origin2]
  funext y
  idx_vars y
  unfold nt
  pointwise [k0_pay1]

theorem index : ∀ t : Fin grid0.N, win0_0.index t = ![t.val / 2, 0] ∧ win0_1.index t = ![t.val % 2, 0]
    ∧ win0_2.index t = ![t.val / 2, t.val % 2] := by
  decide +kernel

/-- A block of tokens meets the two halves of the weights' rows, one after the other. -/
theorem placed (t : Fin cfg0.N) : Placed (win0_0.blk t).view.emb (t.val / 2) 0 ∧ Placed (win0_1.blk t).view.emb (t.val % 2) 0
    ∧ Placed (win0_2.blk t).view.emb (t.val / 2) (t.val % 2) := by
  refine ⟨⟨?_, ?_⟩, ⟨?_, ?_⟩, ⟨?_, ?_⟩⟩ <;> intro y <;> blk_simp [index t] <;> omega

/-- The array after the run: the gradient taken back. -/
theorem arr (m : (ℓ : Loc nD τ sig) → Buf (Elt Ideal) ℓ) (c : Dev nD) : (dats m 0 c).arrAt 2 cfg0.N
    = nt (V m c (Pipeline.arrRef spec0 0)) (V m c (Pipeline.arrRef spec0 1)) := by
  refine (dats m 0 c).arrAt_eq_of_covers 2 _ (by decide +kernel) fun t hf y => ?_
  rw [after0_2, left_at]
  exact nt_placed (placed t).1 (placed t).2.1 (placed t).2.2 y

end Cert.Kernel14Ideal.Mm

namespace Cert.Kernel15Ideal.Mm

open Cert.Kernel15Ideal.Gen Cert.Mm

theorem set_at (x : Vec Ideal S1024x1024 .bf16) (w : Vec Ideal S1024x2432 .bf16) : k0_pay1 x w = tn x w := by
  funext y
  idx_vars y
  unfold tn
  pointwise [k0_pay1]

theorem add_at (a : Vec Ideal S1024x2432 .f32) (x : Vec Ideal S1024x1024 .bf16) (w : Vec Ideal S1024x2432 .bf16) (y : S1024x2432.Idx) :
    k0_pay2 a x w y = a y + tn x w y := by
  idx_vars y
  unfold tn
  pointwise [k0_pay2]

variable (m : (ℓ : Loc nD τ sig) → Buf (Elt Ideal) ℓ)

/-- The first point of a block sets the result to its product. -/
theorem left_first (c : Dev nD) (t : Fin cfg0.N) (h : t.val % 4 = 0) :
    outsAt0 m c t.val t.isLt = tn (iblk m c 0 t) (iblk m c 1 t) := by
  rw [outsAt0_A m c t h (by omega)]
  unfold out0_A_2
  rw [View.read_writes_junk_eq_canon]
  unfold kernelRun0_A
  dsimp only
  rw [View.canon_unit_zero origin2]
  simp only [View.readAt_eq_ld, Memref.IsWhole.read_unread]
  rw [View.ld_unit_zero origin2, View.ld_unit_zero origin2, set_at]

/-- A later point adds its product to what the point before left. -/
theorem left_next (c : Dev nD) (t : Fin cfg0.N) (h : t.val % 4 ≠ 0) (s : Fin cfg0.N) (hs : s.val + 1 = t.val) (y : S1024x2432.Idx) :
    outsAt0 m c t.val t.isLt y = outsAt0 m c s.val s.isLt y + tn (iblk m c 0 t) (iblk m c 1 t) y := by
  rw [outsAt0_B m c t h (by omega), ← add_at]
  obtain ⟨s, ls⟩ := s
  obtain rfl : s = t.val - 1 := by dsimp only at hs; omega
  unfold out0_B_2
  rw [View.read_writes_junk_eq_canon]
  unfold kernelRun0_B
  dsimp only
  rw [View.canon_unit_zero origin2]
  simp only [View.readAt_eq_ld, Memref.IsWhole.read_unread]
  rw [View.ld_unit_zero origin2, View.ld_unit_zero origin2, View.ld_unit_zero origin2]

theorem index : ∀ t : Fin grid0.N, win0_0.index t = ![t.val % 4, t.val / 4] ∧ win0_1.index t = ![t.val % 4, 0]
    ∧ win0_2.index t = ![t.val / 4, 0] := by
  decide +kernel

/-- Four points run through the tokens for one half of the weights' rows. -/
theorem placed (t : Fin cfg0.N) : Placed (win0_0.blk t).view.emb (t.val % 4) (t.val / 4) ∧ Placed (win0_1.blk t).view.emb (t.val % 4) 0
    ∧ Placed (win0_2.blk t).view.emb (t.val / 4) 0 := by
  refine ⟨⟨?_, ?_⟩, ⟨?_, ?_⟩, ⟨?_, ?_⟩⟩ <;> intro y <;> blk_simp [index t] <;> omega

theorem flush_last : ∀ t : Fin cfg0.N, (cfg0.win 2).flush t = true → t.val % 4 + 1 = 4 := by decide +kernel

/-- The array after the run: the weights' gradient. -/
theorem arr (c : Dev nD) : (dats m 0 c).arrAt 2 cfg0.N
    = tn (V m c (Pipeline.arrRef spec0 0)) (V m c (Pipeline.arrRef spec0 1)) := by
  refine (dats m 0 c).arrAt_eq_of_covers 2 _ (by decide +kernel) fun t hf y => ?_
  rw [after0_2]
  exact tn_last (e := (win0_2.blk t).view.emb) rfl (fun t : Fin cfg0.N => outsAt0 m c t.val t.isLt) (left_first m c) (left_next m c) t (flush_last t hf)
    (fun u hu => hu ▸ (placed u).1) (fun u _ => (placed u).2.1) (placed t).2.2 y

end Cert.Kernel15Ideal.Mm

end
-- ==== Proof.MmOut.lean ====
/- What the calls of the output projection compute: the layer, the gradient taken back, the gradient of the weights. -/
module

public import proofs.«01_k».proof.Proof.Gen.Kernel8Ideal.Value
public import proofs.«01_k».proof.Proof.Gen.Kernel9Ideal.Value
public import proofs.«01_k».proof.Proof.Gen.Kernel19Ideal.Value
public import proofs.«01_k».proof.Proof.Linear

@[expose] public section

set_option maxRecDepth 16384

noncomputable section

open Idealize.ShloMosaic Idealize.ShloMosaic.TcCoe Idealize.ShloMosaic.Tactic Idealize.SL.Sem
open scoped BigOperators

namespace Cert.Kernel19Ideal.Mm

open Cert.Kernel19Ideal.Gen Cert.Mm

/-- What a point of the layer leaves: the product of its two blocks. -/
theorem left_at (x : Vec Ideal S1024x2048 .bf16) (w : Vec Ideal S2048x1024 .bf16) : out0_2 x w = nn x w := by
  unfold out0_2
  rw [View.canon_unit_zero origin2, View.ld_unit_zero origin2, View.ld_unit_zero origin2]
  funext y
  idx_vars y
  unfold nn
  pointwise [k0_pay1]

theorem index : ∀ t : Fin grid0.N, win0_0.index t = ![t.val / 2, 0] ∧ win0_1.index t = ![0, t.val % 2]
    ∧ win0_2.index t = ![t.val / 2, t.val % 2] := by
  decide +kernel

/-- A block of tokens meets the two halves of the weights' columns, one after the other. -/
theorem placed (t : Fin cfg0.N) : Placed (win0_0.blk t).view.emb (t.val / 2) 0 ∧ Placed (win0_1.blk t).view.emb 0 (t.val % 2)
    ∧ Placed (win0_2.blk t).view.emb (t.val / 2) (t.val % 2) := by
  refine ⟨⟨?_, ?_⟩, ⟨?_, ?_⟩, ⟨?_, ?_⟩⟩ <;> intro y <;> blk_simp [index t] <;> omega

/-- The array after the run: the layer. -/
theorem arr (m : (ℓ : Loc nD τ sig) → Buf (Elt Ideal) ℓ) (c : Dev nD) : (dats m 0 c).arrAt 2 cfg0.N
    = nn (V m c (Pipeline.arrRef spec0 0)) (V m c (Pipeline.arrRef spec0 1)) := by
  refine (dats m 0 c).arrAt_eq_of_covers 2 _ (by decide +kernel) fun t hf y => ?_
  rw [after0_2, left_at]
  exact nn_placed (placed t).1 (placed t).2.1 (placed t).2.2 y

end Cert.Kernel19Ideal.Mm

namespace Cert.Kernel8Ideal.Mm

open Cert.Kernel8Ideal.Gen Cert.Mm

/-- What a point leaves of the gradient taken back: the product of its two blocks. -/
theorem left_at (x : Vec Ideal S1024x2048 .bf16) (w : Vec Ideal S1024x2048 .bf16) : out0_2 x w = nt x w := by
  unfold out0_2
  rw [View.canon_unit_zero origin2, View.ld_unit_zero origin2, View.ld_unit_zero origin2]
  funext y
  idx_vars y
  unfold nt
  pointwise [k0_pay1]

theorem index : ∀ t : Fin grid0.N, win0_0.index t = ![t.val / 2, 0] ∧ win0_1.index t = ![t.val % 2, 0]
    ∧ win0_2.index t = ![t.val / 2, t.val % 2] := by
  decide +kernel

/-- A block of tokens meets the two halves of the weights' rows, one after the other. -/
theorem placed (t : Fin cfg0.N) : Placed (win0_0.blk t).view.emb (t.val / 2) 0 ∧ Placed (win0_1.blk t).view.emb (t.val % 2) 0
    ∧ Placed (win0_2.blk t).view.emb (t.val / 2) (t.val % 2) := by
  refine ⟨⟨?_, ?_⟩, ⟨?_, ?_⟩, ⟨?_, ?_⟩⟩ <;> intro y <;> blk_simp [index t] <;> omega

/-- The array after the run: the gradient taken back. -/
theorem arr (m : (ℓ : Loc nD τ sig) → Buf (Elt Ideal) ℓ) (c : Dev nD) : (dats m 0 c).arrAt 2 cfg0.N
    = nt (V m c (Pipeline.arrRef spec0 0)) (V m c (Pipeline.arrRef spec0 1)) := by
  refine (dats m 0 c).arrAt_eq_of_covers 2 _ (by decide +kernel) fun t hf y => ?_
  rw [after0_2, left_at]
  exact nt_placed (placed t).1 (placed t).2.1 (placed t).2.2 y

end Cert.Kernel8Ideal.Mm

namespace Cert.Kernel9Ideal.Mm

open Cert.Kernel9Ideal.Gen Cert.Mm

theorem set_at (x w : Vec Ideal S2048x1024 .bf16) : k0_pay1 x w = tn x w := by
  funext y
  idx_vars y
  unfold tn
  pointwise [k0_pay1]

theorem add_at (a : Vec Ideal S1024x1024 .f32) (x w : Vec Ideal S2048x1024 .bf16) (y : S1024x1024.Idx) :
    k0_pay3 a x w y = a y + tn x w y := by
  idx_vars y
  unfold tn
  pointwise [k0_pay3]

variable (m : (ℓ : Loc nD τ sig) → Buf (Elt Ideal) ℓ)

/-- The sum so far after a point: in the result after the last point of a block, in the scratch before. -/
def sofar (c : Dev nD) (t : Fin cfg0.N) : Grid 1024 1024 :=
  if t.val % 2 = 1 then (outsAt0 m c t.val t.isLt).1 else (outsAt0 m c t.val t.isLt).2

/-- The first point of a block sets the scratch to its product. -/
theorem left_first (c : Dev nD) (t : Fin cfg0.N) (h : t.val % 2 = 0) : sofar m c t = tn (iblk m c 0 t) (iblk m c 1 t) := by
  unfold sofar
  rw [if_neg (by omega), outsAt0_A m c t h (by omega)]
  dsimp only
  unfold sout0_A_0
  rw [View.read_writes_junk_eq_canon]
  unfold kernelRun0_A
  dsimp only
  rw [View.canon_unit_zero origin2]
  simp only [View.readAt_eq_ld, Memref.IsWhole.read_unread]
  rw [View.ld_unit_zero origin2, View.ld_unit_zero origin2, set_at]

/-- The last point of a block leaves in the result its product added to the scratch. -/
theorem left_next (c : Dev nD) (t : Fin cfg0.N) (h : t.val % 2 ≠ 0) (s : Fin cfg0.N) (hs : s.val + 1 = t.val) (y : S1024x1024.Idx) :
    sofar m c t y = sofar m c s y + tn (iblk m c 0 t) (iblk m c 1 t) y := by
  unfold sofar
  rw [if_pos (by omega), if_neg (by omega), outsAt0_B m c t (by omega) (by omega)]
  refine Eq.trans ?_ (add_at _ _ _ y)
  obtain ⟨s, ls⟩ := s
  obtain rfl : s = t.val - 1 := by dsimp only at hs; omega
  dsimp only
  unfold out0_B_2
  rw [View.read_writes_junk_eq_canon]
  unfold kernelRun0_B
  dsimp only
  rw [View.canon_unit_zero origin2]
  simp only [View.readAt_eq_ld, Memref.IsWhole.read_unread]
  rw [(Memref.isWhole_whole _).read_unread]
  rw [View.ld_unit_zero origin2, View.ld_unit_zero origin2, View.ld_unit_zero origin2]

theorem index : ∀ t : Fin grid0.N, win0_0.index t = ![t.val % 2, t.val / 2 / 2] ∧ win0_1.index t = ![t.val % 2, t.val / 2 % 2]
    ∧ win0_2.index t = ![t.val / 2 / 2, t.val / 2 % 2] := by
  decide +kernel

/-- Two points run through the tokens for one quarter of the weights. -/
theorem placed (t : Fin cfg0.N) : Placed (win0_0.blk t).view.emb (t.val % 2) (t.val / 2 / 2)
    ∧ Placed (win0_1.blk t).view.emb (t.val % 2) (t.val / 2 % 2) ∧ Placed (win0_2.blk t).view.emb (t.val / 2 / 2) (t.val / 2 % 2) := by
  refine ⟨⟨?_, ?_⟩, ⟨?_, ?_⟩, ⟨?_, ?_⟩⟩ <;> intro y <;> blk_simp [index t] <;> omega

theorem flush_last : ∀ t : Fin cfg0.N, (cfg0.win 2).flush t = true → t.val % 2 = 1 := by decide +kernel

/-- The array after the run: the weights' gradient. -/
theorem arr (c : Dev nD) : (dats m 0 c).arrAt 2 cfg0.N
    = tn (V m c (Pipeline.arrRef spec0 0)) (V m c (Pipeline.arrRef spec0 1)) := by
  refine (dats m 0 c).arrAt_eq_of_covers 2 _ (by decide +kernel) fun t hf y => ?_
  have hl := flush_last t hf
  have L := tn_last (e := (win0_2.blk t).view.emb) rfl (sofar m c) (left_first m c) (left_next m c) t (by omega)
    (fun u hu => hu ▸ (placed u).1) (fun u hu => hu ▸ (placed u).2.1) (placed t).2.2 y
  unfold sofar at L
  rw [if_pos hl] at L
  rw [after0_2]
  exact L

end Cert.Kernel9Ideal.Mm

end
-- ==== Proof.MmUq.lean ====
/- What the calls of the queries' second projection compute: the layer, the gradient taken back, the gradient of the weights. -/
module

public import proofs.«01_k».proof.Proof.Gen.Kernel10Ideal.Value
public import proofs.«01_k».proof.Proof.Gen.Kernel11Ideal.Value
public import proofs.«01_k».proof.Proof.Gen.Kernel17Ideal.Value
public import proofs.«01_k».proof.Proof.Linear

@[expose] public section

set_option maxRecDepth 16384

noncomputable section

open Idealize.ShloMosaic Idealize.ShloMosaic.TcCoe Idealize.ShloMosaic.Tactic Idealize.SL.Sem
open scoped BigOperators

namespace Cert.Kernel17Ideal.Mm

open Cert.Kernel17Ideal.Gen Cert.Mm

/-- What a point of the layer leaves: the product of its two blocks. -/
theorem left_at (x : Vec Ideal S1024x512 .bf16) (w : Vec Ideal S512x2048 .bf16) : out0_2 x w = nn x w := by
  unfold out0_2
  rw [View.canon_unit_zero origin2, View.ld_unit_zero origin2, View.ld_unit_zero origin2]
  funext y
  idx_vars y
  unfold nn
  pointwise [k0_pay1]

theorem index : ∀ t : Fin grid0.N, win0_0.index t = ![t.val, 0] ∧ win0_1.index t = ![0, 0] ∧ win0_2.index t = ![t.val, 0] := by
  decide +kernel

/-- A point takes a block of tokens and the whole weights. -/
theorem placed (t : Fin cfg0.N) : Placed (win0_0.blk t).view.emb t.val 0 ∧ Placed (win0_1.blk t).view.emb 0 0
    ∧ Placed (win0_2.blk t).view.emb t.val 0 := by
  refine ⟨⟨?_, ?_⟩, ⟨?_, ?_⟩, ⟨?_, ?_⟩⟩ <;> intro y <;> blk_simp [index t] <;> omega

/-- The array after the run: the layer. -/
theorem arr (m : (ℓ : Loc nD τ sig) → Buf (Elt Ideal) ℓ) (c : Dev nD) : (dats m 0 c).arrAt 2 cfg0.N
    = nn (V m c (Pipeline.arrRef spec0 0)) (V m c (Pipeline.arrRef spec0 1)) := by
  refine (dats m 0 c).arrAt_eq_of_covers 2 _ (by decide +kernel) fun t hf y => ?_
  rw [after0_2, left_at]
  exact nn_placed (placed t).1 (placed t).2.1 (placed t).2.2 y

end Cert.Kernel17Ideal.Mm

namespace Cert.Kernel10Ideal.Mm

open Cert.Kernel10Ideal.Gen Cert.Mm

/-- What a point leaves of the gradient taken back: the product of its two blocks. -/
theorem left_at (x : Vec Ideal S1024x2048 .bf16) (w : Vec Ideal S512x2048 .bf16) : out0_2 x w = nt x w := by
  unfold out0_2
  rw [View.canon_unit_zero origin2, View.ld_unit_zero origin2, View.ld_unit_zero origin2]
  funext y
  idx_vars y
  unfold nt
  pointwise [k0_pay1]

theorem index : ∀ t : Fin grid0.N, win0_0.index t = ![t.val, 0] ∧ win0_1.index t = ![0, 0] ∧ win0_2.index t = ![t.val, 0] := by
  decide +kernel

/-- A point takes a block of tokens and the whole weights. -/
theorem placed (t : Fin cfg0.N) : Placed (win0_0.blk t).view.emb t.val 0 ∧ Placed (win0_1.blk t).view.emb 0 0
    ∧ Placed (win0_2.blk t).view.emb t.val 0 := by
  refine ⟨⟨?_, ?_⟩, ⟨?_, ?_⟩, ⟨?_, ?_⟩⟩ <;> intro y <;> blk_simp [index t] <;> omega

/-- The array after the run: the gradient taken back. -/
theorem arr (m : (ℓ : Loc nD τ sig) → Buf (Elt Ideal) ℓ) (c : Dev nD) : (dats m 0 c).arrAt 2 cfg0.N
    = nt (V m c (Pipeline.arrRef spec0 0)) (V m c (Pipeline.arrRef spec0 1)) := by
  refine (dats m 0 c).arrAt_eq_of_covers 2 _ (by decide +kernel) fun t hf y => ?_
  rw [after0_2, left_at]
  exact nt_placed (placed t).1 (placed t).2.1 (placed t).2.2 y

end Cert.Kernel10Ideal.Mm

namespace Cert.Kernel11Ideal.Mm

open Cert.Kernel11Ideal.Gen Cert.Mm

theorem set_at (x : Vec Ideal S1024x512 .bf16) (w : Vec Ideal S1024x2048 .bf16) : k0_pay1 x w = tn x w := by
  funext y
  idx_vars y
  unfold tn
  pointwise [k0_pay1]

theorem add_at (a : Vec Ideal S512x2048 .f32) (x : Vec Ideal S1024x512 .bf16) (w : Vec Ideal S1024x2048 .bf16) (y : S512x2048.Idx) :
    k0_pay2 a x w y = a y + tn x w y := by
  idx_vars y
  unfold tn
  pointwise [k0_pay2]

variable (m : (ℓ : Loc nD τ sig) → Buf (Elt Ideal) ℓ)

/-- The first point sets the result to its product. -/
theorem left_first (c : Dev nD) (t : Fin cfg0.N) (h : t.val % 4 = 0) :
    outsAt0 m c t.val t.isLt = tn (iblk m c 0 t) (iblk m c 1 t) := by
  have e : t.val < 4 := t.isLt
  rw [outsAt0_A m c t h (by omega)]
  unfold out0_A_2
  rw [View.read_writes_junk_eq_canon]
  unfold kernelRun0_A
  dsimp only
  rw [View.canon_unit_zero origin2]
  simp only [View.readAt_eq_ld, Memref.IsWhole.read_unread]
  rw [View.ld_unit_zero origin2, View.ld_unit_zero origin2, set_at]

/-- A later point adds its product to what the point before left. -/
theorem left_next (c : Dev nD) (t : Fin cfg0.N) (h : t.val % 4 ≠ 0) (s : Fin cfg0.N) (hs : s.val + 1 = t.val) (y : S512x2048.Idx) :
    outsAt0 m c t.val t.isLt y = outsAt0 m c s.val s.isLt y + tn (iblk m c 0 t) (iblk m c 1 t) y := by
  rw [outsAt0_B m c t h (by omega), ← add_at]
  obtain ⟨s, ls⟩ := s
  obtain rfl : s = t.val - 1 := by dsimp only at hs; omega
  unfold out0_B_2
  rw [View.read_writes_junk_eq_canon]
  unfold kernelRun0_B
  dsimp only
  rw [View.canon_unit_zero origin2]
  simp only [View.readAt_eq_ld, Memref.IsWhole.read_unread]
  rw [View.ld_unit_zero origin2, View.ld_unit_zero origin2, View.ld_unit_zero origin2]

theorem index : ∀ t : Fin grid0.N, win0_0.index t = ![t.val % 4, 0] ∧ win0_1.index t = ![t.val % 4, 0] ∧ win0_2.index t = ![0, 0] := by
  decide +kernel

/-- The four points run through the tokens. -/
theorem placed (t : Fin cfg0.N) : Placed (win0_0.blk t).view.emb (t.val % 4) 0 ∧ Placed (win0_1.blk t).view.emb (t.val % 4) 0
    ∧ Placed (win0_2.blk t).view.emb 0 0 := by
  refine ⟨⟨?_, ?_⟩, ⟨?_, ?_⟩, ⟨?_, ?_⟩⟩ <;> intro y <;> blk_simp [index t] <;> omega

theorem flush_last : ∀ t : Fin cfg0.N, (cfg0.win 2).flush t = true → t.val % 4 + 1 = 4 := by decide +kernel

/-- The array after the run: the weights' gradient. -/
theorem arr (c : Dev nD) : (dats m 0 c).arrAt 2 cfg0.N
    = tn (V m c (Pipeline.arrRef spec0 0)) (V m c (Pipeline.arrRef spec0 1)) := by
  refine (dats m 0 c).arrAt_eq_of_covers 2 _ (by decide +kernel) fun t hf y => ?_
  rw [after0_2]
  exact tn_last (e := (win0_2.blk t).view.emb) rfl (fun t : Fin cfg0.N => outsAt0 m c t.val t.isLt) (left_first m c) (left_next m c) t (flush_last t hf)
    (fun u _ => (placed u).1) (fun u _ => (placed u).2.1) (placed t).2.2 y

end Cert.Kernel11Ideal.Mm

end
-- ==== Proof.MmUkv.lean ====
/- What the calls of the keys' and values' second projection compute: the layer, the gradient taken back, the gradient of the weights. -/
module

public import proofs.«01_k».proof.Proof.Gen.Kernel12Ideal.Value
public import proofs.«01_k».proof.Proof.Gen.Kernel13Ideal.Value
public import proofs.«01_k».proof.Proof.Gen.Kernel18Ideal.Value
public import proofs.«01_k».proof.Proof.Linear

@[expose] public section

set_option maxRecDepth 16384

noncomputable section

open Idealize.ShloMosaic Idealize.ShloMosaic.TcCoe Idealize.ShloMosaic.Tactic Idealize.SL.Sem
open scoped BigOperators

namespace Cert.Kernel18Ideal.Mm

open Cert.Kernel18Ideal.Gen Cert.Mm

/-- What a point of the layer leaves: the product of its two blocks. -/
theorem left_at (x : Vec Ideal S1024x256 .bf16) (w : Vec Ideal S256x2048 .bf16) : out0_2 x w = nn x w := by
  unfold out0_2
  rw [View.canon_unit_zero origin2, View.ld_unit_zero origin2, View.ld_unit_zero origin2]
  funext y
  idx_vars y
  unfold nn
  pointwise [k0_pay1]

theorem index : ∀ t : Fin grid0.N, win0_0.index t = ![t.val, 0] ∧ win0_1.index t = ![0, 0] ∧ win0_2.index t = ![t.val, 0] := by
  decide +kernel

/-- A point takes a block of tokens and the whole weights. -/
theorem placed (t : Fin cfg0.N) : Placed (win0_0.blk t).view.emb t.val 0 ∧ Placed (win0_1.blk t).view.emb 0 0
    ∧ Placed (win0_2.blk t).view.emb t.val 0 := by
  refine ⟨⟨?_, ?_⟩, ⟨?_, ?_⟩, ⟨?_, ?_⟩⟩ <;> intro y <;> blk_simp [index t] <;> omega

/-- The array after the run: the layer. -/
theorem arr (m : (ℓ : Loc nD τ sig) → Buf (Elt Ideal) ℓ) (c : Dev nD) : (dats m 0 c).arrAt 2 cfg0.N
    = nn (V m c (Pipeline.arrRef spec0 0)) (V m c (Pipeline.arrRef spec0 1)) := by
  refine (dats m 0 c).arrAt_eq_of_covers 2 _ (by decide +kernel) fun t hf y => ?_
  rw [after0_2, left_at]
  exact nn_placed (placed t).1 (placed t).2.1 (placed t).2.2 y

end Cert.Kernel18Ideal.Mm

namespace Cert.Kernel12Ideal.Mm

open Cert.Kernel12Ideal.Gen Cert.Mm

/-- What a point leaves of the gradient taken back: the product of its two blocks. -/
theorem left_at (x : Vec Ideal S1024x2048 .bf16) (w : Vec Ideal S256x2048 .bf16) : out0_2 x w = nt x w := by
  unfold out0_2
  rw [View.canon_unit_zero origin2, View.ld_unit_zero origin2, View.ld_unit_zero origin2]
  funext y
  idx_vars y
  unfold nt
  pointwise [k0_pay1]

theorem index : ∀ t : Fin grid0.N, win0_0.index t = ![t.val, 0] ∧ win0_1.index t = ![0, 0] ∧ win0_2.index t = ![t.val, 0] := by
  decide +kernel

/-- A point takes a block of tokens and the whole weights. -/
theorem placed (t : Fin cfg0.N) : Placed (win0_0.blk t).view.emb t.val 0 ∧ Placed (win0_1.blk t).view.emb 0 0
    ∧ Placed (win0_2.blk t).view.emb t.val 0 := by
  refine ⟨⟨?_, ?_⟩, ⟨?_, ?_⟩, ⟨?_, ?_⟩⟩ <;> intro y <;> blk_simp [index t] <;> omega

/-- The array after the run: the gradient taken back. -/
theorem arr (m : (ℓ : Loc nD τ sig) → Buf (Elt Ideal) ℓ) (c : Dev nD) : (dats m 0 c).arrAt 2 cfg0.N
    = nt (V m c (Pipeline.arrRef spec0 0)) (V m c (Pipeline.arrRef spec0 1)) := by
  refine (dats m 0 c).arrAt_eq_of_covers 2 _ (by decide +kernel) fun t hf y => ?_
  rw [after0_2, left_at]
  exact nt_placed (placed t).1 (placed t).2.1 (placed t).2.2 y

end Cert.Kernel12Ideal.Mm

namespace Cert.Kernel13Ideal.Mm

open Cert.Kernel13Ideal.Gen Cert.Mm

theorem set_at (x : Vec Ideal S1024x256 .bf16) (w : Vec Ideal S1024x2048 .bf16) : k0_pay1 x w = tn x w := by
  funext y
  idx_vars y
  unfold tn
  pointwise [k0_pay1]

theorem add_at (a : Vec Ideal S256x2048 .f32) (x : Vec Ideal S1024x256 .bf16) (w : Vec Ideal S1024x2048 .bf16) (y : S256x2048.Idx) :
    k0_pay2 a x w y = a y + tn x w y := by
  idx_vars y
  unfold tn
  pointwise [k0_pay2]

theorem end_at (a : Vec Ideal S256x2048 .f32) (x : Vec Ideal S1024x256 .bf16) (w : Vec Ideal S1024x2048 .bf16) (y : S256x2048.Idx) :
    k0_pay3 a x w y = a y + tn x w y := by
  idx_vars y
  unfold tn
  pointwise [k0_pay3]

variable (m : (ℓ : Loc nD τ sig) → Buf (Elt Ideal) ℓ)

/-- The sum so far after a point: in the result after the last point, in the scratch before. -/
def sofar (c : Dev nD) (t : Fin cfg0.N) : Grid 256 2048 :=
  if t.val % 4 = 3 then (outsAt0 m c t.val t.isLt).1 else (outsAt0 m c t.val t.isLt).2

/-- The first point sets the scratch to its product. -/
theorem left_first (c : Dev nD) (t : Fin cfg0.N) (h : t.val % 4 = 0) : sofar m c t = tn (iblk m c 0 t) (iblk m c 1 t) := by
  unfold sofar
  rw [if_neg (by omega), outsAt0_A m c t h (by omega) (by omega)]
  dsimp only
  unfold sout0_A_0
  rw [View.read_writes_junk_eq_canon]
  unfold kernelRun0_A
  dsimp only
  rw [View.canon_unit_zero origin2]
  simp only [View.readAt_eq_ld, Memref.IsWhole.read_unread]
  rw [View.ld_unit_zero origin2, View.ld_unit_zero origin2, set_at]

/-- A later point adds its product to the scratch; the last one leaves the sum in the result. -/
theorem left_next (c : Dev nD) (t : Fin cfg0.N) (h : t.val % 4 ≠ 0) (s : Fin cfg0.N) (hs : s.val + 1 = t.val) (y : S256x2048.Idx) :
    sofar m c t y = sofar m c s y + tn (iblk m c 0 t) (iblk m c 1 t) y := by
  unfold sofar
  rw [if_neg (show ¬s.val % 4 = 3 by omega)]
  obtain ⟨s, ls⟩ := s
  obtain rfl : s = t.val - 1 := by dsimp only at hs; omega
  by_cases hl : t.val % 4 = 3
  · rw [if_pos hl, outsAt0_C m c t h (by omega) hl]
    refine Eq.trans ?_ (end_at _ _ _ y)
    dsimp only
    unfold out0_C_2
    rw [View.read_writes_junk_eq_canon]
    unfold kernelRun0_C
    dsimp only
    rw [View.canon_unit_zero origin2]
    simp only [View.readAt_eq_ld, Memref.IsWhole.read_unread]
    rw [(Memref.isWhole_whole _).read_unread]
    rw [View.ld_unit_zero origin2, View.ld_unit_zero origin2, View.ld_unit_zero origin2]
  · rw [if_neg hl, outsAt0_B m c t h (by omega) hl]
    refine Eq.trans ?_ (add_at _ _ _ y)
    dsimp only
    unfold sout0_B_0
    rw [View.read_writes_junk_eq_canon]
    unfold kernelRun0_B
    dsimp only
    rw [View.canon_unit_zero origin2]
    simp only [View.readAt_eq_ld, Memref.IsWhole.read_unread]
    rw [(Memref.isWhole_whole _).read_unread]
    rw [View.ld_unit_zero origin2, View.ld_unit_zero origin2, View.ld_unit_zero origin2]

theorem index : ∀ t : Fin grid0.N, win0_0.index t = ![t.val % 4, 0] ∧ win0_1.index t = ![t.val % 4, 0] ∧ win0_2.index t = ![0, 0] := by
  decide +kernel

/-- The four points run through the tokens. -/
theorem placed (t : Fin cfg0.N) : Placed (win0_0.blk t).view.emb (t.val % 4) 0 ∧ Placed (win0_1.blk t).view.emb (t.val % 4) 0
    ∧ Placed (win0_2.blk t).view.emb 0 0 := by
  refine ⟨⟨?_, ?_⟩, ⟨?_, ?_⟩, ⟨?_, ?_⟩⟩ <;> intro y <;> blk_simp [index t] <;> omega

theorem flush_last : ∀ t : Fin cfg0.N, (cfg0.win 2).flush t = true → t.val % 4 = 3 := by decide +kernel

/-- The array after the run: the weights' gradient. -/
theorem arr (c : Dev nD) : (dats m 0 c).arrAt 2 cfg0.N
    = tn (V m c (Pipeline.arrRef spec0 0)) (V m c (Pipeline.arrRef spec0 1)) := by
  refine (dats m 0 c).arrAt_eq_of_covers 2 _ (by decide +kernel) fun t hf y => ?_
  have hl := flush_last t hf
  have L := tn_last (e := (win0_2.blk t).view.emb) rfl (sofar m c) (left_first m c) (left_next m c) t (by omega)
    (fun u _ => (placed u).1) (fun u _ => (placed u).2.1) (placed t).2.2 y
  unfold sofar at L
  rw [if_pos hl] at L
  rw [after0_2]
  exact L

end Cert.Kernel13Ideal.Mm

end
-- ==== Proof.RefLinear.lean ====
/- The references of the attention's projections and of their gradients, as products. -/
module

public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference11Ideal.Read
public import proofs.«01_k».proof.Proof.Gen.Reference12Ideal.Read
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.Gen.Reference19Ideal.Read
public import proofs.«01_k».proof.Proof.Linear

@[expose] public section

set_option maxRecDepth 16384

noncomputable section

namespace Cert.Ref

open Idealize.ShloMosaic Idealize.ShloMosaic.TcCoe Idealize.ShloMosaic.Tactic Idealize.SL.Sem Cert.Mm
open scoped BigOperators

/-- The product with the factors of every term in the other order. -/
theorem tn_swap {a b k : ℕ} (x : Grid k a) (w : Grid k b) (r : Fin a) (s : Fin b) :
    dotted (fun q => w (ix2 q s)) (fun q => x (ix2 q r)) = tn x w (ix2 r s) :=
  Finset.sum_congr rfl fun _ _ => mul_comm _ _

theorem out_dx (z w) : Reference8Ideal.Read.val_main_v4 (F := Ideal) z w = nt z w := by
  funext y
  idx_vars y
  unfold nt
  pointwise [Reference8Ideal.Read.val_main_v4, Reference8Ideal.Read.val_main_v3, Reference8Ideal.Read.val_main_v1,
    Reference8Ideal.Read.val_main_v0]

theorem out_dw (x z) : Reference9Ideal.Read.val_main_v6 (F := Ideal) x z = tn x z := by
  funext y
  idx_vars y
  refine Eq.trans ?_ (tn_swap _ _ _ _)
  pointwise [Reference9Ideal.Read.val_main_v6, Reference9Ideal.Read.val_main_v5, Reference9Ideal.Read.val_main_v4,
    Reference9Ideal.Read.val_main_v3, Reference9Ideal.Read.val_main_v1, Reference9Ideal.Read.val_main_v0]

theorem uq_dx (z w) : Reference10Ideal.Read.val_main_v4 (F := Ideal) z w = nt z w := by
  funext y
  idx_vars y
  unfold nt
  pointwise [Reference10Ideal.Read.val_main_v4, Reference10Ideal.Read.val_main_v3, Reference10Ideal.Read.val_main_v1,
    Reference10Ideal.Read.val_main_v0]

theorem uq_dw (x z) : Reference11Ideal.Read.val_main_v5 (F := Ideal) x z = tn x z := by
  funext y
  idx_vars y
  refine Eq.trans ?_ (tn_swap _ _ _ _)
  pointwise [Reference11Ideal.Read.val_main_v5, Reference11Ideal.Read.val_main_v4, Reference11Ideal.Read.val_main_v3,
    Reference11Ideal.Read.val_main_v1, Reference11Ideal.Read.val_main_v0]

theorem ukv_dx (z w) : Reference12Ideal.Read.val_main_v4 (F := Ideal) z w = nt z w := by
  funext y
  idx_vars y
  unfold nt
  pointwise [Reference12Ideal.Read.val_main_v4, Reference12Ideal.Read.val_main_v3, Reference12Ideal.Read.val_main_v1,
    Reference12Ideal.Read.val_main_v0]

theorem ukv_dw (x z) : Reference13Ideal.Read.val_main_v6 (F := Ideal) x z = tn x z := by
  funext y
  idx_vars y
  refine Eq.trans ?_ (tn_swap _ _ _ _)
  pointwise [Reference13Ideal.Read.val_main_v6, Reference13Ideal.Read.val_main_v5, Reference13Ideal.Read.val_main_v4,
    Reference13Ideal.Read.val_main_v3, Reference13Ideal.Read.val_main_v1, Reference13Ideal.Read.val_main_v0]

theorem in_dx (z w) : Reference14Ideal.Read.val_main_v4 (F := Ideal) z w = nt z w := by
  funext y
  idx_vars y
  unfold nt
  pointwise [Reference14Ideal.Read.val_main_v4, Reference14Ideal.Read.val_main_v3, Reference14Ideal.Read.val_main_v1,
    Reference14Ideal.Read.val_main_v0]

theorem in_dw (x z) : Reference15Ideal.Read.val_main_v5 (F := Ideal) x z = tn x z := by
  funext y
  idx_vars y
  refine Eq.trans ?_ (tn_swap _ _ _ _)
  pointwise [Reference15Ideal.Read.val_main_v5, Reference15Ideal.Read.val_main_v4, Reference15Ideal.Read.val_main_v3,
    Reference15Ideal.Read.val_main_v1, Reference15Ideal.Read.val_main_v0]

theorem in_layer (x w) : Reference16Ideal.Read.val_main_v2 (F := Ideal) x w = nn x w := by
  funext y
  idx_vars y
  unfold nn
  pointwise [Reference16Ideal.Read.val_main_v2, Reference16Ideal.Read.val_main_v1, Reference16Ideal.Read.val_main_v0]

theorem uq (x w) : Reference17Ideal.Read.val_main_v2 (F := Ideal) x w = nn x w := by
  funext y
  idx_vars y
  unfold nn
  pointwise [Reference17Ideal.Read.val_main_v2, Reference17Ideal.Read.val_main_v1, Reference17Ideal.Read.val_main_v0]

theorem ukv (x w) : Reference18Ideal.Read.val_main_v3 (F := Ideal) x w = nn x w := by
  funext y
  idx_vars y
  unfold nn
  pointwise [Reference18Ideal.Read.val_main_v3, Reference18Ideal.Read.val_main_v2, Reference18Ideal.Read.val_main_v1,
    Reference18Ideal.Read.val_main_v0]

theorem out (x w) : Reference19Ideal.Read.val_main_v2 (F := Ideal) x w = nn x w := by
  funext y
  idx_vars y
  unfold nn
  pointwise [Reference19Ideal.Read.val_main_v2, Reference19Ideal.Read.val_main_v1, Reference19Ideal.Read.val_main_v0]

end Cert.Ref

end
-- ==== Proof.Projections.lean ====
/- The claims about the calls of the attention's projections: each reference has no semaphore and leaves its arguments as they
   were, and over exact arithmetic each call's result is its reference's. -/
module

public import proofs.«01_k».proof.Defs
public import proofs.«01_k».proof.Proof.MmIn
public import proofs.«01_k».proof.Proof.MmOut
public import proofs.«01_k».proof.Proof.MmUq
public import proofs.«01_k».proof.Proof.MmUkv
public import proofs.«01_k».proof.Proof.RefLinear
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run

@[expose] public section

noncomputable section

namespace Cert.Projections

open Idealize.ShloMosaic Idealize.SL.Sem

theorem outDx_quiet : quiescent_Reference8Ideal (hReference8Ideal := Reference8Ideal.Gen.facts) := fun m ρ _ =>
  (θ_run Reference8Ideal.defs _ _).mono (fun r h => ⟨fun c => (h c).2, sem_eq_zero_of_no_sems (by decide) r.2⟩)
    (Reference8Ideal.Value.run (F := Ideal) m ρ)

/-- The gradient taken back through the output projection. -/
theorem outDx_agree : algebraic_Kernel8Ideal_Reference8Ideal (hKernel8Ideal := Kernel8Ideal.Gen.facts)
    (hReference8Ideal := Reference8Ideal.Gen.facts) := by
  intro m g m' g' _ ha
  refine ⟨_, (θ_run Kernel8Ideal.defs _ _).mono (fun r h c => ⟨(h c).1.trans (Kernel8Ideal.Mm.arr m c), (h c).2⟩)
      (Kernel8Ideal.Value.run_blocks (F := Ideal) m g),
    (θ_run Reference8Ideal.defs _ _).mono (fun r h c => ⟨(h c).1.trans ?_, (h c).2⟩) (Reference8Ideal.Value.run (F := Ideal) m' g')⟩
  rw [Reference8Ideal.Read.val_main_v4_eq, (ha c).1, (ha c).2]
  exact Ref.out_dx _ _

theorem outDw_quiet : quiescent_Reference9Ideal (hReference9Ideal := Reference9Ideal.Gen.facts) := fun m ρ _ =>
  (θ_run Reference9Ideal.defs _ _).mono (fun r h => ⟨fun c => (h c).2, sem_eq_zero_of_no_sems (by decide) r.2⟩)
    (Reference9Ideal.Value.run (F := Ideal) m ρ)

/-- The gradient of the output projection's weights. -/
theorem outDw_agree : algebraic_Kernel9Ideal_Reference9Ideal (hKernel9Ideal := Kernel9Ideal.Gen.facts)
    (hReference9Ideal := Reference9Ideal.Gen.facts) := by
  intro m g m' g' _ ha
  refine ⟨_, (θ_run Kernel9Ideal.defs _ _).mono (fun r h c => ⟨(h c).1.trans (Kernel9Ideal.Mm.arr m c), (h c).2⟩)
      (Kernel9Ideal.Value.run_blocks (F := Ideal) m g),
    (θ_run Reference9Ideal.defs _ _).mono (fun r h c => ⟨(h c).1.trans ?_, (h c).2⟩) (Reference9Ideal.Value.run (F := Ideal) m' g')⟩
  rw [Reference9Ideal.Read.val_main_v6_eq, (ha c).1, (ha c).2]
  exact Ref.out_dw _ _

theorem uqDx_quiet : quiescent_Reference10Ideal (hReference10Ideal := Reference10Ideal.Gen.facts) := fun m ρ _ =>
  (θ_run Reference10Ideal.defs _ _).mono (fun r h => ⟨fun c => (h c).2, sem_eq_zero_of_no_sems (by decide) r.2⟩)
    (Reference10Ideal.Value.run (F := Ideal) m ρ)

/-- The gradient taken back through the queries' second projection. -/
theorem uqDx_agree : algebraic_Kernel10Ideal_Reference10Ideal (hKernel10Ideal := Kernel10Ideal.Gen.facts)
    (hReference10Ideal := Reference10Ideal.Gen.facts) := by
  intro m g m' g' _ ha
  refine ⟨_, (θ_run Kernel10Ideal.defs _ _).mono (fun r h c => ⟨(h c).1.trans (Kernel10Ideal.Mm.arr m c), (h c).2⟩)
      (Kernel10Ideal.Value.run_blocks (F := Ideal) m g),
    (θ_run Reference10Ideal.defs _ _).mono (fun r h c => ⟨(h c).1.trans ?_, (h c).2⟩) (Reference10Ideal.Value.run (F := Ideal) m' g')⟩
  rw [Reference10Ideal.Read.val_main_v4_eq, (ha c).1, (ha c).2]
  exact Ref.uq_dx _ _

theorem uqDw_quiet : quiescent_Reference11Ideal (hReference11Ideal := Reference11Ideal.Gen.facts) := fun m ρ _ =>
  (θ_run Reference11Ideal.defs _ _).mono (fun r h => ⟨fun c => (h c).2, sem_eq_zero_of_no_sems (by decide) r.2⟩)
    (Reference11Ideal.Value.run (F := Ideal) m ρ)

/-- The gradient of the queries' second projection's weights. -/
theorem uqDw_agree : algebraic_Kernel11Ideal_Reference11Ideal (hKernel11Ideal := Kernel11Ideal.Gen.facts)
    (hReference11Ideal := Reference11Ideal.Gen.facts) := by
  intro m g m' g' _ ha
  refine ⟨_, (θ_run Kernel11Ideal.defs _ _).mono (fun r h c => ⟨(h c).1.trans (Kernel11Ideal.Mm.arr m c), (h c).2⟩)
      (Kernel11Ideal.Value.run_blocks (F := Ideal) m g),
    (θ_run Reference11Ideal.defs _ _).mono (fun r h c => ⟨(h c).1.trans ?_, (h c).2⟩) (Reference11Ideal.Value.run (F := Ideal) m' g')⟩
  rw [Reference11Ideal.Read.val_main_v5_eq, (ha c).1, (ha c).2]
  exact Ref.uq_dw _ _

theorem ukvDx_quiet : quiescent_Reference12Ideal (hReference12Ideal := Reference12Ideal.Gen.facts) := fun m ρ _ =>
  (θ_run Reference12Ideal.defs _ _).mono (fun r h => ⟨fun c => (h c).2, sem_eq_zero_of_no_sems (by decide) r.2⟩)
    (Reference12Ideal.Value.run (F := Ideal) m ρ)

/-- The gradient taken back through the keys' and values' second projection. -/
theorem ukvDx_agree : algebraic_Kernel12Ideal_Reference12Ideal (hKernel12Ideal := Kernel12Ideal.Gen.facts)
    (hReference12Ideal := Reference12Ideal.Gen.facts) := by
  intro m g m' g' _ ha
  refine ⟨_, (θ_run Kernel12Ideal.defs _ _).mono (fun r h c => ⟨(h c).1.trans (Kernel12Ideal.Mm.arr m c), (h c).2⟩)
      (Kernel12Ideal.Value.run_blocks (F := Ideal) m g),
    (θ_run Reference12Ideal.defs _ _).mono (fun r h c => ⟨(h c).1.trans ?_, (h c).2⟩) (Reference12Ideal.Value.run (F := Ideal) m' g')⟩
  rw [Reference12Ideal.Read.val_main_v4_eq, (ha c).1, (ha c).2]
  exact Ref.ukv_dx _ _

theorem ukvDw_quiet : quiescent_Reference13Ideal (hReference13Ideal := Reference13Ideal.Gen.facts) := fun m ρ _ =>
  (θ_run Reference13Ideal.defs _ _).mono (fun r h => ⟨fun c => (h c).2, sem_eq_zero_of_no_sems (by decide) r.2⟩)
    (Reference13Ideal.Value.run (F := Ideal) m ρ)

/-- The gradient of the keys' and values' second projection's weights. -/
theorem ukvDw_agree : algebraic_Kernel13Ideal_Reference13Ideal (hKernel13Ideal := Kernel13Ideal.Gen.facts)
    (hReference13Ideal := Reference13Ideal.Gen.facts) := by
  intro m g m' g' _ ha
  refine ⟨_, (θ_run Kernel13Ideal.defs _ _).mono (fun r h c => ⟨(h c).1.trans (Kernel13Ideal.Mm.arr m c), (h c).2⟩)
      (Kernel13Ideal.Value.run_blocks (F := Ideal) m g),
    (θ_run Reference13Ideal.defs _ _).mono (fun r h c => ⟨(h c).1.trans ?_, (h c).2⟩) (Reference13Ideal.Value.run (F := Ideal) m' g')⟩
  rw [Reference13Ideal.Read.val_main_v6_eq, (ha c).1, (ha c).2]
  exact Ref.ukv_dw _ _

theorem inDx_quiet : quiescent_Reference14Ideal (hReference14Ideal := Reference14Ideal.Gen.facts) := fun m ρ _ =>
  (θ_run Reference14Ideal.defs _ _).mono (fun r h => ⟨fun c => (h c).2, sem_eq_zero_of_no_sems (by decide) r.2⟩)
    (Reference14Ideal.Value.run (F := Ideal) m ρ)

/-- The gradient taken back through the input projection. -/
theorem inDx_agree : algebraic_Kernel14Ideal_Reference14Ideal (hKernel14Ideal := Kernel14Ideal.Gen.facts)
    (hReference14Ideal := Reference14Ideal.Gen.facts) := by
  intro m g m' g' _ ha
  refine ⟨_, (θ_run Kernel14Ideal.defs _ _).mono (fun r h c => ⟨(h c).1.trans (Kernel14Ideal.Mm.arr m c), (h c).2⟩)
      (Kernel14Ideal.Value.run_blocks (F := Ideal) m g),
    (θ_run Reference14Ideal.defs _ _).mono (fun r h c => ⟨(h c).1.trans ?_, (h c).2⟩) (Reference14Ideal.Value.run (F := Ideal) m' g')⟩
  rw [Reference14Ideal.Read.val_main_v4_eq, (ha c).1, (ha c).2]
  exact Ref.in_dx _ _

theorem inDw_quiet : quiescent_Reference15Ideal (hReference15Ideal := Reference15Ideal.Gen.facts) := fun m ρ _ =>
  (θ_run Reference15Ideal.defs _ _).mono (fun r h => ⟨fun c => (h c).2, sem_eq_zero_of_no_sems (by decide) r.2⟩)
    (Reference15Ideal.Value.run (F := Ideal) m ρ)

/-- The gradient of the input projection's weights. -/
theorem inDw_agree : algebraic_Kernel15Ideal_Reference15Ideal (hKernel15Ideal := Kernel15Ideal.Gen.facts)
    (hReference15Ideal := Reference15Ideal.Gen.facts) := by
  intro m g m' g' _ ha
  refine ⟨_, (θ_run Kernel15Ideal.defs _ _).mono (fun r h c => ⟨(h c).1.trans (Kernel15Ideal.Mm.arr m c), (h c).2⟩)
      (Kernel15Ideal.Value.run_blocks (F := Ideal) m g),
    (θ_run Reference15Ideal.defs _ _).mono (fun r h c => ⟨(h c).1.trans ?_, (h c).2⟩) (Reference15Ideal.Value.run (F := Ideal) m' g')⟩
  rw [Reference15Ideal.Read.val_main_v5_eq, (ha c).1, (ha c).2]
  exact Ref.in_dw _ _

theorem in_quiet : quiescent_Reference16Ideal (hReference16Ideal := Reference16Ideal.Gen.facts) := fun m ρ _ =>
  (θ_run Reference16Ideal.defs _ _).mono (fun r h => ⟨fun c => (h c).2, sem_eq_zero_of_no_sems (by decide) r.2⟩)
    (Reference16Ideal.Value.run (F := Ideal) m ρ)

/-- The input projection. -/
theorem in_agree : algebraic_Kernel16Ideal_Reference16Ideal (hKernel16Ideal := Kernel16Ideal.Gen.facts)
    (hReference16Ideal := Reference16Ideal.Gen.facts) := by
  intro m g m' g' _ ha
  refine ⟨_, (θ_run Kernel16Ideal.defs _ _).mono (fun r h c => ⟨(h c).1.trans (Kernel16Ideal.Mm.arr m c), (h c).2⟩)
      (Kernel16Ideal.Value.run_blocks (F := Ideal) m g),
    (θ_run Reference16Ideal.defs _ _).mono (fun r h c => ⟨(h c).1.trans ?_, (h c).2⟩) (Reference16Ideal.Value.run (F := Ideal) m' g')⟩
  rw [Reference16Ideal.Read.val_main_v2_eq, (ha c).1, (ha c).2]
  exact Ref.in_layer _ _

theorem uq_quiet : quiescent_Reference17Ideal (hReference17Ideal := Reference17Ideal.Gen.facts) := fun m ρ _ =>
  (θ_run Reference17Ideal.defs _ _).mono (fun r h => ⟨fun c => (h c).2, sem_eq_zero_of_no_sems (by decide) r.2⟩)
    (Reference17Ideal.Value.run (F := Ideal) m ρ)

/-- The queries' second projection. -/
theorem uq_agree : algebraic_Kernel17Ideal_Reference17Ideal (hKernel17Ideal := Kernel17Ideal.Gen.facts)
    (hReference17Ideal := Reference17Ideal.Gen.facts) := by
  intro m g m' g' _ ha
  refine ⟨_, (θ_run Kernel17Ideal.defs _ _).mono (fun r h c => ⟨(h c).1.trans (Kernel17Ideal.Mm.arr m c), (h c).2⟩)
      (Kernel17Ideal.Value.run_blocks (F := Ideal) m g),
    (θ_run Reference17Ideal.defs _ _).mono (fun r h c => ⟨(h c).1.trans ?_, (h c).2⟩) (Reference17Ideal.Value.run (F := Ideal) m' g')⟩
  rw [Reference17Ideal.Read.val_main_v2_eq, (ha c).1, (ha c).2]
  exact Ref.uq _ _

theorem ukv_quiet : quiescent_Reference18Ideal (hReference18Ideal := Reference18Ideal.Gen.facts) := fun m ρ _ =>
  (θ_run Reference18Ideal.defs _ _).mono (fun r h => ⟨fun c => (h c).2, sem_eq_zero_of_no_sems (by decide) r.2⟩)
    (Reference18Ideal.Value.run (F := Ideal) m ρ)

/-- The keys' and values' second projection. -/
theorem ukv_agree : algebraic_Kernel18Ideal_Reference18Ideal (hKernel18Ideal := Kernel18Ideal.Gen.facts)
    (hReference18Ideal := Reference18Ideal.Gen.facts) := by
  intro m g m' g' _ ha
  refine ⟨_, (θ_run Kernel18Ideal.defs _ _).mono (fun r h c => ⟨(h c).1.trans (Kernel18Ideal.Mm.arr m c), (h c).2⟩)
      (Kernel18Ideal.Value.run_blocks (F := Ideal) m g),
    (θ_run Reference18Ideal.defs _ _).mono (fun r h c => ⟨(h c).1.trans ?_, (h c).2⟩) (Reference18Ideal.Value.run (F := Ideal) m' g')⟩
  rw [Reference18Ideal.Read.val_main_v3_eq, (ha c).1, (ha c).2]
  exact Ref.ukv _ _

theorem out_quiet : quiescent_Reference19Ideal (hReference19Ideal := Reference19Ideal.Gen.facts) := fun m ρ _ =>
  (θ_run Reference19Ideal.defs _ _).mono (fun r h => ⟨fun c => (h c).2, sem_eq_zero_of_no_sems (by decide) r.2⟩)
    (Reference19Ideal.Value.run (F := Ideal) m ρ)

/-- The output projection. -/
theorem out_agree : algebraic_Kernel19Ideal_Reference19Ideal (hKernel19Ideal := Kernel19Ideal.Gen.facts)
    (hReference19Ideal := Reference19Ideal.Gen.facts) := by
  intro m g m' g' _ ha
  refine ⟨_, (θ_run Kernel19Ideal.defs _ _).mono (fun r h c => ⟨(h c).1.trans (Kernel19Ideal.Mm.arr m c), (h c).2⟩)
      (Kernel19Ideal.Value.run_blocks (F := Ideal) m g),
    (θ_run Reference19Ideal.defs _ _).mono (fun r h c => ⟨(h c).1.trans ?_, (h c).2⟩) (Reference19Ideal.Value.run (F := Ideal) m' g')⟩
  rw [Reference19Ideal.Read.val_main_v2_eq, (ha c).1, (ha c).2]
  exact Ref.out _ _

end Cert.Projections

end
-- ==== Proof.lean ====
/- The proof of the certificate's claims: the runs of the kernel (as printed and idealised) and of the reference, and the
   equality of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Pre_finite20
public import proofs.«01_k».proof.Proof.AttnKernel
public import proofs.«01_k».proof.Proof.AttnValue
public import proofs.«01_k».proof.Proof.Fwd
public import proofs.«01_k».proof.Proof.Products
public import proofs.«01_k».proof.Proof.Projections
public import Idealize.ShloMosaic.Adequacy
public import Idealize.ShloMosaic.Init

@[expose] public section

noncomputable section

namespace Cert.Proof

open Idealize.ShloMosaic Idealize.SL.Sem Cert.Kernel

/-- The reference has no semaphore, and its generated run leaves its arguments as they were. -/
theorem reference_quiet : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The kernel's gradients, over exact arithmetic, are the reference's. -/
theorem gradients_agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => Cert.KernelIdeal.Attn.gradQ m c, fun c => Cert.KernelIdeal.Attn.gradKV m c, fun c => Cert.KernelIdeal.Attn.gradKr m c,
    Cert.KernelIdeal.Attn.run_values m g, (θ_run Cert.ReferenceIdeal.defs _ _).mono (fun r h c => ?_)
      (Cert.ReferenceIdeal.Value.run (F := Ideal) m' g')⟩
  obtain ⟨hq, hkv, hkr, hargs⟩ := h c
  obtain ⟨e0, e1, e2, e3, e4⟩ := ha c
  have hA := Cert.KernelIdeal.Attn.args_finite m c (hp c)
  refine ⟨hq.trans ?_, hkv.trans ?_, hkr.trans ?_, hargs⟩
  · rw [Cert.ReferenceIdeal.Read.val_main_v94_eq, e0, e1, e2, e3, e4]
    exact Cert.Attn.q_agree _ _ _ _ _ m c rfl hA
  · rw [Cert.ReferenceIdeal.Read.val_main_v95_eq, e0, e1, e2, e3, e4]
    exact Cert.Attn.kv_agree _ _ _ _ _ m c rfl hA
  · rw [Cert.ReferenceIdeal.Read.val_main_v88_eq, e0, e1, e2, e3, e4]
    exact Cert.Attn.kr_agree _ _ _ _ _ m c rfl hA

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Pre_finite.Gen.facts, Cert.Pre_finite20.Gen.facts,
  fun m ρ _ => Cert.Kernel.Attn.quiet (F := Bits) m ρ, fun m ρ _ => Cert.KernelIdeal.Attn.quiet (F := Ideal) m ρ,
  fun m ρ _ => Cert.KernelIdeal.Attn.quiet (F := Ideal) m ρ, reference_quiet, fun m ρ _ => reference_quiet m ρ trivial,
  fun m ρ _ => Cert.Kernel2.Gen.frame m ρ, fun m ρ _ => Cert.Kernel2Ideal.Gen.frame m ρ, Cert.Products.downDw_quiet,
  fun m ρ _ => Cert.Kernel3.Gen.frame m ρ, fun m ρ _ => Cert.Kernel3Ideal.Gen.frame m ρ, Cert.Products.downDx_quiet,
  fun m ρ _ => Cert.Kernel4.Gen.frame m ρ, fun m ρ _ => Cert.Kernel4Ideal.Gen.frame m ρ, Cert.Products.upDx_quiet,
  fun m ρ _ => Cert.Kernel5.Gen.frame m ρ, fun m ρ _ => Cert.Kernel5Ideal.Gen.frame m ρ, Cert.Products.upDw_quiet,
  fun m ρ _ => Cert.Kernel6.Gen.frame m ρ, fun m ρ _ => Cert.Kernel6Ideal.Gen.frame m ρ, Cert.Products.up_quiet,
  fun m ρ _ => Cert.Kernel7.Gen.frame m ρ, fun m ρ _ => Cert.Kernel7Ideal.Gen.frame m ρ, Cert.Products.down_quiet,
  fun m ρ _ => Cert.Kernel8.Gen.frame m ρ, fun m ρ _ => Cert.Kernel8Ideal.Gen.frame m ρ, Cert.Projections.outDx_quiet,
  fun m ρ _ => Cert.Kernel9.Gen.frame m ρ, fun m ρ _ => Cert.Kernel9Ideal.Gen.frame m ρ, Cert.Projections.outDw_quiet,
  fun m ρ _ => Cert.Kernel10.Gen.frame m ρ, fun m ρ _ => Cert.Kernel10Ideal.Gen.frame m ρ, Cert.Projections.uqDx_quiet,
  fun m ρ _ => Cert.Kernel11.Gen.frame m ρ, fun m ρ _ => Cert.Kernel11Ideal.Gen.frame m ρ, Cert.Projections.uqDw_quiet,
  fun m ρ _ => Cert.Kernel12.Gen.frame m ρ, fun m ρ _ => Cert.Kernel12Ideal.Gen.frame m ρ, Cert.Projections.ukvDx_quiet,
  fun m ρ _ => Cert.Kernel13.Gen.frame m ρ, fun m ρ _ => Cert.Kernel13Ideal.Gen.frame m ρ, Cert.Projections.ukvDw_quiet,
  fun m ρ _ => Cert.Kernel14.Gen.frame m ρ, fun m ρ _ => Cert.Kernel14Ideal.Gen.frame m ρ, Cert.Projections.inDx_quiet,
  fun m ρ _ => Cert.Kernel15.Gen.frame m ρ, fun m ρ _ => Cert.Kernel15Ideal.Gen.frame m ρ, Cert.Projections.inDw_quiet,
  fun m ρ _ => Cert.Kernel16.Gen.frame m ρ, fun m ρ _ => Cert.Kernel16Ideal.Gen.frame m ρ, Cert.Projections.in_quiet,
  fun m ρ _ => Cert.Kernel17.Gen.frame m ρ, fun m ρ _ => Cert.Kernel17Ideal.Gen.frame m ρ, Cert.Projections.uq_quiet,
  fun m ρ _ => Cert.Kernel18.Gen.frame m ρ, fun m ρ _ => Cert.Kernel18Ideal.Gen.frame m ρ, Cert.Projections.ukv_quiet,
  fun m ρ _ => Cert.Kernel19.Gen.frame m ρ, fun m ρ _ => Cert.Kernel19Ideal.Gen.frame m ρ, Cert.Projections.out_quiet,
  fun m ρ _ => Cert.Kernel20.Gen.frame m ρ, fun m ρ _ => Cert.Kernel20Ideal.Gen.frame m ρ, fun m ρ _ => Cert.Kernel20Ideal.Gen.frame m ρ,
  Cert.Forward.reference_quiet, fun m ρ _ => Cert.Forward.reference_quiet m ρ trivial,
  IdealRules.named_const.statement Cert.KernelIdeal.κ "mask" .f32 0xF149F2CA#32 ⊥ rfl, gradients_agree,
  trivial, Cert.Products.downDw_agree, trivial, Cert.Products.downDx_agree, trivial, Cert.Products.upDx_agree,
  trivial, Cert.Products.upDw_agree, trivial, Cert.Products.up_agree, trivial, Cert.Products.down_agree,
  trivial, Cert.Projections.outDx_agree, trivial, Cert.Projections.outDw_agree, trivial, Cert.Projections.uqDx_agree,
  trivial, Cert.Projections.uqDw_agree, trivial, Cert.Projections.ukvDx_agree, trivial, Cert.Projections.ukvDw_agree,
  trivial, Cert.Projections.inDx_agree, trivial, Cert.Projections.inDw_agree, trivial, Cert.Projections.in_agree,
  trivial, Cert.Projections.uq_agree, trivial, Cert.Projections.ukv_agree, trivial, Cert.Projections.out_agree,
  IdealRules.named_const.statement Cert.Kernel20Ideal.κ "mask" .f32 0xF149F2CA#32 ⊥ rfl, Cert.Forward.results_agree⟩

end Cert.Proof

end
